-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S25165824 : Shape := ⟨1, ![25165824]⟩
abbrev S32x12672 : Shape := ⟨2, ![32, 12672]⟩
abbrev S32768 : Shape := ⟨1, ![32768]⟩
abbrev S4224 : Shape := ⟨1, ![4224]⟩
abbrev S_ : Shape := ⟨0, ![]⟩
abbrev S16 : Shape := ⟨1, ![16]⟩
abbrev S1x4224 : Shape := ⟨2, ![1, 4224]⟩
abbrev S32x3x4 : Shape := ⟨3, ![32, 3, 4]⟩
abbrev S1x3x512x512 : Shape := ⟨4, ![1, 3, 512, 512]⟩
abbrev S1x3x4 : Shape := ⟨3, ![1, 3, 4]⟩
abbrev S1x3 : Shape := ⟨2, ![1, 3]⟩
abbrev S1x3x1 : Shape := ⟨3, ![1, 3, 1]⟩
abbrev S32x792x16 : Shape := ⟨3, ![32, 792, 16]⟩
abbrev S32 : Shape := ⟨1, ![32]⟩
abbrev S32x3 : Shape := ⟨2, ![32, 3]⟩
abbrev S32x792 : Shape := ⟨2, ![32, 792]⟩
abbrev S32x257 : Shape := ⟨2, ![32, 257]⟩
abbrev S32x255 : Shape := ⟨2, ![32, 255]⟩
abbrev S32x1 : Shape := ⟨2, ![32, 1]⟩
abbrev S32x256 : Shape := ⟨2, ![32, 256]⟩
abbrev S32x1x1 : Shape := ⟨3, ![32, 1, 1]⟩

abbrev nBuf : Table → Nat
  | .hbm => 11
  | .local .tc .vmem => 12
  | .local .scVector .vmem => 5
  | _ => 0

abbrev bufTy : (tb : Table) → Fin (nBuf tb) → BufTy
  | .hbm, ⟨0, _⟩ => ⟨S32x3x512x512, .f32⟩
  | .hbm, ⟨1, _⟩ => ⟨S25165824, .f32⟩
  | .hbm, ⟨2, _⟩ => ⟨S32x12672, .f32⟩
  | .hbm, ⟨3, _⟩ => ⟨S32x3x4, .f32⟩
  | .hbm, ⟨4, _⟩ => ⟨S32x792x16, .f32⟩
  | .hbm, ⟨5, _⟩ => ⟨S32, .f32⟩
  | .hbm, ⟨6, _⟩ => ⟨S32x3, .f32⟩
  | .hbm, ⟨7, _⟩ => ⟨S32x3, .f32⟩
  | .hbm, ⟨8, _⟩ => ⟨S32x3, .f32⟩
  | .hbm, ⟨9, _⟩ => ⟨S32x3, .f32⟩
  | .hbm, ⟨10, _⟩ => ⟨S32x3, .f32⟩
  | .local .tc .vmem, ⟨0, _⟩ => ⟨S1x3x512x512, .f32⟩
  | .local .tc .vmem, ⟨1, _⟩ => ⟨S1x3x512x512, .f32⟩
  | .local .tc .vmem, ⟨2, _⟩ => ⟨S1x3x4, .f32⟩
  | .local .tc .vmem, ⟨3, _⟩ => ⟨S1x3x4, .f32⟩
  | .local .tc .vmem, ⟨4, _⟩ => ⟨S32x792x16, .f32⟩
  | .local .tc .vmem, ⟨5, _⟩ => ⟨S32x3x4, .f32⟩
  | .local .tc .vmem, ⟨6, _⟩ => ⟨S32, .f32⟩
  | .local .tc .vmem, ⟨7, _⟩ => ⟨S32x3, .f32⟩
  | .local .tc .vmem, ⟨8, _⟩ => ⟨S32x3, .f32⟩
  | .local .tc .vmem, ⟨9, _⟩ => ⟨S32x3, .f32⟩
  | .local .tc .vmem, ⟨10, _⟩ => ⟨S32x3, .f32⟩
  | .local .tc .vmem, ⟨11, _⟩ => ⟨S32x3, .f32⟩
  | .local .scVector .vmem, ⟨0, _⟩ => ⟨S32768, .f32⟩
  | .local .scVector .vmem, ⟨1, _⟩ => ⟨S32768, .f32⟩
  | .local .scVector .vmem, ⟨2, _⟩ => ⟨S4224, .f32⟩
  | .local .scVector .vmem, ⟨3, _⟩ => ⟨S4224, .f32⟩
  | .local .scVector .vmem, ⟨4, _⟩ => ⟨S4224, .f32⟩
  | _, _ => ⟨S32x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev main_v4_2 : Ref sig .tc := ⟨.hbm, 7, rfl⟩
abbrev main_v4_3 : Ref sig .tc := ⟨.hbm, 8, rfl⟩
abbrev main_v4_4 : Ref sig .tc := ⟨.hbm, 9, rfl⟩
abbrev main_v4_5 : Ref sig .tc := ⟨.hbm, 10, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c264_i32 : BitVec 32 := 264#32
  let v5 : BitVec 32 := Scalar.addi c0_i32_1 c264_i32
  let c1_i32 : BitVec 32 := 1#32
  ⟨c0_i32_1, v5, c1_i32⟩
def k0_off1 (k0_t1 : Fin k0_t1_loop.trips) : Fin 1 → Nat :=
  let c0_i32_1 : BitVec 32 := 0#32
  let c1_i32 : BitVec 32 := 1#32
  let arg11 : BitVec 32 := Scf.iv c0_i32_1 c1_i32 k0_t1
  let c16_i32 : BitVec 32 := 16#32
  let v19 : BitVec 32 := Scalar.muli arg11 c16_i32
  let v20 : Index := Scalar.indexCast v19
  ![v20.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v6 : BitVec 32 := Scalar.muli v1 c3_i32
  let c262144_i32 : BitVec 32 := 262144#32
  let v7 : BitVec 32 := Scalar.muli v6 c262144_i32
  let v8 : BitVec 32 := Scalar.addi v7 c0_i32_3
  ![v8.toNat]
@[reducible] def k0_t2_loop : Scf.Loop 32 :=
  let c0_i32_7 : BitVec 32 := 0#32
  let c4_i32 : BitVec 32 := 4#32
  let v16 : BitVec 32 := Scalar.addi c0_i32_7 c4_i32
  let c1_i32_8 : BitVec 32 := 1#32
  ⟨c0_i32_7, v16, c1_i32_8⟩
@[reducible] def k0_t3_loop : Scf.Loop 32 :=
  let c0_i32_25 : BitVec 32 := 0#32
  let c128_i32 : BitVec 32 := 128#32
  let v23 : BitVec 32 := Scalar.addi c0_i32_25 c128_i32
  let c1_i32_26 : BitVec 32 := 1#32
  ⟨c0_i32_25, v23, c1_i32_26⟩
def k0_off3 (k0_t3 : Fin k0_t3_loop.trips) (c0_i32_42 : BitVec 32) : Fin 1 → Nat :=
  let c0_i32_25 : BitVec 32 := 0#32
  let c1_i32_26 : BitVec 32 := 1#32
  let arg12 : BitVec 32 := Scf.iv c0_i32_25 c1_i32_26 k0_t3
  let c256_i32 : BitVec 32 := 256#32
  let v37 : BitVec 32 := Scalar.muli arg12 c256_i32
  let v38 : BitVec 32 := Scalar.addi v37 c0_i32_42
  let v39 : Index := Scalar.indexCast v38
  ![v39.toNat]

def k0_chk1 (v102 : IVec S16 32) : Prop :=
  (∀ a x, ((![v102] : Fin 1 → IVec S16 32) a x).toNat < S4224.size a)
theorem k0_idx1_inb : ∀ (v102 : IVec S16 32) (k0_hw1 : k0_chk1 v102), ∀ a x, ((![v102] : Fin 1 → IVec S16 32) a x).toNat < S4224.size a := fun v102 k0_hw1 => k0_hw1

def k0_chk2 (v119 : IVec S16 32) : Prop :=
  (∀ a x, ((![v119] : Fin 1 → IVec S16 32) a x).toNat < S4224.size a)
theorem k0_idx2_inb : ∀ (v119 : IVec S16 32) (k0_hw2 : k0_chk2 v119), ∀ a x, ((![v119] : Fin 1 → IVec S16 32) a x).toNat < S4224.size a := fun v119 k0_hw2 => k0_hw2

def k0_chk3 (v136 : IVec S16 32) : Prop :=
  (∀ a x, ((![v136] : Fin 1 → IVec S16 32) a x).toNat < S4224.size a)
theorem k0_idx3_inb : ∀ (v136 : IVec S16 32) (k0_hw3 : k0_chk3 v136), ∀ a x, ((![v136] : Fin 1 → IVec S16 32) a x).toNat < S4224.size a := fun v136 k0_hw3 => k0_hw3

def k0_chk4 (v153 : IVec S16 32) : Prop :=
  (∀ a x, ((![v153] : Fin 1 → IVec S16 32) a x).toNat < S4224.size a)
theorem k0_idx4_inb : ∀ (v153 : IVec S16 32) (k0_hw4 : k0_chk4 v153), ∀ a x, ((![v153] : Fin 1 → IVec S16 32) a x).toNat < S4224.size a := fun v153 k0_hw4 => k0_hw4

def k0_chk5 (v170 : IVec S16 32) : Prop :=
  (∀ a x, ((![v170] : Fin 1 → IVec S16 32) a x).toNat < S4224.size a)
theorem k0_idx5_inb : ∀ (v170 : IVec S16 32) (k0_hw5 : k0_chk5 v170), ∀ a x, ((![v170] : Fin 1 → IVec S16 32) a x).toNat < S4224.size a := fun v170 k0_hw5 => k0_hw5

def k0_chk6 (v187 : IVec S16 32) : Prop :=
  (∀ a x, ((![v187] : Fin 1 → IVec S16 32) a x).toNat < S4224.size a)
theorem k0_idx6_inb : ∀ (v187 : IVec S16 32) (k0_hw6 : k0_chk6 v187), ∀ a x, ((![v187] : Fin 1 → IVec S16 32) a x).toNat < S4224.size a := fun v187 k0_hw6 => k0_hw6

def k0_chk7 (v204 : IVec S16 32) : Prop :=
  (∀ a x, ((![v204] : Fin 1 → IVec S16 32) a x).toNat < S4224.size a)
theorem k0_idx7_inb : ∀ (v204 : IVec S16 32) (k0_hw7 : k0_chk7 v204), ∀ a x, ((![v204] : Fin 1 → IVec S16 32) a x).toNat < S4224.size a := fun v204 k0_hw7 => k0_hw7

def k0_chk8 (v221 : IVec S16 32) : Prop :=
  (∀ a x, ((![v221] : Fin 1 → IVec S16 32) a x).toNat < S4224.size a)
theorem k0_idx8_inb : ∀ (v221 : IVec S16 32) (k0_hw8 : k0_chk8 v221), ∀ a x, ((![v221] : Fin 1 → IVec S16 32) a x).toNat < S4224.size a := fun v221 k0_hw8 => k0_hw8

def k0_chk9 (v238 : IVec S16 32) : Prop :=
  (∀ a x, ((![v238] : Fin 1 → IVec S16 32) a x).toNat < S4224.size a)
theorem k0_idx9_inb : ∀ (v238 : IVec S16 32) (k0_hw9 : k0_chk9 v238), ∀ a x, ((![v238] : Fin 1 → IVec S16 32) a x).toNat < S4224.size a := fun v238 k0_hw9 => k0_hw9

def k0_chk10 (v255 : IVec S16 32) : Prop :=
  (∀ a x, ((![v255] : Fin 1 → IVec S16 32) a x).toNat < S4224.size a)
theorem k0_idx10_inb : ∀ (v255 : IVec S16 32) (k0_hw10 : k0_chk10 v255), ∀ a x, ((![v255] : Fin 1 → IVec S16 32) a x).toNat < S4224.size a := fun v255 k0_hw10 => k0_hw10

def k0_chk11 (v272 : IVec S16 32) : Prop :=
  (∀ a x, ((![v272] : Fin 1 → IVec S16 32) a x).toNat < S4224.size a)
theorem k0_idx11_inb : ∀ (v272 : IVec S16 32) (k0_hw11 : k0_chk11 v272), ∀ a x, ((![v272] : Fin 1 → IVec S16 32) a x).toNat < S4224.size a := fun v272 k0_hw11 => k0_hw11

def k0_chk12 (v289 : IVec S16 32) : Prop :=
  (∀ a x, ((![v289] : Fin 1 → IVec S16 32) a x).toNat < S4224.size a)
theorem k0_idx12_inb : ∀ (v289 : IVec S16 32) (k0_hw12 : k0_chk12 v289), ∀ a x, ((![v289] : Fin 1 → IVec S16 32) a x).toNat < S4224.size a := fun v289 k0_hw12 => k0_hw12

def k0_chk13 (v306 : IVec S16 32) : Prop :=
  (∀ a x, ((![v306] : Fin 1 → IVec S16 32) a x).toNat < S4224.size a)
theorem k0_idx13_inb : ∀ (v306 : IVec S16 32) (k0_hw13 : k0_chk13 v306), ∀ a x, ((![v306] : Fin 1 → IVec S16 32) a x).toNat < S4224.size a := fun v306 k0_hw13 => k0_hw13

def k0_chk14 (v323 : IVec S16 32) : Prop :=
  (∀ a x, ((![v323] : Fin 1 → IVec S16 32) a x).toNat < S4224.size a)
theorem k0_idx14_inb : ∀ (v323 : IVec S16 32) (k0_hw14 : k0_chk14 v323), ∀ a x, ((![v323] : Fin 1 → IVec S16 32) a x).toNat < S4224.size a := fun v323 k0_hw14 => k0_hw14

def k0_chk15 (v340 : IVec S16 32) : Prop :=
  (∀ a x, ((![v340] : Fin 1 → IVec S16 32) a x).toNat < S4224.size a)
theorem k0_idx15_inb : ∀ (v340 : IVec S16 32) (k0_hw15 : k0_chk15 v340), ∀ a x, ((![v340] : Fin 1 → IVec S16 32) a x).toNat < S4224.size a := fun v340 k0_hw15 => k0_hw15

def k0_chk16 (v357 : IVec S16 32) : Prop :=
  (∀ a x, ((![v357] : Fin 1 → IVec S16 32) a x).toNat < S4224.size a)
theorem k0_idx16_inb : ∀ (v357 : IVec S16 32) (k0_hw16 : k0_chk16 v357), ∀ a x, ((![v357] : Fin 1 → IVec S16 32) a x).toNat < S4224.size a := fun v357 k0_hw16 => k0_hw16
def k0_cond1 (k0_t2 : Fin k0_t2_loop.trips) : BitVec 1 :=
  let c0_i32_21 : BitVec 32 := 0#32
  let c2_i32_20 : BitVec 32 := 2#32
  let c0_i32_7 : BitVec 32 := 0#32
  let c1_i32_8 : BitVec 32 := 1#32
  let arg11 : BitVec 32 := Scf.iv c0_i32_7 c1_i32_8 k0_t2
  let v19 : BitVec 32 := Scalar.muli c2_i32_20 arg11
  let v20 : BitVec 32 := Scalar.addi c0_i32_21 v19
  let c0_i32_28 : BitVec 32 := 0#32
  let v24 : BitVec 32 := Scalar.addi v20 c0_i32_28
  let c2_i32_29 : BitVec 32 := 2#32
  let v25 : BitVec 32 := Scalar.addi v24 c2_i32_29
  let c24_i32 : BitVec 32 := 24#32
  let v26 : BitVec 1 := Scalar.cmpi .slt v25 c24_i32
  let v27 : BitVec 32 := Scalar.extui v26
  let c0_i32_30 : BitVec 32 := 0#32
  let v28 : BitVec 1 := Scalar.cmpi .ne v27 c0_i32_30
  v28

def k0_off4 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_42 : BitVec 32 := 3#32
  let v37 : BitVec 32 := Scalar.muli v1 c3_i32_42
  let c262144_i32_43 : BitVec 32 := 262144#32
  let v38 : BitVec 32 := Scalar.muli v37 c262144_i32_43
  let c0_i32_21 : BitVec 32 := 0#32
  let c2_i32_20 : BitVec 32 := 2#32
  let c0_i32_7 : BitVec 32 := 0#32
  let c1_i32_8 : BitVec 32 := 1#32
  let arg11 : BitVec 32 := Scf.iv c0_i32_7 c1_i32_8 k0_t2
  let v19 : BitVec 32 := Scalar.muli c2_i32_20 arg11
  let v20 : BitVec 32 := Scalar.addi c0_i32_21 v19
  let c0_i32_28 : BitVec 32 := 0#32
  let v24 : BitVec 32 := Scalar.addi v20 c0_i32_28
  let c2_i32_29 : BitVec 32 := 2#32
  let v25 : BitVec 32 := Scalar.addi v24 c2_i32_29
  let c32768_i32_44 : BitVec 32 := 32768#32
  let v39 : BitVec 32 := Scalar.muli v25 c32768_i32_44
  let v40 : BitVec 32 := Scalar.addi v38 v39
  ![v40.toNat]
@[reducible] def k0_t4_loop : Scf.Loop 32 :=
  let c0_i32_34 : BitVec 32 := 0#32
  let c128_i32_35 : BitVec 32 := 128#32
  let v31 : BitVec 32 := Scalar.addi c0_i32_34 c128_i32_35
  let c1_i32_36 : BitVec 32 := 1#32
  ⟨c0_i32_34, v31, c1_i32_36⟩
def k0_off5 (k0_t4 : Fin k0_t4_loop.trips) (c0_i32_42 : BitVec 32) : Fin 1 → Nat :=
  let c0_i32_34 : BitVec 32 := 0#32
  let c1_i32_36 : BitVec 32 := 1#32
  let arg12 : BitVec 32 := Scf.iv c0_i32_34 c1_i32_36 k0_t4
  let c256_i32 : BitVec 32 := 256#32
  let v37 : BitVec 32 := Scalar.muli arg12 c256_i32
  let v38 : BitVec 32 := Scalar.addi v37 c0_i32_42
  let v39 : Index := Scalar.indexCast v38
  ![v39.toNat]

def k0_chk17 (v102 : IVec S16 32) : Prop :=
  (∀ a x, ((![v102] : Fin 1 → IVec S16 32) a x).toNat < S4224.size a)
theorem k0_idx17_inb : ∀ (v102 : IVec S16 32) (k0_hw17 : k0_chk17 v102), ∀ a x, ((![v102] : Fin 1 → IVec S16 32) a x).toNat < S4224.size a := fun v102 k0_hw17 => k0_hw17

def k0_chk18 (v119 : IVec S16 32) : Prop :=
  (∀ a x, ((![v119] : Fin 1 → IVec S16 32) a x).toNat < S4224.size a)
theorem k0_idx18_inb : ∀ (v119 : IVec S16 32) (k0_hw18 : k0_chk18 v119), ∀ a x, ((![v119] : Fin 1 → IVec S16 32) a x).toNat < S4224.size a := fun v119 k0_hw18 => k0_hw18

def k0_chk19 (v136 : IVec S16 32) : Prop :=
  (∀ a x, ((![v136] : Fin 1 → IVec S16 32) a x).toNat < S4224.size a)
theorem k0_idx19_inb : ∀ (v136 : IVec S16 32) (k0_hw19 : k0_chk19 v136), ∀ a x, ((![v136] : Fin 1 → IVec S16 32) a x).toNat < S4224.size a := fun v136 k0_hw19 => k0_hw19

def k0_chk20 (v153 : IVec S16 32) : Prop :=
  (∀ a x, ((![v153] : Fin 1 → IVec S16 32) a x).toNat < S4224.size a)
theorem k0_idx20_inb : ∀ (v153 : IVec S16 32) (k0_hw20 : k0_chk20 v153), ∀ a x, ((![v153] : Fin 1 → IVec S16 32) a x).toNat < S4224.size a := fun v153 k0_hw20 => k0_hw20

def k0_chk21 (v170 : IVec S16 32) : Prop :=
  (∀ a x, ((![v170] : Fin 1 → IVec S16 32) a x).toNat < S4224.size a)
theorem k0_idx21_inb : ∀ (v170 : IVec S16 32) (k0_hw21 : k0_chk21 v170), ∀ a x, ((![v170] : Fin 1 → IVec S16 32) a x).toNat < S4224.size a := fun v170 k0_hw21 => k0_hw21

def k0_chk22 (v187 : IVec S16 32) : Prop :=
  (∀ a x, ((![v187] : Fin 1 → IVec S16 32) a x).toNat < S4224.size a)
theorem k0_idx22_inb : ∀ (v187 : IVec S16 32) (k0_hw22 : k0_chk22 v187), ∀ a x, ((![v187] : Fin 1 → IVec S16 32) a x).toNat < S4224.size a := fun v187 k0_hw22 => k0_hw22

def k0_chk23 (v204 : IVec S16 32) : Prop :=
  (∀ a x, ((![v204] : Fin 1 → IVec S16 32) a x).toNat < S4224.size a)
theorem k0_idx23_inb : ∀ (v204 : IVec S16 32) (k0_hw23 : k0_chk23 v204), ∀ a x, ((![v204] : Fin 1 → IVec S16 32) a x).toNat < S4224.size a := fun v204 k0_hw23 => k0_hw23

def k0_chk24 (v221 : IVec S16 32) : Prop :=
  (∀ a x, ((![v221] : Fin 1 → IVec S16 32) a x).toNat < S4224.size a)
theorem k0_idx24_inb : ∀ (v221 : IVec S16 32) (k0_hw24 : k0_chk24 v221), ∀ a x, ((![v221] : Fin 1 → IVec S16 32) a x).toNat < S4224.size a := fun v221 k0_hw24 => k0_hw24

def k0_chk25 (v238 : IVec S16 32) : Prop :=
  (∀ a x, ((![v238] : Fin 1 → IVec S16 32) a x).toNat < S4224.size a)
theorem k0_idx25_inb : ∀ (v238 : IVec S16 32) (k0_hw25 : k0_chk25 v238), ∀ a x, ((![v238] : Fin 1 → IVec S16 32) a x).toNat < S4224.size a := fun v238 k0_hw25 => k0_hw25

def k0_chk26 (v255 : IVec S16 32) : Prop :=
  (∀ a x, ((![v255] : Fin 1 → IVec S16 32) a x).toNat < S4224.size a)
theorem k0_idx26_inb : ∀ (v255 : IVec S16 32) (k0_hw26 : k0_chk26 v255), ∀ a x, ((![v255] : Fin 1 → IVec S16 32) a x).toNat < S4224.size a := fun v255 k0_hw26 => k0_hw26

def k0_chk27 (v272 : IVec S16 32) : Prop :=
  (∀ a x, ((![v272] : Fin 1 → IVec S16 32) a x).toNat < S4224.size a)
theorem k0_idx27_inb : ∀ (v272 : IVec S16 32) (k0_hw27 : k0_chk27 v272), ∀ a x, ((![v272] : Fin 1 → IVec S16 32) a x).toNat < S4224.size a := fun v272 k0_hw27 => k0_hw27

def k0_chk28 (v289 : IVec S16 32) : Prop :=
  (∀ a x, ((![v289] : Fin 1 → IVec S16 32) a x).toNat < S4224.size a)
theorem k0_idx28_inb : ∀ (v289 : IVec S16 32) (k0_hw28 : k0_chk28 v289), ∀ a x, ((![v289] : Fin 1 → IVec S16 32) a x).toNat < S4224.size a := fun v289 k0_hw28 => k0_hw28

def k0_chk29 (v306 : IVec S16 32) : Prop :=
  (∀ a x, ((![v306] : Fin 1 → IVec S16 32) a x).toNat < S4224.size a)
theorem k0_idx29_inb : ∀ (v306 : IVec S16 32) (k0_hw29 : k0_chk29 v306), ∀ a x, ((![v306] : Fin 1 → IVec S16 32) a x).toNat < S4224.size a := fun v306 k0_hw29 => k0_hw29

def k0_chk30 (v323 : IVec S16 32) : Prop :=
  (∀ a x, ((![v323] : Fin 1 → IVec S16 32) a x).toNat < S4224.size a)
theorem k0_idx30_inb : ∀ (v323 : IVec S16 32) (k0_hw30 : k0_chk30 v323), ∀ a x, ((![v323] : Fin 1 → IVec S16 32) a x).toNat < S4224.size a := fun v323 k0_hw30 => k0_hw30

def k0_chk31 (v340 : IVec S16 32) : Prop :=
  (∀ a x, ((![v340] : Fin 1 → IVec S16 32) a x).toNat < S4224.size a)
theorem k0_idx31_inb : ∀ (v340 : IVec S16 32) (k0_hw31 : k0_chk31 v340), ∀ a x, ((![v340] : Fin 1 → IVec S16 32) a x).toNat < S4224.size a := fun v340 k0_hw31 => k0_hw31

def k0_chk32 (v357 : IVec S16 32) : Prop :=
  (∀ a x, ((![v357] : Fin 1 → IVec S16 32) a x).toNat < S4224.size a)
theorem k0_idx32_inb : ∀ (v357 : IVec S16 32) (k0_hw32 : k0_chk32 v357), ∀ a x, ((![v357] : Fin 1 → IVec S16 32) a x).toNat < S4224.size a := fun v357 k0_hw32 => k0_hw32
def k0_cond2 (k0_t2 : Fin k0_t2_loop.trips) : BitVec 1 :=
  let c0_i32_21 : BitVec 32 := 0#32
  let c2_i32_20 : BitVec 32 := 2#32
  let c0_i32_7 : BitVec 32 := 0#32
  let c1_i32_8 : BitVec 32 := 1#32
  let arg11 : BitVec 32 := Scf.iv c0_i32_7 c1_i32_8 k0_t2
  let v19 : BitVec 32 := Scalar.muli c2_i32_20 arg11
  let v20 : BitVec 32 := Scalar.addi c0_i32_21 v19
  let c1_i32_38 : BitVec 32 := 1#32
  let v32 : BitVec 32 := Scalar.addi v20 c1_i32_38
  let c2_i32_39 : BitVec 32 := 2#32
  let v33 : BitVec 32 := Scalar.addi v32 c2_i32_39
  let c24_i32_40 : BitVec 32 := 24#32
  let v34 : BitVec 1 := Scalar.cmpi .slt v33 c24_i32_40
  let v35 : BitVec 32 := Scalar.extui v34
  let c0_i32_41 : BitVec 32 := 0#32
  let v36 : BitVec 1 := Scalar.cmpi .ne v35 c0_i32_41
  v36

def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_42 : BitVec 32 := 3#32
  let v37 : BitVec 32 := Scalar.muli v1 c3_i32_42
  let c262144_i32_43 : BitVec 32 := 262144#32
  let v38 : BitVec 32 := Scalar.muli v37 c262144_i32_43
  let c0_i32_21 : BitVec 32 := 0#32
  let c2_i32_20 : BitVec 32 := 2#32
  let c0_i32_7 : BitVec 32 := 0#32
  let c1_i32_8 : BitVec 32 := 1#32
  let arg11 : BitVec 32 := Scf.iv c0_i32_7 c1_i32_8 k0_t2
  let v19 : BitVec 32 := Scalar.muli c2_i32_20 arg11
  let v20 : BitVec 32 := Scalar.addi c0_i32_21 v19
  let c1_i32_38 : BitVec 32 := 1#32
  let v32 : BitVec 32 := Scalar.addi v20 c1_i32_38
  let c2_i32_39 : BitVec 32 := 2#32
  let v33 : BitVec 32 := Scalar.addi v32 c2_i32_39
  let c32768_i32_44 : BitVec 32 := 32768#32
  let v39 : BitVec 32 := Scalar.muli v33 c32768_i32_44
  let v40 : BitVec 32 := Scalar.addi v38 v39
  ![v40.toNat]
@[reducible] def k0_t5_loop : Scf.Loop 32 :=
  let c0_i32_11 : BitVec 32 := 0#32
  let c4_i32_12 : BitVec 32 := 4#32
  let v17 : BitVec 32 := Scalar.addi c0_i32_11 c4_i32_12
  let c1_i32_13 : BitVec 32 := 1#32
  ⟨c0_i32_11, v17, c1_i32_13⟩
@[reducible] def k0_t6_loop : Scf.Loop 32 :=
  let c0_i32_24 : BitVec 32 := 0#32
  let c128_i32 : BitVec 32 := 128#32
  let v23 : BitVec 32 := Scalar.addi c0_i32_24 c128_i32
  let c1_i32_25 : BitVec 32 := 1#32
  ⟨c0_i32_24, v23, c1_i32_25⟩
def k0_off7 (k0_t6 : Fin k0_t6_loop.trips) (c0_i32_41 : BitVec 32) : Fin 1 → Nat :=
  let c0_i32_24 : BitVec 32 := 0#32
  let c1_i32_25 : BitVec 32 := 1#32
  let arg12 : BitVec 32 := Scf.iv c0_i32_24 c1_i32_25 k0_t6
  let c256_i32 : BitVec 32 := 256#32
  let v37 : BitVec 32 := Scalar.muli arg12 c256_i32
  let v38 : BitVec 32 := Scalar.addi v37 c0_i32_41
  let v39 : Index := Scalar.indexCast v38
  ![v39.toNat]

def k0_chk33 (v102 : IVec S16 32) : Prop :=
  (∀ a x, ((![v102] : Fin 1 → IVec S16 32) a x).toNat < S4224.size a)
theorem k0_idx33_inb : ∀ (v102 : IVec S16 32) (k0_hw33 : k0_chk33 v102), ∀ a x, ((![v102] : Fin 1 → IVec S16 32) a x).toNat < S4224.size a := fun v102 k0_hw33 => k0_hw33

def k0_chk34 (v119 : IVec S16 32) : Prop :=
  (∀ a x, ((![v119] : Fin 1 → IVec S16 32) a x).toNat < S4224.size a)
theorem k0_idx34_inb : ∀ (v119 : IVec S16 32) (k0_hw34 : k0_chk34 v119), ∀ a x, ((![v119] : Fin 1 → IVec S16 32) a x).toNat < S4224.size a := fun v119 k0_hw34 => k0_hw34

def k0_chk35 (v136 : IVec S16 32) : Prop :=
  (∀ a x, ((![v136] : Fin 1 → IVec S16 32) a x).toNat < S4224.size a)
theorem k0_idx35_inb : ∀ (v136 : IVec S16 32) (k0_hw35 : k0_chk35 v136), ∀ a x, ((![v136] : Fin 1 → IVec S16 32) a x).toNat < S4224.size a := fun v136 k0_hw35 => k0_hw35

def k0_chk36 (v153 : IVec S16 32) : Prop :=
  (∀ a x, ((![v153] : Fin 1 → IVec S16 32) a x).toNat < S4224.size a)
theorem k0_idx36_inb : ∀ (v153 : IVec S16 32) (k0_hw36 : k0_chk36 v153), ∀ a x, ((![v153] : Fin 1 → IVec S16 32) a x).toNat < S4224.size a := fun v153 k0_hw36 => k0_hw36

def k0_chk37 (v170 : IVec S16 32) : Prop :=
  (∀ a x, ((![v170] : Fin 1 → IVec S16 32) a x).toNat < S4224.size a)
theorem k0_idx37_inb : ∀ (v170 : IVec S16 32) (k0_hw37 : k0_chk37 v170), ∀ a x, ((![v170] : Fin 1 → IVec S16 32) a x).toNat < S4224.size a := fun v170 k0_hw37 => k0_hw37

def k0_chk38 (v187 : IVec S16 32) : Prop :=
  (∀ a x, ((![v187] : Fin 1 → IVec S16 32) a x).toNat < S4224.size a)
theorem k0_idx38_inb : ∀ (v187 : IVec S16 32) (k0_hw38 : k0_chk38 v187), ∀ a x, ((![v187] : Fin 1 → IVec S16 32) a x).toNat < S4224.size a := fun v187 k0_hw38 => k0_hw38

def k0_chk39 (v204 : IVec S16 32) : Prop :=
  (∀ a x, ((![v204] : Fin 1 → IVec S16 32) a x).toNat < S4224.size a)
theorem k0_idx39_inb : ∀ (v204 : IVec S16 32) (k0_hw39 : k0_chk39 v204), ∀ a x, ((![v204] : Fin 1 → IVec S16 32) a x).toNat < S4224.size a := fun v204 k0_hw39 => k0_hw39

def k0_chk40 (v221 : IVec S16 32) : Prop :=
  (∀ a x, ((![v221] : Fin 1 → IVec S16 32) a x).toNat < S4224.size a)
theorem k0_idx40_inb : ∀ (v221 : IVec S16 32) (k0_hw40 : k0_chk40 v221), ∀ a x, ((![v221] : Fin 1 → IVec S16 32) a x).toNat < S4224.size a := fun v221 k0_hw40 => k0_hw40

def k0_chk41 (v238 : IVec S16 32) : Prop :=
  (∀ a x, ((![v238] : Fin 1 → IVec S16 32) a x).toNat < S4224.size a)
theorem k0_idx41_inb : ∀ (v238 : IVec S16 32) (k0_hw41 : k0_chk41 v238), ∀ a x, ((![v238] : Fin 1 → IVec S16 32) a x).toNat < S4224.size a := fun v238 k0_hw41 => k0_hw41

def k0_chk42 (v255 : IVec S16 32) : Prop :=
  (∀ a x, ((![v255] : Fin 1 → IVec S16 32) a x).toNat < S4224.size a)
theorem k0_idx42_inb : ∀ (v255 : IVec S16 32) (k0_hw42 : k0_chk42 v255), ∀ a x, ((![v255] : Fin 1 → IVec S16 32) a x).toNat < S4224.size a := fun v255 k0_hw42 => k0_hw42

def k0_chk43 (v272 : IVec S16 32) : Prop :=
  (∀ a x, ((![v272] : Fin 1 → IVec S16 32) a x).toNat < S4224.size a)
theorem k0_idx43_inb : ∀ (v272 : IVec S16 32) (k0_hw43 : k0_chk43 v272), ∀ a x, ((![v272] : Fin 1 → IVec S16 32) a x).toNat < S4224.size a := fun v272 k0_hw43 => k0_hw43

def k0_chk44 (v289 : IVec S16 32) : Prop :=
  (∀ a x, ((![v289] : Fin 1 → IVec S16 32) a x).toNat < S4224.size a)
theorem k0_idx44_inb : ∀ (v289 : IVec S16 32) (k0_hw44 : k0_chk44 v289), ∀ a x, ((![v289] : Fin 1 → IVec S16 32) a x).toNat < S4224.size a := fun v289 k0_hw44 => k0_hw44

def k0_chk45 (v306 : IVec S16 32) : Prop :=
  (∀ a x, ((![v306] : Fin 1 → IVec S16 32) a x).toNat < S4224.size a)
theorem k0_idx45_inb : ∀ (v306 : IVec S16 32) (k0_hw45 : k0_chk45 v306), ∀ a x, ((![v306] : Fin 1 → IVec S16 32) a x).toNat < S4224.size a := fun v306 k0_hw45 => k0_hw45

def k0_chk46 (v323 : IVec S16 32) : Prop :=
  (∀ a x, ((![v323] : Fin 1 → IVec S16 32) a x).toNat < S4224.size a)
theorem k0_idx46_inb : ∀ (v323 : IVec S16 32) (k0_hw46 : k0_chk46 v323), ∀ a x, ((![v323] : Fin 1 → IVec S16 32) a x).toNat < S4224.size a := fun v323 k0_hw46 => k0_hw46

def k0_chk47 (v340 : IVec S16 32) : Prop :=
  (∀ a x, ((![v340] : Fin 1 → IVec S16 32) a x).toNat < S4224.size a)
theorem k0_idx47_inb : ∀ (v340 : IVec S16 32) (k0_hw47 : k0_chk47 v340), ∀ a x, ((![v340] : Fin 1 → IVec S16 32) a x).toNat < S4224.size a := fun v340 k0_hw47 => k0_hw47

def k0_chk48 (v357 : IVec S16 32) : Prop :=
  (∀ a x, ((![v357] : Fin 1 → IVec S16 32) a x).toNat < S4224.size a)
theorem k0_idx48_inb : ∀ (v357 : IVec S16 32) (k0_hw48 : k0_chk48 v357), ∀ a x, ((![v357] : Fin 1 → IVec S16 32) a x).toNat < S4224.size a := fun v357 k0_hw48 => k0_hw48
def k0_cond3 (k0_t5 : Fin k0_t5_loop.trips) : BitVec 1 :=
  let c8_i32 : BitVec 32 := 8#32
  let c2_i32_20 : BitVec 32 := 2#32
  let c0_i32_11 : BitVec 32 := 0#32
  let c1_i32_13 : BitVec 32 := 1#32
  let arg11 : BitVec 32 := Scf.iv c0_i32_11 c1_i32_13 k0_t5
  let v19 : BitVec 32 := Scalar.muli c2_i32_20 arg11
  let v20 : BitVec 32 := Scalar.addi c8_i32 v19
  let c0_i32_27 : BitVec 32 := 0#32
  let v24 : BitVec 32 := Scalar.addi v20 c0_i32_27
  let c2_i32_28 : BitVec 32 := 2#32
  let v25 : BitVec 32 := Scalar.addi v24 c2_i32_28
  let c24_i32 : BitVec 32 := 24#32
  let v26 : BitVec 1 := Scalar.cmpi .slt v25 c24_i32
  let v27 : BitVec 32 := Scalar.extui v26
  let c0_i32_29 : BitVec 32 := 0#32
  let v28 : BitVec 1 := Scalar.cmpi .ne v27 c0_i32_29
  v28

def k0_off8 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_41 : BitVec 32 := 3#32
  let v37 : BitVec 32 := Scalar.muli v1 c3_i32_41
  let c262144_i32_42 : BitVec 32 := 262144#32
  let v38 : BitVec 32 := Scalar.muli v37 c262144_i32_42
  let c8_i32 : BitVec 32 := 8#32
  let c2_i32_20 : BitVec 32 := 2#32
  let c0_i32_11 : BitVec 32 := 0#32
  let c1_i32_13 : BitVec 32 := 1#32
  let arg11 : BitVec 32 := Scf.iv c0_i32_11 c1_i32_13 k0_t5
  let v19 : BitVec 32 := Scalar.muli c2_i32_20 arg11
  let v20 : BitVec 32 := Scalar.addi c8_i32 v19
  let c0_i32_27 : BitVec 32 := 0#32
  let v24 : BitVec 32 := Scalar.addi v20 c0_i32_27
  let c2_i32_28 : BitVec 32 := 2#32
  let v25 : BitVec 32 := Scalar.addi v24 c2_i32_28
  let c32768_i32_43 : BitVec 32 := 32768#32
  let v39 : BitVec 32 := Scalar.muli v25 c32768_i32_43
  let v40 : BitVec 32 := Scalar.addi v38 v39
  ![v40.toNat]
@[reducible] def k0_t7_loop : Scf.Loop 32 :=
  let c0_i32_33 : BitVec 32 := 0#32
  let c128_i32_34 : BitVec 32 := 128#32
  let v31 : BitVec 32 := Scalar.addi c0_i32_33 c128_i32_34
  let c1_i32_35 : BitVec 32 := 1#32
  ⟨c0_i32_33, v31, c1_i32_35⟩
def k0_off9 (k0_t7 : Fin k0_t7_loop.trips) (c0_i32_41 : BitVec 32) : Fin 1 → Nat :=
  let c0_i32_33 : BitVec 32 := 0#32
  let c1_i32_35 : BitVec 32 := 1#32
  let arg12 : BitVec 32 := Scf.iv c0_i32_33 c1_i32_35 k0_t7
  let c256_i32 : BitVec 32 := 256#32
  let v37 : BitVec 32 := Scalar.muli arg12 c256_i32
  let v38 : BitVec 32 := Scalar.addi v37 c0_i32_41
  let v39 : Index := Scalar.indexCast v38
  ![v39.toNat]

def k0_chk49 (v102 : IVec S16 32) : Prop :=
  (∀ a x, ((![v102] : Fin 1 → IVec S16 32) a x).toNat < S4224.size a)
theorem k0_idx49_inb : ∀ (v102 : IVec S16 32) (k0_hw49 : k0_chk49 v102), ∀ a x, ((![v102] : Fin 1 → IVec S16 32) a x).toNat < S4224.size a := fun v102 k0_hw49 => k0_hw49

def k0_chk50 (v119 : IVec S16 32) : Prop :=
  (∀ a x, ((![v119] : Fin 1 → IVec S16 32) a x).toNat < S4224.size a)
theorem k0_idx50_inb : ∀ (v119 : IVec S16 32) (k0_hw50 : k0_chk50 v119), ∀ a x, ((![v119] : Fin 1 → IVec S16 32) a x).toNat < S4224.size a := fun v119 k0_hw50 => k0_hw50

def k0_chk51 (v136 : IVec S16 32) : Prop :=
  (∀ a x, ((![v136] : Fin 1 → IVec S16 32) a x).toNat < S4224.size a)
theorem k0_idx51_inb : ∀ (v136 : IVec S16 32) (k0_hw51 : k0_chk51 v136), ∀ a x, ((![v136] : Fin 1 → IVec S16 32) a x).toNat < S4224.size a := fun v136 k0_hw51 => k0_hw51

def k0_chk52 (v153 : IVec S16 32) : Prop :=
  (∀ a x, ((![v153] : Fin 1 → IVec S16 32) a x).toNat < S4224.size a)
theorem k0_idx52_inb : ∀ (v153 : IVec S16 32) (k0_hw52 : k0_chk52 v153), ∀ a x, ((![v153] : Fin 1 → IVec S16 32) a x).toNat < S4224.size a := fun v153 k0_hw52 => k0_hw52

def k0_chk53 (v170 : IVec S16 32) : Prop :=
  (∀ a x, ((![v170] : Fin 1 → IVec S16 32) a x).toNat < S4224.size a)
theorem k0_idx53_inb : ∀ (v170 : IVec S16 32) (k0_hw53 : k0_chk53 v170), ∀ a x, ((![v170] : Fin 1 → IVec S16 32) a x).toNat < S4224.size a := fun v170 k0_hw53 => k0_hw53

def k0_chk54 (v187 : IVec S16 32) : Prop :=
  (∀ a x, ((![v187] : Fin 1 → IVec S16 32) a x).toNat < S4224.size a)
theorem k0_idx54_inb : ∀ (v187 : IVec S16 32) (k0_hw54 : k0_chk54 v187), ∀ a x, ((![v187] : Fin 1 → IVec S16 32) a x).toNat < S4224.size a := fun v187 k0_hw54 => k0_hw54

def k0_chk55 (v204 : IVec S16 32) : Prop :=
  (∀ a x, ((![v204] : Fin 1 → IVec S16 32) a x).toNat < S4224.size a)
theorem k0_idx55_inb : ∀ (v204 : IVec S16 32) (k0_hw55 : k0_chk55 v204), ∀ a x, ((![v204] : Fin 1 → IVec S16 32) a x).toNat < S4224.size a := fun v204 k0_hw55 => k0_hw55

def k0_chk56 (v221 : IVec S16 32) : Prop :=
  (∀ a x, ((![v221] : Fin 1 → IVec S16 32) a x).toNat < S4224.size a)
theorem k0_idx56_inb : ∀ (v221 : IVec S16 32) (k0_hw56 : k0_chk56 v221), ∀ a x, ((![v221] : Fin 1 → IVec S16 32) a x).toNat < S4224.size a := fun v221 k0_hw56 => k0_hw56

def k0_chk57 (v238 : IVec S16 32) : Prop :=
  (∀ a x, ((![v238] : Fin 1 → IVec S16 32) a x).toNat < S4224.size a)
theorem k0_idx57_inb : ∀ (v238 : IVec S16 32) (k0_hw57 : k0_chk57 v238), ∀ a x, ((![v238] : Fin 1 → IVec S16 32) a x).toNat < S4224.size a := fun v238 k0_hw57 => k0_hw57

def k0_chk58 (v255 : IVec S16 32) : Prop :=
  (∀ a x, ((![v255] : Fin 1 → IVec S16 32) a x).toNat < S4224.size a)
theorem k0_idx58_inb : ∀ (v255 : IVec S16 32) (k0_hw58 : k0_chk58 v255), ∀ a x, ((![v255] : Fin 1 → IVec S16 32) a x).toNat < S4224.size a := fun v255 k0_hw58 => k0_hw58

def k0_chk59 (v272 : IVec S16 32) : Prop :=
  (∀ a x, ((![v272] : Fin 1 → IVec S16 32) a x).toNat < S4224.size a)
theorem k0_idx59_inb : ∀ (v272 : IVec S16 32) (k0_hw59 : k0_chk59 v272), ∀ a x, ((![v272] : Fin 1 → IVec S16 32) a x).toNat < S4224.size a := fun v272 k0_hw59 => k0_hw59

def k0_chk60 (v289 : IVec S16 32) : Prop :=
  (∀ a x, ((![v289] : Fin 1 → IVec S16 32) a x).toNat < S4224.size a)
theorem k0_idx60_inb : ∀ (v289 : IVec S16 32) (k0_hw60 : k0_chk60 v289), ∀ a x, ((![v289] : Fin 1 → IVec S16 32) a x).toNat < S4224.size a := fun v289 k0_hw60 => k0_hw60

def k0_chk61 (v306 : IVec S16 32) : Prop :=
  (∀ a x, ((![v306] : Fin 1 → IVec S16 32) a x).toNat < S4224.size a)
theorem k0_idx61_inb : ∀ (v306 : IVec S16 32) (k0_hw61 : k0_chk61 v306), ∀ a x, ((![v306] : Fin 1 → IVec S16 32) a x).toNat < S4224.size a := fun v306 k0_hw61 => k0_hw61

def k0_chk62 (v323 : IVec S16 32) : Prop :=
  (∀ a x, ((![v323] : Fin 1 → IVec S16 32) a x).toNat < S4224.size a)
theorem k0_idx62_inb : ∀ (v323 : IVec S16 32) (k0_hw62 : k0_chk62 v323), ∀ a x, ((![v323] : Fin 1 → IVec S16 32) a x).toNat < S4224.size a := fun v323 k0_hw62 => k0_hw62

def k0_chk63 (v340 : IVec S16 32) : Prop :=
  (∀ a x, ((![v340] : Fin 1 → IVec S16 32) a x).toNat < S4224.size a)
theorem k0_idx63_inb : ∀ (v340 : IVec S16 32) (k0_hw63 : k0_chk63 v340), ∀ a x, ((![v340] : Fin 1 → IVec S16 32) a x).toNat < S4224.size a := fun v340 k0_hw63 => k0_hw63

def k0_chk64 (v357 : IVec S16 32) : Prop :=
  (∀ a x, ((![v357] : Fin 1 → IVec S16 32) a x).toNat < S4224.size a)
theorem k0_idx64_inb : ∀ (v357 : IVec S16 32) (k0_hw64 : k0_chk64 v357), ∀ a x, ((![v357] : Fin 1 → IVec S16 32) a x).toNat < S4224.size a := fun v357 k0_hw64 => k0_hw64
def k0_cond4 (k0_t5 : Fin k0_t5_loop.trips) : BitVec 1 :=
  let c8_i32 : BitVec 32 := 8#32
  let c2_i32_20 : BitVec 32 := 2#32
  let c0_i32_11 : BitVec 32 := 0#32
  let c1_i32_13 : BitVec 32 := 1#32
  let arg11 : BitVec 32 := Scf.iv c0_i32_11 c1_i32_13 k0_t5
  let v19 : BitVec 32 := Scalar.muli c2_i32_20 arg11
  let v20 : BitVec 32 := Scalar.addi c8_i32 v19
  let c1_i32_37 : BitVec 32 := 1#32
  let v32 : BitVec 32 := Scalar.addi v20 c1_i32_37
  let c2_i32_38 : BitVec 32 := 2#32
  let v33 : BitVec 32 := Scalar.addi v32 c2_i32_38
  let c24_i32_39 : BitVec 32 := 24#32
  let v34 : BitVec 1 := Scalar.cmpi .slt v33 c24_i32_39
  let v35 : BitVec 32 := Scalar.extui v34
  let c0_i32_40 : BitVec 32 := 0#32
  let v36 : BitVec 1 := Scalar.cmpi .ne v35 c0_i32_40
  v36

def k0_off10 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_41 : BitVec 32 := 3#32
  let v37 : BitVec 32 := Scalar.muli v1 c3_i32_41
  let c262144_i32_42 : BitVec 32 := 262144#32
  let v38 : BitVec 32 := Scalar.muli v37 c262144_i32_42
  let c8_i32 : BitVec 32 := 8#32
  let c2_i32_20 : BitVec 32 := 2#32
  let c0_i32_11 : BitVec 32 := 0#32
  let c1_i32_13 : BitVec 32 := 1#32
  let arg11 : BitVec 32 := Scf.iv c0_i32_11 c1_i32_13 k0_t5
  let v19 : BitVec 32 := Scalar.muli c2_i32_20 arg11
  let v20 : BitVec 32 := Scalar.addi c8_i32 v19
  let c1_i32_37 : BitVec 32 := 1#32
  let v32 : BitVec 32 := Scalar.addi v20 c1_i32_37
  let c2_i32_38 : BitVec 32 := 2#32
  let v33 : BitVec 32 := Scalar.addi v32 c2_i32_38
  let c32768_i32_43 : BitVec 32 := 32768#32
  let v39 : BitVec 32 := Scalar.muli v33 c32768_i32_43
  let v40 : BitVec 32 := Scalar.addi v38 v39
  ![v40.toNat]
@[reducible] def k0_t8_loop : Scf.Loop 32 :=
  let c0_i32_16 : BitVec 32 := 0#32
  let c4_i32_17 : BitVec 32 := 4#32
  let v18 : BitVec 32 := Scalar.addi c0_i32_16 c4_i32_17
  let c1_i32_18 : BitVec 32 := 1#32
  ⟨c0_i32_16, v18, c1_i32_18⟩
@[reducible] def k0_t9_loop : Scf.Loop 32 :=
  let c0_i32_24 : BitVec 32 := 0#32
  let c128_i32 : BitVec 32 := 128#32
  let v23 : BitVec 32 := Scalar.addi c0_i32_24 c128_i32
  let c1_i32_25 : BitVec 32 := 1#32
  ⟨c0_i32_24, v23, c1_i32_25⟩
def k0_off11 (k0_t9 : Fin k0_t9_loop.trips) (c0_i32_41 : BitVec 32) : Fin 1 → Nat :=
  let c0_i32_24 : BitVec 32 := 0#32
  let c1_i32_25 : BitVec 32 := 1#32
  let arg12 : BitVec 32 := Scf.iv c0_i32_24 c1_i32_25 k0_t9
  let c256_i32 : BitVec 32 := 256#32
  let v37 : BitVec 32 := Scalar.muli arg12 c256_i32
  let v38 : BitVec 32 := Scalar.addi v37 c0_i32_41
  let v39 : Index := Scalar.indexCast v38
  ![v39.toNat]

def k0_chk65 (v102 : IVec S16 32) : Prop :=
  (∀ a x, ((![v102] : Fin 1 → IVec S16 32) a x).toNat < S4224.size a)
theorem k0_idx65_inb : ∀ (v102 : IVec S16 32) (k0_hw65 : k0_chk65 v102), ∀ a x, ((![v102] : Fin 1 → IVec S16 32) a x).toNat < S4224.size a := fun v102 k0_hw65 => k0_hw65

def k0_chk66 (v119 : IVec S16 32) : Prop :=
  (∀ a x, ((![v119] : Fin 1 → IVec S16 32) a x).toNat < S4224.size a)
theorem k0_idx66_inb : ∀ (v119 : IVec S16 32) (k0_hw66 : k0_chk66 v119), ∀ a x, ((![v119] : Fin 1 → IVec S16 32) a x).toNat < S4224.size a := fun v119 k0_hw66 => k0_hw66

def k0_chk67 (v136 : IVec S16 32) : Prop :=
  (∀ a x, ((![v136] : Fin 1 → IVec S16 32) a x).toNat < S4224.size a)
theorem k0_idx67_inb : ∀ (v136 : IVec S16 32) (k0_hw67 : k0_chk67 v136), ∀ a x, ((![v136] : Fin 1 → IVec S16 32) a x).toNat < S4224.size a := fun v136 k0_hw67 => k0_hw67

def k0_chk68 (v153 : IVec S16 32) : Prop :=
  (∀ a x, ((![v153] : Fin 1 → IVec S16 32) a x).toNat < S4224.size a)
theorem k0_idx68_inb : ∀ (v153 : IVec S16 32) (k0_hw68 : k0_chk68 v153), ∀ a x, ((![v153] : Fin 1 → IVec S16 32) a x).toNat < S4224.size a := fun v153 k0_hw68 => k0_hw68

def k0_chk69 (v170 : IVec S16 32) : Prop :=
  (∀ a x, ((![v170] : Fin 1 → IVec S16 32) a x).toNat < S4224.size a)
theorem k0_idx69_inb : ∀ (v170 : IVec S16 32) (k0_hw69 : k0_chk69 v170), ∀ a x, ((![v170] : Fin 1 → IVec S16 32) a x).toNat < S4224.size a := fun v170 k0_hw69 => k0_hw69

def k0_chk70 (v187 : IVec S16 32) : Prop :=
  (∀ a x, ((![v187] : Fin 1 → IVec S16 32) a x).toNat < S4224.size a)
theorem k0_idx70_inb : ∀ (v187 : IVec S16 32) (k0_hw70 : k0_chk70 v187), ∀ a x, ((![v187] : Fin 1 → IVec S16 32) a x).toNat < S4224.size a := fun v187 k0_hw70 => k0_hw70

def k0_chk71 (v204 : IVec S16 32) : Prop :=
  (∀ a x, ((![v204] : Fin 1 → IVec S16 32) a x).toNat < S4224.size a)
theorem k0_idx71_inb : ∀ (v204 : IVec S16 32) (k0_hw71 : k0_chk71 v204), ∀ a x, ((![v204] : Fin 1 → IVec S16 32) a x).toNat < S4224.size a := fun v204 k0_hw71 => k0_hw71

def k0_chk72 (v221 : IVec S16 32) : Prop :=
  (∀ a x, ((![v221] : Fin 1 → IVec S16 32) a x).toNat < S4224.size a)
theorem k0_idx72_inb : ∀ (v221 : IVec S16 32) (k0_hw72 : k0_chk72 v221), ∀ a x, ((![v221] : Fin 1 → IVec S16 32) a x).toNat < S4224.size a := fun v221 k0_hw72 => k0_hw72

def k0_chk73 (v238 : IVec S16 32) : Prop :=
  (∀ a x, ((![v238] : Fin 1 → IVec S16 32) a x).toNat < S4224.size a)
theorem k0_idx73_inb : ∀ (v238 : IVec S16 32) (k0_hw73 : k0_chk73 v238), ∀ a x, ((![v238] : Fin 1 → IVec S16 32) a x).toNat < S4224.size a := fun v238 k0_hw73 => k0_hw73

def k0_chk74 (v255 : IVec S16 32) : Prop :=
  (∀ a x, ((![v255] : Fin 1 → IVec S16 32) a x).toNat < S4224.size a)
theorem k0_idx74_inb : ∀ (v255 : IVec S16 32) (k0_hw74 : k0_chk74 v255), ∀ a x, ((![v255] : Fin 1 → IVec S16 32) a x).toNat < S4224.size a := fun v255 k0_hw74 => k0_hw74

def k0_chk75 (v272 : IVec S16 32) : Prop :=
  (∀ a x, ((![v272] : Fin 1 → IVec S16 32) a x).toNat < S4224.size a)
theorem k0_idx75_inb : ∀ (v272 : IVec S16 32) (k0_hw75 : k0_chk75 v272), ∀ a x, ((![v272] : Fin 1 → IVec S16 32) a x).toNat < S4224.size a := fun v272 k0_hw75 => k0_hw75

def k0_chk76 (v289 : IVec S16 32) : Prop :=
  (∀ a x, ((![v289] : Fin 1 → IVec S16 32) a x).toNat < S4224.size a)
theorem k0_idx76_inb : ∀ (v289 : IVec S16 32) (k0_hw76 : k0_chk76 v289), ∀ a x, ((![v289] : Fin 1 → IVec S16 32) a x).toNat < S4224.size a := fun v289 k0_hw76 => k0_hw76

def k0_chk77 (v306 : IVec S16 32) : Prop :=
  (∀ a x, ((![v306] : Fin 1 → IVec S16 32) a x).toNat < S4224.size a)
theorem k0_idx77_inb : ∀ (v306 : IVec S16 32) (k0_hw77 : k0_chk77 v306), ∀ a x, ((![v306] : Fin 1 → IVec S16 32) a x).toNat < S4224.size a := fun v306 k0_hw77 => k0_hw77

def k0_chk78 (v323 : IVec S16 32) : Prop :=
  (∀ a x, ((![v323] : Fin 1 → IVec S16 32) a x).toNat < S4224.size a)
theorem k0_idx78_inb : ∀ (v323 : IVec S16 32) (k0_hw78 : k0_chk78 v323), ∀ a x, ((![v323] : Fin 1 → IVec S16 32) a x).toNat < S4224.size a := fun v323 k0_hw78 => k0_hw78

def k0_chk79 (v340 : IVec S16 32) : Prop :=
  (∀ a x, ((![v340] : Fin 1 → IVec S16 32) a x).toNat < S4224.size a)
theorem k0_idx79_inb : ∀ (v340 : IVec S16 32) (k0_hw79 : k0_chk79 v340), ∀ a x, ((![v340] : Fin 1 → IVec S16 32) a x).toNat < S4224.size a := fun v340 k0_hw79 => k0_hw79

def k0_chk80 (v357 : IVec S16 32) : Prop :=
  (∀ a x, ((![v357] : Fin 1 → IVec S16 32) a x).toNat < S4224.size a)
theorem k0_idx80_inb : ∀ (v357 : IVec S16 32) (k0_hw80 : k0_chk80 v357), ∀ a x, ((![v357] : Fin 1 → IVec S16 32) a x).toNat < S4224.size a := fun v357 k0_hw80 => k0_hw80
def k0_cond5 (k0_t8 : Fin k0_t8_loop.trips) : BitVec 1 :=
  let c16_i32 : BitVec 32 := 16#32
  let c2_i32_20 : BitVec 32 := 2#32
  let c0_i32_16 : BitVec 32 := 0#32
  let c1_i32_18 : BitVec 32 := 1#32
  let arg11 : BitVec 32 := Scf.iv c0_i32_16 c1_i32_18 k0_t8
  let v19 : BitVec 32 := Scalar.muli c2_i32_20 arg11
  let v20 : BitVec 32 := Scalar.addi c16_i32 v19
  let c0_i32_27 : BitVec 32 := 0#32
  let v24 : BitVec 32 := Scalar.addi v20 c0_i32_27
  let c2_i32_28 : BitVec 32 := 2#32
  let v25 : BitVec 32 := Scalar.addi v24 c2_i32_28
  let c24_i32 : BitVec 32 := 24#32
  let v26 : BitVec 1 := Scalar.cmpi .slt v25 c24_i32
  let v27 : BitVec 32 := Scalar.extui v26
  let c0_i32_29 : BitVec 32 := 0#32
  let v28 : BitVec 1 := Scalar.cmpi .ne v27 c0_i32_29
  v28

def k0_off12 (i : grid0.Coords) (k0_t8 : Fin k0_t8_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_41 : BitVec 32 := 3#32
  let v37 : BitVec 32 := Scalar.muli v1 c3_i32_41
  let c262144_i32_42 : BitVec 32 := 262144#32
  let v38 : BitVec 32 := Scalar.muli v37 c262144_i32_42
  let c16_i32 : BitVec 32 := 16#32
  let c2_i32_20 : BitVec 32 := 2#32
  let c0_i32_16 : BitVec 32 := 0#32
  let c1_i32_18 : BitVec 32 := 1#32
  let arg11 : BitVec 32 := Scf.iv c0_i32_16 c1_i32_18 k0_t8
  let v19 : BitVec 32 := Scalar.muli c2_i32_20 arg11
  let v20 : BitVec 32 := Scalar.addi c16_i32 v19
  let c0_i32_27 : BitVec 32 := 0#32
  let v24 : BitVec 32 := Scalar.addi v20 c0_i32_27
  let c2_i32_28 : BitVec 32 := 2#32
  let v25 : BitVec 32 := Scalar.addi v24 c2_i32_28
  let c32768_i32_43 : BitVec 32 := 32768#32
  let v39 : BitVec 32 := Scalar.muli v25 c32768_i32_43
  let v40 : BitVec 32 := Scalar.addi v38 v39
  ![v40.toNat]
@[reducible] def k0_t10_loop : Scf.Loop 32 :=
  let c0_i32_33 : BitVec 32 := 0#32
  let c128_i32_34 : BitVec 32 := 128#32
  let v31 : BitVec 32 := Scalar.addi c0_i32_33 c128_i32_34
  let c1_i32_35 : BitVec 32 := 1#32
  ⟨c0_i32_33, v31, c1_i32_35⟩
def k0_off13 (k0_t10 : Fin k0_t10_loop.trips) (c0_i32_41 : BitVec 32) : Fin 1 → Nat :=
  let c0_i32_33 : BitVec 32 := 0#32
  let c1_i32_35 : BitVec 32 := 1#32
  let arg12 : BitVec 32 := Scf.iv c0_i32_33 c1_i32_35 k0_t10
  let c256_i32 : BitVec 32 := 256#32
  let v37 : BitVec 32 := Scalar.muli arg12 c256_i32
  let v38 : BitVec 32 := Scalar.addi v37 c0_i32_41
  let v39 : Index := Scalar.indexCast v38
  ![v39.toNat]

def k0_chk81 (v102 : IVec S16 32) : Prop :=
  (∀ a x, ((![v102] : Fin 1 → IVec S16 32) a x).toNat < S4224.size a)
theorem k0_idx81_inb : ∀ (v102 : IVec S16 32) (k0_hw81 : k0_chk81 v102), ∀ a x, ((![v102] : Fin 1 → IVec S16 32) a x).toNat < S4224.size a := fun v102 k0_hw81 => k0_hw81

def k0_chk82 (v119 : IVec S16 32) : Prop :=
  (∀ a x, ((![v119] : Fin 1 → IVec S16 32) a x).toNat < S4224.size a)
theorem k0_idx82_inb : ∀ (v119 : IVec S16 32) (k0_hw82 : k0_chk82 v119), ∀ a x, ((![v119] : Fin 1 → IVec S16 32) a x).toNat < S4224.size a := fun v119 k0_hw82 => k0_hw82

def k0_chk83 (v136 : IVec S16 32) : Prop :=
  (∀ a x, ((![v136] : Fin 1 → IVec S16 32) a x).toNat < S4224.size a)
theorem k0_idx83_inb : ∀ (v136 : IVec S16 32) (k0_hw83 : k0_chk83 v136), ∀ a x, ((![v136] : Fin 1 → IVec S16 32) a x).toNat < S4224.size a := fun v136 k0_hw83 => k0_hw83

def k0_chk84 (v153 : IVec S16 32) : Prop :=
  (∀ a x, ((![v153] : Fin 1 → IVec S16 32) a x).toNat < S4224.size a)
theorem k0_idx84_inb : ∀ (v153 : IVec S16 32) (k0_hw84 : k0_chk84 v153), ∀ a x, ((![v153] : Fin 1 → IVec S16 32) a x).toNat < S4224.size a := fun v153 k0_hw84 => k0_hw84

def k0_chk85 (v170 : IVec S16 32) : Prop :=
  (∀ a x, ((![v170] : Fin 1 → IVec S16 32) a x).toNat < S4224.size a)
theorem k0_idx85_inb : ∀ (v170 : IVec S16 32) (k0_hw85 : k0_chk85 v170), ∀ a x, ((![v170] : Fin 1 → IVec S16 32) a x).toNat < S4224.size a := fun v170 k0_hw85 => k0_hw85

def k0_chk86 (v187 : IVec S16 32) : Prop :=
  (∀ a x, ((![v187] : Fin 1 → IVec S16 32) a x).toNat < S4224.size a)
theorem k0_idx86_inb : ∀ (v187 : IVec S16 32) (k0_hw86 : k0_chk86 v187), ∀ a x, ((![v187] : Fin 1 → IVec S16 32) a x).toNat < S4224.size a := fun v187 k0_hw86 => k0_hw86

def k0_chk87 (v204 : IVec S16 32) : Prop :=
  (∀ a x, ((![v204] : Fin 1 → IVec S16 32) a x).toNat < S4224.size a)
theorem k0_idx87_inb : ∀ (v204 : IVec S16 32) (k0_hw87 : k0_chk87 v204), ∀ a x, ((![v204] : Fin 1 → IVec S16 32) a x).toNat < S4224.size a := fun v204 k0_hw87 => k0_hw87

def k0_chk88 (v221 : IVec S16 32) : Prop :=
  (∀ a x, ((![v221] : Fin 1 → IVec S16 32) a x).toNat < S4224.size a)
theorem k0_idx88_inb : ∀ (v221 : IVec S16 32) (k0_hw88 : k0_chk88 v221), ∀ a x, ((![v221] : Fin 1 → IVec S16 32) a x).toNat < S4224.size a := fun v221 k0_hw88 => k0_hw88

def k0_chk89 (v238 : IVec S16 32) : Prop :=
  (∀ a x, ((![v238] : Fin 1 → IVec S16 32) a x).toNat < S4224.size a)
theorem k0_idx89_inb : ∀ (v238 : IVec S16 32) (k0_hw89 : k0_chk89 v238), ∀ a x, ((![v238] : Fin 1 → IVec S16 32) a x).toNat < S4224.size a := fun v238 k0_hw89 => k0_hw89

def k0_chk90 (v255 : IVec S16 32) : Prop :=
  (∀ a x, ((![v255] : Fin 1 → IVec S16 32) a x).toNat < S4224.size a)
theorem k0_idx90_inb : ∀ (v255 : IVec S16 32) (k0_hw90 : k0_chk90 v255), ∀ a x, ((![v255] : Fin 1 → IVec S16 32) a x).toNat < S4224.size a := fun v255 k0_hw90 => k0_hw90

def k0_chk91 (v272 : IVec S16 32) : Prop :=
  (∀ a x, ((![v272] : Fin 1 → IVec S16 32) a x).toNat < S4224.size a)
theorem k0_idx91_inb : ∀ (v272 : IVec S16 32) (k0_hw91 : k0_chk91 v272), ∀ a x, ((![v272] : Fin 1 → IVec S16 32) a x).toNat < S4224.size a := fun v272 k0_hw91 => k0_hw91

def k0_chk92 (v289 : IVec S16 32) : Prop :=
  (∀ a x, ((![v289] : Fin 1 → IVec S16 32) a x).toNat < S4224.size a)
theorem k0_idx92_inb : ∀ (v289 : IVec S16 32) (k0_hw92 : k0_chk92 v289), ∀ a x, ((![v289] : Fin 1 → IVec S16 32) a x).toNat < S4224.size a := fun v289 k0_hw92 => k0_hw92

def k0_chk93 (v306 : IVec S16 32) : Prop :=
  (∀ a x, ((![v306] : Fin 1 → IVec S16 32) a x).toNat < S4224.size a)
theorem k0_idx93_inb : ∀ (v306 : IVec S16 32) (k0_hw93 : k0_chk93 v306), ∀ a x, ((![v306] : Fin 1 → IVec S16 32) a x).toNat < S4224.size a := fun v306 k0_hw93 => k0_hw93

def k0_chk94 (v323 : IVec S16 32) : Prop :=
  (∀ a x, ((![v323] : Fin 1 → IVec S16 32) a x).toNat < S4224.size a)
theorem k0_idx94_inb : ∀ (v323 : IVec S16 32) (k0_hw94 : k0_chk94 v323), ∀ a x, ((![v323] : Fin 1 → IVec S16 32) a x).toNat < S4224.size a := fun v323 k0_hw94 => k0_hw94

def k0_chk95 (v340 : IVec S16 32) : Prop :=
  (∀ a x, ((![v340] : Fin 1 → IVec S16 32) a x).toNat < S4224.size a)
theorem k0_idx95_inb : ∀ (v340 : IVec S16 32) (k0_hw95 : k0_chk95 v340), ∀ a x, ((![v340] : Fin 1 → IVec S16 32) a x).toNat < S4224.size a := fun v340 k0_hw95 => k0_hw95

def k0_chk96 (v357 : IVec S16 32) : Prop :=
  (∀ a x, ((![v357] : Fin 1 → IVec S16 32) a x).toNat < S4224.size a)
theorem k0_idx96_inb : ∀ (v357 : IVec S16 32) (k0_hw96 : k0_chk96 v357), ∀ a x, ((![v357] : Fin 1 → IVec S16 32) a x).toNat < S4224.size a := fun v357 k0_hw96 => k0_hw96
def k0_cond6 (k0_t8 : Fin k0_t8_loop.trips) : BitVec 1 :=
  let c16_i32 : BitVec 32 := 16#32
  let c2_i32_20 : BitVec 32 := 2#32
  let c0_i32_16 : BitVec 32 := 0#32
  let c1_i32_18 : BitVec 32 := 1#32
  let arg11 : BitVec 32 := Scf.iv c0_i32_16 c1_i32_18 k0_t8
  let v19 : BitVec 32 := Scalar.muli c2_i32_20 arg11
  let v20 : BitVec 32 := Scalar.addi c16_i32 v19
  let c1_i32_37 : BitVec 32 := 1#32
  let v32 : BitVec 32 := Scalar.addi v20 c1_i32_37
  let c2_i32_38 : BitVec 32 := 2#32
  let v33 : BitVec 32 := Scalar.addi v32 c2_i32_38
  let c24_i32_39 : BitVec 32 := 24#32
  let v34 : BitVec 1 := Scalar.cmpi .slt v33 c24_i32_39
  let v35 : BitVec 32 := Scalar.extui v34
  let c0_i32_40 : BitVec 32 := 0#32
  let v36 : BitVec 1 := Scalar.cmpi .ne v35 c0_i32_40
  v36

def k0_off14 (i : grid0.Coords) (k0_t8 : Fin k0_t8_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_41 : BitVec 32 := 3#32
  let v37 : BitVec 32 := Scalar.muli v1 c3_i32_41
  let c262144_i32_42 : BitVec 32 := 262144#32
  let v38 : BitVec 32 := Scalar.muli v37 c262144_i32_42
  let c16_i32 : BitVec 32 := 16#32
  let c2_i32_20 : BitVec 32 := 2#32
  let c0_i32_16 : BitVec 32 := 0#32
  let c1_i32_18 : BitVec 32 := 1#32
  let arg11 : BitVec 32 := Scf.iv c0_i32_16 c1_i32_18 k0_t8
  let v19 : BitVec 32 := Scalar.muli c2_i32_20 arg11
  let v20 : BitVec 32 := Scalar.addi c16_i32 v19
  let c1_i32_37 : BitVec 32 := 1#32
  let v32 : BitVec 32 := Scalar.addi v20 c1_i32_37
  let c2_i32_38 : BitVec 32 := 2#32
  let v33 : BitVec 32 := Scalar.addi v32 c2_i32_38
  let c32768_i32_43 : BitVec 32 := 32768#32
  let v39 : BitVec 32 := Scalar.muli v33 c32768_i32_43
  let v40 : BitVec 32 := Scalar.addi v38 v39
  ![v40.toNat]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r0 : BitVec 32 := 0#32
  ![v1.toNat, 0]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4224_i32_r1 : BitVec 32 := 4224#32
  ![v1.toNat, 4224]
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8448_i32_r2 : BitVec 32 := 8448#32
  ![v1.toNat, 8448]
abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := .none

abbrev stage2_0 : Fin 1 → Memref sig .tc .vmem S32x792x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x3x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S32x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S32x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S32x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S32x3 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x3x512x512 : Shape := ⟨4, ![32, 3, 512, 512]⟩
abbrev S32x3x262144 : Shape := ⟨3, ![32, 3, 262144]⟩
abbrev S_ : Shape := ⟨0, ![]⟩
abbrev S32x3 : Shape := ⟨2, ![32, 3]⟩
abbrev S32x3x1 : Shape := ⟨3, ![32, 3, 1]⟩
abbrev S256 : Shape := ⟨1, ![256]⟩
abbrev S1 : Shape := ⟨1, ![1]⟩
abbrev S257 : Shape := ⟨1, ![257]⟩
abbrev S256x1 : Shape := ⟨2, ![256, 1]⟩
abbrev S32x3x1x262144 : Shape := ⟨4, ![32, 3, 1, 262144]⟩
abbrev S1x1x256x1 : Shape := ⟨4, ![1, 1, 256, 1]⟩
abbrev S32x3x256x262144 : Shape := ⟨4, ![32, 3, 256, 262144]⟩
abbrev S32x3x256 : Shape := ⟨3, ![32, 3, 256]⟩
abbrev S32 : Shape := ⟨1, ![32]⟩
abbrev S32x1 : Shape := ⟨2, ![32, 1]⟩
abbrev S32x4 : Shape := ⟨2, ![32, 4]⟩

abbrev nBuf : Space → Nat
  | .hbm => 170
  | .vmem => 0
  | .smem => 0
  | _ => 0

abbrev hbmTy0_0 (i : Nat) : BufTy := match i % 128 with
  | 0 => ⟨S32x3x512x512, .f32⟩
  | 1 => ⟨S32x3x262144, .f32⟩
  | 2 => ⟨S_, .f32⟩
  | 3 => ⟨S32x3, .f32⟩
  | 4 => ⟨S_, .f32⟩
  | 5 => ⟨S32x3, .f32⟩
  | 6 => ⟨S32x3, .f32⟩
  | 7 => ⟨S_, .i32⟩
  | 8 => ⟨S_, .f32⟩
  | 9 => ⟨S32x3, .f32⟩
  | 10 => ⟨S32x3x1, .f32⟩
  | 11 => ⟨S_, .f32⟩
  | 12 => ⟨S32x3x1, .f32⟩
  | 13 => ⟨S32x3x1, .f32⟩
  | 14 => ⟨S32x3x262144, .f32⟩
  | 15 => ⟨S32x3x262144, .f32⟩
  | 16 => ⟨S32x3x262144, .f32⟩
  | 17 => ⟨S_, .f32⟩
  | 18 => ⟨S_, .f32⟩
  | 19 => ⟨S_, .f32⟩
  | 20 => ⟨S_, .f32⟩
  | 21 => ⟨S32x3, .f32⟩
  | 22 => ⟨S32x3, .f32⟩
  | 23 => ⟨S32x3, .f32⟩
  | 24 => ⟨S_, .f32⟩
  | 25 => ⟨S_, .i1⟩
  | 26 => ⟨S_, .f32⟩
  | 27 => ⟨S_, .f32⟩
  | 28 => ⟨S32x3, .f32⟩
  | 29 => ⟨S32x3, .f32⟩
  | 30 => ⟨S_, .f32⟩
  | 31 => ⟨S32x3, .f32⟩
  | 32 => ⟨S32x3, .f32⟩
  | 33 => ⟨S32x3, .f32⟩
  | 34 => ⟨S32x3x1, .f32⟩
  | 35 => ⟨S32x3x262144, .f32⟩
  | 36 => ⟨S32x3x262144, .f32⟩
  | 37 => ⟨S32x3x1, .f32⟩
  | 38 => ⟨S32x3x262144, .f32⟩
  | 39 => ⟨S32x3x262144, .f32⟩
  | 40 => ⟨S32x3x262144, .f32⟩
  | 41 => ⟨S32x3x262144, .f32⟩
  | 42 => ⟨S_, .f32⟩
  | 43 => ⟨S32x3, .f32⟩
  | 44 => ⟨S_, .f32⟩
  | 45 => ⟨S32x3, .f32⟩
  | 46 => ⟨S32x3, .f32⟩
  | 47 => ⟨S32x3x262144, .f32⟩
  | 48 => ⟨S32x3x262144, .f32⟩
  | 49 => ⟨S_, .f32⟩
  | 50 => ⟨S32x3, .f32⟩
  | 51 => ⟨S_, .f32⟩
  | 52 => ⟨S32x3, .f32⟩
  | 53 => ⟨S32x3, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S256, .f32⟩
  | 62 => ⟨S_, .f32⟩
  | 63 => ⟨S256, .f32⟩
  | 64 => ⟨S256, .f32⟩
  | 65 => ⟨S1, .f32⟩
  | 66 => ⟨S_, .f32⟩
  | 67 => ⟨S256, .f32⟩
  | 68 => ⟨S256, .f32⟩
  | 69 => ⟨S256, .f32⟩
  | 70 => ⟨S256, .f32⟩
  | 71 => ⟨S1, .f32⟩
  | 72 => ⟨S256, .f32⟩
  | 73 => ⟨S256, .f32⟩
  | 74 => ⟨S256, .f32⟩
  | 75 => ⟨S1, .f32⟩
  | 76 => ⟨S257, .f32⟩
  | 77 => ⟨S256, .f32⟩
  | 78 => ⟨S256x1, .f32⟩
  | 79 => ⟨S256, .f32⟩
  | 80 => ⟨S256x1, .f32⟩
  | 81 => ⟨S32x3x1x262144, .f32⟩
  | 82 => ⟨S256x1, .i32⟩
  | 83 => ⟨S_, .i32⟩
  | 84 => ⟨S256x1, .i32⟩
  | 85 => ⟨S256x1, .i1⟩
  | 86 => ⟨S1x1x256x1, .f32⟩
  | 87 => ⟨S32x3x256x262144, .f32⟩
  | 88 => ⟨S32x3x256x262144, .f32⟩
  | 89 => ⟨S32x3x256x262144, .i1⟩
  | 90 => ⟨S1x1x256x1, .f32⟩
  | 91 => ⟨S32x3x256x262144, .f32⟩
  | 92 => ⟨S32x3x256x262144, .f32⟩
  | 93 => ⟨S32x3x256x262144, .i1⟩
  | 94 => ⟨S1x1x256x1, .f32⟩
  | 95 => ⟨S32x3x256x262144, .f32⟩
  | 96 => ⟨S32x3x256x262144, .f32⟩
  | 97 => ⟨S32x3x256x262144, .i1⟩
  | 98 => ⟨S1x1x256x1, .i1⟩
  | 99 => ⟨S32x3x256x262144, .i1⟩
  | 100 => ⟨S32x3x256x262144, .i1⟩
  | 101 => ⟨S32x3x256x262144, .i1⟩
  | 102 => ⟨S32x3x256x262144, .i1⟩
  | 103 => ⟨S32x3x256x262144, .f32⟩
  | 104 => ⟨S_, .f32⟩
  | 105 => ⟨S32x3x256, .f32⟩
  | 106 => ⟨S_, .f32⟩
  | 107 => ⟨S32x3, .f32⟩
  | 108 => ⟨S32x3x1, .f32⟩
  | 109 => ⟨S32x3x256, .f32⟩
  | 110 => ⟨S32x3x256, .f32⟩
  | 111 => ⟨S_, .f32⟩
  | 112 => ⟨S32x3x256, .f32⟩
  | 113 => ⟨S32x3x256, .i1⟩
  | 114 => ⟨S_, .f32⟩
  | 115 => ⟨S_, .f32⟩
  | 116 => ⟨S32x3x256, .f32⟩
  | 117 => ⟨S32x3x256, .f32⟩
  | 118 => ⟨S_, .f32⟩
  | 119 => ⟨S32x3x256, .f32⟩
  | 120 => ⟨S32x3x256, .i1⟩
  | 121 => ⟨S32x3x256, .f32⟩
  | 122 => ⟨S32x3x256, .f32⟩
  | 123 => ⟨S_, .f32⟩
  | 124 => ⟨S_, .f32⟩
  | 125 => ⟨S32x3x256, .f32⟩
  | 126 => ⟨S32x3x256, .f32⟩
  | 127 => ⟨S_, .f32⟩
  | _ => ⟨S32x3x512x512, .f32⟩

abbrev hbmTy0_1 (i : Nat) : BufTy := match i % 128 with
  | 0 => ⟨S32x3, .f32⟩
  | 1 => ⟨S32x3, .f32⟩
  | 2 => ⟨S32x3, .f32⟩
  | 3 => ⟨S_, .f32⟩
  | 4 => ⟨S32, .f32⟩
  | 5 => ⟨S_, .f32⟩
  | 6 => ⟨S32, .f32⟩
  | 7 => ⟨S32, .f32⟩
  | 8 => ⟨S_, .f32⟩
  | 9 => ⟨S32x3, .f32⟩
  | 10 => ⟨S32x3, .f32⟩
  | 11 => ⟨S32x3, .f32⟩
  | 12 => ⟨S_, .f32⟩
  | 13 => ⟨S32, .f32⟩
  | 14 => ⟨S_, .f32⟩
  | 15 => ⟨S32, .f32⟩
  | 16 => ⟨S32, .f32⟩
  | 17 => ⟨S32x3, .f32⟩
  | 18 => ⟨S_, .f32⟩
  | 19 => ⟨S32, .f32⟩
  | 20 => ⟨S_, .f32⟩
  | 21 => ⟨S32, .f32⟩
  | 22 => ⟨S32, .f32⟩
  | 23 => ⟨S_, .f32⟩
  | 24 => ⟨S32x3, .f32⟩
  | 25 => ⟨S32x3, .f32⟩
  | 26 => ⟨S32x3, .f32⟩
  | 27 => ⟨S_, .f32⟩
  | 28 => ⟨S32, .f32⟩
  | 29 => ⟨S_, .f32⟩
  | 30 => ⟨S32, .f32⟩
  | 31 => ⟨S32, .f32⟩
  | 32 => ⟨S32x1, .f32⟩
  | 33 => ⟨S32x1, .f32⟩
  | 34 => ⟨S32x1, .f32⟩
  | 35 => ⟨S32x1, .f32⟩
  | 36 => ⟨S32x4, .f32⟩
  | 37 => ⟨S_, .f32⟩
  | 38 => ⟨S32, .f32⟩
  | 39 => ⟨S_, .f32⟩
  | 40 => ⟨S32, .f32⟩
  | 41 => ⟨S32, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_cst_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_cst_2 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_cst_3 : Ref sig .tc := ⟨.hbm, 24, rfl⟩
abbrev main_call0_v12 : Ref sig .tc := ⟨.hbm, 25, rfl⟩
abbrev main_call0_cst_4 : Ref sig .tc := ⟨.hbm, 26, rfl⟩
abbrev main_call0_call0_v0 : Ref sig .tc := ⟨.hbm, 27, rfl⟩
abbrev main_call0_call0_v1 : Ref sig .tc := ⟨.hbm, 28, rfl⟩
abbrev main_v4 : Ref sig .tc := ⟨.hbm, 29, rfl⟩
abbrev main_cst_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_cst_6 : Ref sig .tc := ⟨.hbm, 54, rfl⟩
abbrev main_cst_7 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_cst : Ref sig .tc := ⟨.hbm, 59, rfl⟩
abbrev main_call1_v3 : Ref sig .tc := ⟨.hbm, 60, rfl⟩
abbrev main_call1_v4 : Ref sig .tc := ⟨.hbm, 61, rfl⟩
abbrev main_call1_cst_0 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_v15 : Ref sig .tc := ⟨.hbm, 74, rfl⟩
abbrev main_call1_v16 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c_8 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_9 : Ref sig .tc := ⟨.hbm, 104, rfl⟩
abbrev main_v51 : Ref sig .tc := ⟨.hbm, 105, rfl⟩
abbrev main_cst_10 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_11 : Ref sig .tc := ⟨.hbm, 111, rfl⟩
abbrev main_v56 : Ref sig .tc := ⟨.hbm, 112, rfl⟩
abbrev main_v57 : Ref sig .tc := ⟨.hbm, 113, rfl⟩
abbrev main_cst_12 : Ref sig .tc := ⟨.hbm, 114, rfl⟩
abbrev main_call2_v0 : Ref sig .tc := ⟨.hbm, 115, rfl⟩
abbrev main_call2_v1 : Ref sig .tc := ⟨.hbm, 116, rfl⟩
abbrev main_v58 : Ref sig .tc := ⟨.hbm, 117, rfl⟩
abbrev main_cst_13 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_14 : Ref sig .tc := ⟨.hbm, 123, rfl⟩
abbrev main_call3_v0 : Ref sig .tc := ⟨.hbm, 124, rfl⟩
abbrev main_call3_v1 : Ref sig .tc := ⟨.hbm, 125, rfl⟩
abbrev main_v63 : Ref sig .tc := ⟨.hbm, 126, rfl⟩
abbrev main_cst_15 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_16 : Ref sig .tc := ⟨.hbm, 131, rfl⟩
abbrev main_v67 : Ref sig .tc := ⟨.hbm, 132, rfl⟩
abbrev main_cst_17 : Ref sig .tc := ⟨.hbm, 133, rfl⟩
abbrev main_v68 : Ref sig .tc := ⟨.hbm, 134, rfl⟩
abbrev main_v69 : Ref sig .tc := ⟨.hbm, 135, rfl⟩
abbrev main_cst_18 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_19 : Ref sig .tc := ⟨.hbm, 140, rfl⟩
abbrev main_v73 : Ref sig .tc := ⟨.hbm, 141, rfl⟩
abbrev main_cst_20 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_21 : Ref sig .tc := ⟨.hbm, 146, rfl⟩
abbrev main_v77 : Ref sig .tc := ⟨.hbm, 147, rfl⟩
abbrev main_cst_22 : Ref sig .tc := ⟨.hbm, 148, rfl⟩
abbrev main_v78 : Ref sig .tc := ⟨.hbm, 149, rfl⟩
abbrev main_v79 : Ref sig .tc := ⟨.hbm, 150, rfl⟩
abbrev main_cst_23 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_cst_24 : Ref sig .tc := ⟨.hbm, 155, rfl⟩
abbrev main_v83 : Ref sig .tc := ⟨.hbm, 156, rfl⟩
abbrev main_cst_25 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_26 : Ref sig .tc := ⟨.hbm, 165, rfl⟩
abbrev main_v91 : Ref sig .tc := ⟨.hbm, 166, rfl⟩
abbrev main_cst_27 : Ref sig .tc := ⟨.hbm, 167, rfl⟩
abbrev main_v92 : Ref sig .tc := ⟨.hbm, 168, rfl⟩
abbrev main_v93 : Ref sig .tc := ⟨.hbm, 169, rfl⟩

abbrev nD : Nat := 1
abbrev τ : Topo := Topo.v7x

variable {F : FTy → Type} [FloatOps F]
-- ==== Proof.Setup.lean ====
/-
  The program as its launch sees it, and the ghost state every module of the proof speaks of: the rounds of the launch's
  handshakes, the rounds of the two TensorCore pipelines, and the counters of the tiles' own copies.
-/
module

public import Idealize.ShloMosaic.Lib.SparseCore.Quiescent
public import Idealize.ShloMosaic.Lib.SparseCore.Ops
public import Idealize.ShloMosaic.Lib.Pipeline.Regions
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Hist

open Cert.KernelIdeal Cert.KernelIdeal.Gen

open Idealize.ShloMosaic
open Idealize.SL Idealize.SL.RA Idealize.SL.BI Idealize.SL.Sem
open Idealize.ShloMosaic.Rounds
open Idealize.ShloMosaic.SparseCore.Cfg (HIx)

variable {F : FTy → Type} [FloatOps F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds; -/
abbrev UH : Type := URounds (GSem nD τ sig) ℕ
/-- the pipelines'; -/
abbrev UP : Type := UR sig nD τ
/-- all the ghost state of the proof. -/
abbrev UU : Type := UH × (UP × Counters)

abbrev MM (F : FTy → Type) : Type := MT nD τ sig (HIx 1) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by infer_instance

end Cert.Proof.Hist

end
-- ==== Proof.Trip.lean ====
/-
  One trip of the histogram's inner loop on a vector subcore: sixteen vectors of sixteen pixels are loaded from the
  chunk's buffer, the position each lane counts at is computed and checked, and sixteen masked scatter-adds of ones
  are made into the channel's histogram. The six inner loops of the kernel (three channels, two buffers) are one
  program, `tripProg`, at different buffers.
-/
module

public import Idealize.ShloMosaic.Lib.SparseCore
public import Idealize.ShloMosaic.Lib.Tactic
public import Idealize.ShloMosaic.Lib.Pipeline.Regions
public import proofs.«01_k».proof.Proof.Setup

@[expose] public section

noncomputable section

namespace Cert.Proof.Hist

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline
open Idealize.ShloMosaic.SparseCore.Cfg (HIx)

variable {F : FTy → Type} [FloatOps F]

/-! ## The pure step: sixteen pixels counted -/

/-- The lane numbers `0 … 15`. -/
def lanes : IVec S16 32 := iota .scVector S16 32 [0] iota_S16_d0_w32_scVector

/-- Where each lane counts its pixel: `16 · bin + lane`, the bin clamped to `0 … 256`. -/
def slots (v : Vec F S16 .f32) : IVec S16 32 := k0_pay2 lanes v

/-- The lanes whose pixel lies in `[-1, 1]`. -/
def inRange (v : Vec F S16 .f32) : IVec S16 1 := k0_pay1 v

/-- What each lane adds: one. -/
abbrev ones : FVec F S16 .f32 := k0_pay235 (F := F)

theorem lanes_toNat (x : S16.Idx) : (lanes x).toNat = (x 0).val := by
  have hx : (x 0).val < 16 := (x 0).isLt
  show (BitVec.ofNat 32 (0 * 16 + (x 0).val)).toNat = _
  rw [BitVec.toNat_ofNat]
  omega

/-- The clamp keeps the bin, read as a signed word, between 0 and 256. -/
theorem clamp_toNat (b : BitVec 32) :
    (IntOp.minsi (IntOp.maxsi b 0#32) 256#32).toNat ≤ 256 := by
  simp only [IntOp.maxsi, IntOp.minsi, BitVec.slt_eq_decide, decide_eq_true_eq, BitVec.reduceToInt]
  split <;> split <;> simp_all [BitVec.toInt_eq_toNat_cond] <;> omega

/-- The bin a pixel is counted in, out of range or not. -/
def binOf (v : F .f32) : BitVec 32 :=
  IntOp.minsi (IntOp.maxsi (FloatOps.fptosi 32
    (FloatOps.addf (FloatOps.mulf v (Scalar.ofBits .f32 0x43000000#32)) (Scalar.ofBits .f32 0x43000000#32))) 0#32) 256#32

theorem slots_apply (v : Vec F S16 .f32) (x : S16.Idx) : slots v x = binOf (v x) * 16#32 + lanes x := rfl

theorem slots_toNat (v : Vec F S16 .f32) (x : S16.Idx) :
    (slots v x).toNat = (binOf (v x)).toNat * 16 + (x 0).val := by
  have hx : (x 0).val < 16 := (x 0).isLt
  have hb : (binOf (v x)).toNat ≤ 256 := clamp_toNat _
  rw [slots_apply, BitVec.toNat_add, BitVec.toNat_mul, lanes_toNat, BitVec.toNat_ofNat]
  omega

theorem slots_lt (v : Vec F S16 .f32) : ∀ a x, ((![slots v] : Fin 1 → IVec S16 32) a x).toNat < S4224.size a := by
  intro a x
  obtain rfl : a = 0 := Subsingleton.elim _ _
  have hx : (x 0).val < 16 := (x 0).isLt
  have hb : (binOf (v x)).toNat ≤ 256 := clamp_toNat _
  show (slots v x).toNat < 4224
  rw [slots_toNat]
  omega

/-- The histogram after the sixteen pixels `v`. -/
def bump (H : Vec F S4224 .f32) (v : Vec F S16 .f32) : Vec F S4224 .f32 :=
  storeIdx H ![slots v] ones (inRange v) true (slots_lt v)

/-! ## The program of one trip -/

section Prog

variable {p : Proc τ}

/-- The loads of the vectors `us` of trip `t`, continued by what is done with them. -/
def loadsP (src : Memref sig p.kind .vmem S32768 .f32) (t : Fin k0_t3_loop.trips) {β : Type} :
    List (Fin 16) → (List (Vec F S16 .f32) → Prog (TpuEff nD τ sig (Elt F) Λ₀ p) β) → Prog (TpuEff nD τ sig (Elt F) Λ₀ p) β
  | [], k => k []
  | u :: us, k => .op (.load src (Rect.unit (s := S32768) (k0_off3 t (BitVec.ofNat 32 (16 * u.val))) S16.size (k0_off3_inb t u)).toLoadRect (View.loadsAt_vmem h_S16))
      fun v => loadsP src t us fun vs => k (v :: vs)

/-- The checks of the positions the vectors `vs` are counted at. -/
def checksP (L : IVec S16 32) {β : Type} :
    List (Vec F S16 .f32) → (List (Σ' v : Vec F S16 .f32, k0_chk1 (k0_pay2 L v)) → Prog (TpuEff nD τ sig (Elt F) Λ₀ p) β)
      → Prog (TpuEff nD τ sig (Elt F) Λ₀ p) β
  | [], k => k []
  | v :: vs, k => .op (.assume (k0_chk1 (k0_pay2 L v)) (k0_chk1.dec _)) fun w => checksP L vs fun ws => k (⟨v, w.down⟩ :: ws)

/-- The scatter-adds of checked vectors. -/
def storesP (h : Memref sig p.kind .vmem S4224 .f32) (hs : (h.access (.whole S4224)).Stores Finset.univ) (L : IVec S16 32) :
    List (Σ' v : Vec F S16 .f32, k0_chk1 (k0_pay2 L v)) → Prog (TpuEff nD τ sig (Elt F) Λ₀ p) Unit
  | [] => pure ⟨⟩
  | w :: ws => SparseCore.vectorStoreIdx h ![k0_pay2 L w.1] (ones (F := F)) (k0_pay1 w.1) true (k0_idx1_inb _ w.2) hs
      >>= fun _ => storesP h hs L ws

/-- The whole trip. -/
def tripProg (src : Memref sig p.kind .vmem S32768 .f32) (h : Memref sig p.kind .vmem S4224 .f32)
    (hs : (h.access (.whole S4224)).Stores Finset.univ) (L : IVec S16 32) (t : Fin k0_t3_loop.trips) :
    Prog (TpuEff nD τ sig (Elt F) Λ₀ p) Unit :=
  loadsP src t [0, 1, 2, 3, 4, 5, 6, 7, 8, 9, 10, 11, 12, 13, 14, 15] fun vs => checksP L vs fun ws => storesP h hs L ws

end Prog

section Same

variable (i : grid0.Coords) (arg2 : Memref sig .scVector .hbm S25165824 .f32) (harg2 : arg2.IsWhole) (arg3 : Memref sig .scVector .hbm S32x12672 .f32)
  (harg3 : arg3.IsWhole) (arg4 : Memref sig .scVector .vmem S32768 .f32) (harg4 : arg4.IsWhole) (arg5 : Memref sig .scVector .vmem S32768 .f32)
  (harg5 : arg5.IsWhole) (arg6 : Memref sig .scVector .vmem S4224 .f32) (harg6 : arg6.IsWhole) (arg7 : Memref sig .scVector .vmem S4224 .f32)
  (harg7 : arg7.IsWhole) (arg8 : Memref sig .scVector .vmem S4224 .f32) (harg8 : arg8.IsWhole) (arg9 arg10 v19_r0 v19_r1 v19_r2 : DmaSems sig S_)
  (L : IVec S16 32)

set_option maxRecDepth 65536

theorem t3_body_eq (t : Fin k0_t3_loop.trips) :
    k0_t3_body (F := F) i arg2 harg2 arg3 harg3 arg4 harg4 arg5 harg5 arg6 harg6 arg7 harg7 arg8 harg8 arg9 arg10 v19_r0 v19_r1 v19_r2 L t ()
      = tripProg (p := .scVector ((i 0).castLE hcore0) ((i 1).castLE hsub0)) arg4 arg6 (View.stores_vmem_bits_univ h_S4224 rfl) L t := by chain_rfl
theorem t4_body_eq (t : Fin k0_t4_loop.trips) :
    k0_t4_body (F := F) i arg2 harg2 arg3 harg3 arg4 harg4 arg5 harg5 arg6 harg6 arg7 harg7 arg8 harg8 arg9 arg10 v19_r0 v19_r1 v19_r2 L t ()
      = tripProg (p := .scVector ((i 0).castLE hcore0) ((i 1).castLE hsub0)) arg5 arg6 (View.stores_vmem_bits_univ h_S4224 rfl) L t := by chain_rfl
theorem t6_body_eq (t : Fin k0_t6_loop.trips) :
    k0_t6_body (F := F) i arg2 harg2 arg3 harg3 arg4 harg4 arg5 harg5 arg6 harg6 arg7 harg7 arg8 harg8 arg9 arg10 v19_r0 v19_r1 v19_r2 L t ()
      = tripProg (p := .scVector ((i 0).castLE hcore0) ((i 1).castLE hsub0)) arg4 arg7 (View.stores_vmem_bits_univ h_S4224 rfl) L t := by chain_rfl
theorem t7_body_eq (t : Fin k0_t7_loop.trips) :
    k0_t7_body (F := F) i arg2 harg2 arg3 harg3 arg4 harg4 arg5 harg5 arg6 harg6 arg7 harg7 arg8 harg8 arg9 arg10 v19_r0 v19_r1 v19_r2 L t ()
      = tripProg (p := .scVector ((i 0).castLE hcore0) ((i 1).castLE hsub0)) arg5 arg7 (View.stores_vmem_bits_univ h_S4224 rfl) L t := by chain_rfl
theorem t9_body_eq (t : Fin k0_t9_loop.trips) :
    k0_t9_body (F := F) i arg2 harg2 arg3 harg3 arg4 harg4 arg5 harg5 arg6 harg6 arg7 harg7 arg8 harg8 arg9 arg10 v19_r0 v19_r1 v19_r2 L t ()
      = tripProg (p := .scVector ((i 0).castLE hcore0) ((i 1).castLE hsub0)) arg4 arg8 (View.stores_vmem_bits_univ h_S4224 rfl) L t := by chain_rfl
theorem t10_body_eq (t : Fin k0_t10_loop.trips) :
    k0_t10_body (F := F) i arg2 harg2 arg3 harg3 arg4 harg4 arg5 harg5 arg6 harg6 arg7 harg7 arg8 harg8 arg9 arg10 v19_r0 v19_r1 v19_r2 L t ()
      = tripProg (p := .scVector ((i 0).castLE hcore0) ((i 1).castLE hsub0)) arg5 arg8 (View.stores_vmem_bits_univ h_S4224 rfl) L t := by chain_rfl

end Same

/-! ## The histogram of a stretch of the image -/

/-- The sixteen pixels from the `n`-th on. -/
def vecAt (xs : ℕ → Elt F .f32) (n : ℕ) : Vec F S16 .f32 := fun l => xs (n + (l 0).val)

/-- The lane-split histogram of `16 n` pixels from the `o`-th on. -/
def histN (xs : ℕ → Elt F .f32) (o : ℕ) : ℕ → Vec F S4224 .f32
  | 0 => fun _ => (Scalar.ofBits .f32 0x00000000#32 : F .f32)
  | n + 1 => bump (histN xs o n) (vecAt xs (o + 16 * n))

theorem foldl_bump (xs : ℕ → Elt F .f32) (o n : ℕ) (us : List ℕ) (k : ℕ) (hus : us = List.range' k us.length) (H : Vec F S4224 .f32)
    (hH : H = histN xs o (n + k)) :
    us.foldl (fun H u => bump H (vecAt xs (o + 16 * n + 16 * u))) H = histN xs o (n + k + us.length) := by
  induction us generalizing k H with
  | nil => exact hH
  | cons u us ih =>
    rw [List.length_cons, List.range'_succ, List.cons.injEq] at hus
    obtain ⟨rfl, hus⟩ := hus
    rw [List.foldl_cons, ih (u + 1) hus, List.length_cons]
    · congr 1; omega
    · rw [hH, ← add_assoc, show n + u + 1 = (n + u) + 1 from rfl, histN]
      congr 2; omega

/-! ## What a trip does -/

section WP

variable (thr : Thread nD τ)

/-- A histogram buffer of the tile, holding `H`. -/
def hold (h : Memref sig thr.2.kind .vmem S4224 .f32) (H : Vec F S4224 .f32) : sProp (MM F) :=
  iprop(∃ f : Buf (Elt F) ((h.access (.whole S4224)).loc thr), ⌜(h.access (.whole S4224)).read (Elt F) f = H⌝
    ∗ ((h.access (.whole S4224)).loc thr ↦[(h.access (.whole S4224)).set]{fullShare} f))

/-- A chunk's buffer, holding the pixels from the `ob`-th on. -/
def holdBuf (src : Memref sig thr.2.kind .vmem S32768 .f32) (xs : ℕ → Elt F .f32) (ob : ℕ) : sProp (MM F) :=
  iprop(∃ f : Buf (Elt F) (src.view.loc thr), ⌜∀ j, src.view.read (Elt F) f j = xs (ob + (j 0).val)⌝
    ∗ (src.view.loc thr ↦[src.view.set]{fullShare} f))

theorem wp_loadsP (src : Memref sig thr.2.kind .vmem S32768 .f32) (xs : ℕ → Elt F .f32) (ob : ℕ) (t : Fin k0_t3_loop.trips)
    (us : List (Fin 16)) {β : Type} (k : List (Vec F S16 .f32) → Prog (TpuEff nD τ sig (Elt F) Λ₀ thr.2) β) (Q : β → sProp (MM F)) :
    holdBuf thr src xs ob
      ⊢ iprop((holdBuf thr src xs ob -∗ wp frame (wpE (defs₀ (F := F)) 𝒱₀ thr none) Set.univ
            (k (us.map fun u => vecAt xs (ob + 256 * t.val + 16 * u.val))) Q)
          -∗ wp frame (wpE (defs₀ (F := F)) 𝒱₀ thr none) Set.univ (loadsP src t us k) Q) := by
  induction us generalizing k with
  | nil => iintro H Hk; iapply Hk; iexact H
  | cons u us ih =>
    unfold holdBuf at ih ⊢
    iintro ⟨%f, %hf, H⟩ Hk
    unfold loadsP
    iapply (wp_load (defs := defs₀ (F := F)) 𝒱₀ thr none Set.univ (m := src) (S := src.view.set) (View.setOn_subset_set _ _)) $$ H
    iintro H
    have hv : src.view.readAt (Elt F) (Rect.unit (s := S32768) (k0_off3 t (BitVec.ofNat 32 (16 * u.val))) S16.size (k0_off3_inb t u)).toLoadRect f
        = vecAt xs (ob + 256 * t.val + 16 * u.val) := by
      funext x
      refine (hf _).trans (congrArg xs ?_)
      show ob + (k0_off3 t (BitVec.ofNat 32 (16 * u.val)) 0 + 1 * (x 0).val) = _
      have h0 : k0_off3 t (BitVec.ofNat 32 (16 * u.val)) 0 = 256 * t.val + 16 * u.val := congrFun (k0_off3_eq t u) 0
      rw [h0]
      omega
    rw [hv]
    iapply ih (fun vs => k (vecAt xs (ob + 256 * t.val + 16 * u.val) :: vs)) $$ [H]
    · iexists f; isplitr; · ipureintro; exact hf
      iexact H
    iexact Hk

theorem chk_slots (v : Vec F S16 .f32) : k0_chk1 (k0_pay2 lanes v) := slots_lt v

theorem wp_checksP (vs : List (Vec F S16 .f32)) {β : Type}
    (k : List (Σ' v : Vec F S16 .f32, k0_chk1 (k0_pay2 lanes v)) → Prog (TpuEff nD τ sig (Elt F) Λ₀ thr.2) β) (Q : β → sProp (MM F)) :
    wp frame (wpE (defs₀ (F := F)) 𝒱₀ thr none) Set.univ (checksP lanes vs k) Q
      = wp frame (wpE (defs₀ (F := F)) 𝒱₀ thr none) Set.univ (k (vs.map fun v => ⟨v, chk_slots v⟩)) Q := by
  induction vs generalizing k with
  | nil => rfl
  | cons v vs ih =>
    unfold checksP
    rw [wp_assume_of _ _ _ _ (chk_slots v), ih]
    rfl

theorem wp_storesP (h : Memref sig thr.2.kind .vmem S4224 .f32) (hs : (h.access (.whole S4224)).Stores Finset.univ)
    (ws : List (Σ' v : Vec F S16 .f32, k0_chk1 (k0_pay2 lanes v))) (H : Vec F S4224 .f32) (Q : Unit → sProp (MM F)) :
    hold thr h H
      ⊢ iprop((hold thr h (ws.foldl (fun H w => bump H w.1) H) -∗ Q ⟨⟩)
          -∗ wp frame (wpE (defs₀ (F := F)) 𝒱₀ thr none) Set.univ (storesP h hs lanes ws) Q) := by
  induction ws generalizing H with
  | nil => iintro H Hk; unfold storesP; iapply (le_wp_ret _ _ _ _ _); iapply Hk; iexact H
  | cons w ws ih =>
    unfold hold at ih ⊢
    iintro ⟨%f, %hf, H⟩ Hk
    unfold storesP
    iapply (SparseCore.wp_vectorStoreIdx (defs := defs₀ (F := F)) 𝒱₀ thr none Set.univ (base := h)) $$ H
    iintro H
    iapply ih (bump ((h.access (.whole S4224)).read (Elt F) f) w.1) $$ [H]
    · iexists ((h.access (.whole S4224)).write (Elt F) f (bump ((h.access (.whole S4224)).read (Elt F) f) w.1) Finset.univ)
      isplitr
      · ipureintro
        exact View.read_write_univ _ _
      iexact H
    rw [hf]
    iexact Hk

/-- One trip: the histogram of `16 n` pixels becomes that of `16 (n + 16)`. -/
theorem wp_trip (src : Memref sig thr.2.kind .vmem S32768 .f32) (h : Memref sig thr.2.kind .vmem S4224 .f32)
    (hs : (h.access (.whole S4224)).Stores Finset.univ) (xs : ℕ → Elt F .f32) (o ob n : ℕ) (t : Fin k0_t3_loop.trips)
    (hn : ob + 256 * t.val = o + 16 * n) (Q : Unit → sProp (MM F)) :
    iprop(holdBuf thr src xs ob ∗ hold thr h (histN xs o n))
      ⊢ iprop((holdBuf thr src xs ob ∗ hold thr h (histN xs o (n + 16)) -∗ Q ⟨⟩)
          -∗ wp frame (wpE (defs₀ (F := F)) 𝒱₀ thr none) Set.univ (tripProg src h hs lanes t) Q) := by
  iintro ⟨Hb, Hh⟩ Hk
  unfold tripProg
  iapply wp_loadsP thr src xs ob t $$ Hb
  iintro Hb
  rw [wp_checksP]
  iapply wp_storesP thr h hs $$ Hh
  iintro Hh
  iapply Hk
  isplitl [Hb]; · iexact Hb
  rw [hn]
  rw [show histN xs o (n + 16) = _ from (foldl_bump xs o n (List.range 16) 0 (by decide) (histN xs o n) rfl).symm]
  iexact Hh

end WP

end Cert.Proof.Hist

end
-- ==== Proof.Pair.lean ====
/-
  The double-buffered loop over a channel's chunks. Half a trip waits for one buffer's copy, counts the buffer's pixels
  and, where a chunk is left, starts the buffer's next copy; a trip is two halves, one per buffer. The three loops of the
  kernel (one per channel) run one program, `pairProg`.
-/
module

public import Idealize.ShloMosaic.Lib.SparseCore.FromWhole
public import proofs.«01_k».proof.Proof.Trip

@[expose] public section

noncomputable section

namespace Cert.Proof.Hist

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline
open Idealize.ShloMosaic.SparseCore.Cfg (HIx)

variable {F : FTy → Type} [FloatOps F]

/-! ## The programs -/

section Prog

variable {p : Proc τ}

/-- Half a trip: wait for the buffer, count its pixels, start its next copy under the condition `c`. -/
def halfProg (x2 : Memref sig p.kind .hbm S25165824 .f32) (buf : Memref sig p.kind .vmem S32768 .f32) (hbuf : buf.IsWhole) (sem : DmaSems sig S_)
    (h : Memref sig p.kind .vmem S4224 .f32) (hs : (h.access (.whole S4224)).Stores Finset.univ) (L : IVec S16 32)
    (c : BitVec 1) (off : Fin 1 → ℕ) (hoff : c = 1#1 → ∀ a, off a + S32768.size a ≤ S25165824.size a)
    (rest : Prog (TpuEff nD τ sig (Elt F) Λ₀ p) Unit) : Prog (TpuEff nD τ sig (Elt F) Λ₀ p) Unit :=
  .op (.waitDma2 sem.sem (x2.slice (Rect.unit (s := S25165824) ![0] S32768.size inb_S25165824_S32768_0) (fun _ => rfl)) buf
      (View.wordExact_bits rfl) hbuf.wordExact) fun _ =>
    Scf.Loop.for k0_t3_loop k0_t3_ok ⟨⟩ (fun t _ => tripProg buf h hs L t) >>= fun _ =>
      if hc : c = 1#1 then
        .op (.enqueueDma (x2.slice (Rect.unit (s := S25165824) off S32768.size (hoff hc)) (fun _ => rfl)) (.here buf) (.dma sem.sem)
          (View.wordExact_bits rfl) hbuf.wordExact ⟨Or.inl rfl, trivial⟩) fun _ => rest
      else rest

/-- A trip: the half at the first buffer, then the half at the second. -/
def pairProg (x2 : Memref sig p.kind .hbm S25165824 .f32) (b0 : Memref sig p.kind .vmem S32768 .f32) (hb0 : b0.IsWhole)
    (b1 : Memref sig p.kind .vmem S32768 .f32) (hb1 : b1.IsWhole) (s0 s1 : DmaSems sig S_)
    (h : Memref sig p.kind .vmem S4224 .f32) (hs : (h.access (.whole S4224)).Stores Finset.univ) (L : IVec S16 32)
    (c0 c1 : BitVec 1) (off0 off1 : Fin 1 → ℕ) (hoff0 : c0 = 1#1 → ∀ a, off0 a + S32768.size a ≤ S25165824.size a)
    (hoff1 : c1 = 1#1 → ∀ a, off1 a + S32768.size a ≤ S25165824.size a) : Prog (TpuEff nD τ sig (Elt F) Λ₀ p) Unit :=
  halfProg x2 b0 hb0 s0 h hs L c0 off0 hoff0 (halfProg x2 b1 hb1 s1 h hs L c1 off1 hoff1 (.ret ⟨⟩))

end Prog

section Same

variable (i : grid0.Coords) (arg2 : Memref sig .scVector .hbm S25165824 .f32) (harg2 : arg2.IsWhole) (arg3 : Memref sig .scVector .hbm S32x12672 .f32)
  (harg3 : arg3.IsWhole) (arg4 : Memref sig .scVector .vmem S32768 .f32) (harg4 : arg4.IsWhole) (arg5 : Memref sig .scVector .vmem S32768 .f32)
  (harg5 : arg5.IsWhole) (arg6 : Memref sig .scVector .vmem S4224 .f32) (harg6 : arg6.IsWhole) (arg7 : Memref sig .scVector .vmem S4224 .f32)
  (harg7 : arg7.IsWhole) (arg8 : Memref sig .scVector .vmem S4224 .f32) (harg8 : arg8.IsWhole) (arg9 arg10 v19_r0 v19_r1 v19_r2 : DmaSems sig S_)
  (L : IVec S16 32)

set_option maxRecDepth 65536

theorem t2_body_eq (t : Fin k0_t2_loop.trips) :
    k0_t2_body (F := F) i arg2 harg2 arg3 harg3 arg4 harg4 arg5 harg5 arg6 harg6 arg7 harg7 arg8 harg8 arg9 arg10 v19_r0 v19_r1 v19_r2 L t ()
      = pairProg (p := .scVector ((i 0).castLE hcore0) ((i 1).castLE hsub0)) arg2 arg4 harg4 arg5 harg5 arg9 arg10 arg6
          (View.stores_vmem_bits_univ h_S4224 rfl) L (k0_cond1 t) (k0_cond2 t) (k0_off4 i t) (k0_off6 i t)
          (k0_off4_inb i t) (k0_off6_inb i t) := by chain_rfl

theorem t5_body_eq (t : Fin k0_t5_loop.trips) :
    k0_t5_body (F := F) i arg2 harg2 arg3 harg3 arg4 harg4 arg5 harg5 arg6 harg6 arg7 harg7 arg8 harg8 arg9 arg10 v19_r0 v19_r1 v19_r2 L t ()
      = pairProg (p := .scVector ((i 0).castLE hcore0) ((i 1).castLE hsub0)) arg2 arg4 harg4 arg5 harg5 arg9 arg10 arg7
          (View.stores_vmem_bits_univ h_S4224 rfl) L (k0_cond3 t) (k0_cond4 t) (k0_off8 i t) (k0_off10 i t)
          (k0_off8_inb i t) (k0_off10_inb i t) := by chain_rfl

theorem t8_body_eq (t : Fin k0_t8_loop.trips) :
    k0_t8_body (F := F) i arg2 harg2 arg3 harg3 arg4 harg4 arg5 harg5 arg6 harg6 arg7 harg7 arg8 harg8 arg9 arg10 v19_r0 v19_r1 v19_r2 L t ()
      = pairProg (p := .scVector ((i 0).castLE hcore0) ((i 1).castLE hsub0)) arg2 arg4 harg4 arg5 harg5 arg9 arg10 arg8
          (View.stores_vmem_bits_univ h_S4224 rfl) L (k0_cond5 t) (k0_cond6 t) (k0_off12 i t) (k0_off14 i t)
          (k0_off12_inb i t) (k0_off14_inb i t) := by chain_rfl

end Same

/-! ## What half a trip does -/

section WP

variable (thr : Thread nD τ) (xs : ℕ → Elt F .f32)

/-- The counters' embedding. -/
abbrev EC : UEmb Counters (MM F) := countersEmb

/-- The core owes `O`, having waited within `W` or at no call's index. -/
def owesIn (O : CellTallies nD τ sig (HIx 1)) (W : Waits sig (HIx 1)) : sProp (MM F) :=
  iprop(∃ W', ⌜∀ p ∈ W', p ∈ W ∨ p.2 = none⌝ ∗ owes thr O W')

/-- A buffer's slot: its copy of the pixels from the `o`-th on is in flight, or the buffer is idle. -/
def slot (x2 : Memref sig thr.2.kind .hbm S25165824 .f32) (buf : Memref sig thr.2.kind .vmem S32768 .f32) (sem : DmaSems sig S_)
    (q : PosShare TreeShare) (x : Buf (Elt F) (x2.view.loc thr)) (o : Option ℕ) : sProp (MM F) :=
  match o with
  | some o => Transfers.Flight EC thr (.dma sem.sem) none buf.view.dmaCredit iprop(holdBuf thr buf xs o ∗ (x2.view.loc thr ↦{q} x))
  | none => iprop(semVal (thr, .dma sem.sem) 0 ∗ (∃ f, buf.view.loc thr ↦[buf.view.set]{fullShare} f) ∗ (x2.view.loc thr ↦{q} x))

variable (x2 : Memref sig thr.2.kind .hbm S25165824 .f32) (buf : Memref sig thr.2.kind .vmem S32768 .f32) (hbuf : buf.IsWhole) (sem : DmaSems sig S_)
  (h : Memref sig thr.2.kind .vmem S4224 .f32) (hs : (h.access (.whole S4224)).Stores Finset.univ)
  (q : PosShare TreeShare) (x : Buf (Elt F) (x2.view.loc thr))

/-- Starting a buffer's copy. -/
theorem wp_start (hx : ∀ j, x2.view.read (Elt F) x j = xs (j 0).val) (off : Fin 1 → ℕ) (hoff : ∀ a, off a + S32768.size a ≤ S25165824.size a)
    {hw : (x2.slice (Rect.unit (s := S25165824) off S32768.size hoff) (fun _ => rfl)).view.WordExact} {hw' : buf.view.WordExact}
    {hty : DmaTarget.Typed (nD := nD) .hbm (.dma sem.sem) (.here buf)}
    {β : Type} (k : PUnit → Prog (TpuEff nD τ sig (Elt F) Λ₀ thr.2) β) (Q : β → sProp (MM F)) :
    slot thr xs x2 buf sem q x none
      ⊢ iprop((slot thr xs x2 buf sem q x (some (off 0)) -∗ wp frame (wpE (defs₀ (F := F)) 𝒱₀ thr none) Set.univ (k ⟨⟩) Q)
          -∗ wp frame (wpE (defs₀ (F := F)) 𝒱₀ thr none) Set.univ
              (.op (.enqueueDma (x2.slice (Rect.unit (s := S25165824) off S32768.size hoff) (fun _ => rfl)) (.here buf) (.dma sem.sem) hw hw' hty) k) Q) := by
  unfold slot
  iintro ⟨Hv, ⟨%f, Hb⟩, Hx⟩ Hk
  iapply (Transfers.wp_dmaFromWhole EC (defs := defs₀ (F := F)) 𝒱₀ thr none
    (src := x2.slice (Rect.unit (s := S25165824) off S32768.size hoff) (fun _ => rfl)) (dst := buf) (sm := .dma sem.sem)
    none buf.view.dmaCredit rfl (View.dmaCredit_pos _ (by decide)) (subset_rfl)) $$ [Hv Hb Hx]
  · isplitl [Hx]; · iexact Hx
    isplitl [Hb]; · iexact Hb
    iexact Hv
  iintro Hf
  iapply Hk
  have hD : iprop((buf.view.loc thr ↦[buf.view.set]{fullShare}
        (buf.view.write (Elt F) f ((x2.slice (Rect.unit (s := S25165824) off S32768.size hoff) (fun _ => rfl)).view.read (Elt F) x) Finset.univ))
      ∗ (x2.view.loc thr ↦{q} x)) ⊢ (iprop(holdBuf thr buf xs (off 0) ∗ (x2.view.loc thr ↦{q} x)) : sProp (MM F)) := by
    iintro ⟨Hb, Hx⟩
    isplitl [Hb]
    · unfold holdBuf
      iexists (buf.view.write (Elt F) f ((x2.slice (Rect.unit (s := S25165824) off S32768.size hoff) (fun _ => rfl)).view.read (Elt F) x) Finset.univ)
      isplitr
      · ipureintro
        intro j
        rw [View.read_write_univ]
        refine (hx _).trans (congrArg xs ?_)
        show off 0 + 1 * (j 0).val = _
        rw [one_mul]
      iexact Hb
    · iexact Hx
  iapply (Transfers.Flight_mono EC thr hD) $$ Hf

/-- Counting a buffer's pixels: 128 trips. -/
theorem wp_count (o ob n : ℕ) (hn : ob = o + 16 * n) {β : Type} (k : Unit → Prog (TpuEff nD τ sig (Elt F) Λ₀ thr.2) β) (Q : β → sProp (MM F)) :
    iprop(holdBuf thr buf xs ob ∗ hold thr h (histN xs o n))
      ⊢ iprop((holdBuf thr buf xs ob ∗ hold thr h (histN xs o (n + 2048)) -∗ wp frame (wpE (defs₀ (F := F)) 𝒱₀ thr none) Set.univ (k ⟨⟩) Q)
          -∗ wp frame (wpE (defs₀ (F := F)) 𝒱₀ thr none) Set.univ
              (Scf.Loop.for k0_t3_loop k0_t3_ok ⟨⟩ (fun t _ => tripProg buf h hs lanes t) >>= k) Q) := by
  iintro H Hk
  iapply (Scf.wp_for_bind frame (wpE (defs₀ (F := F)) 𝒱₀ thr none) Set.univ k0_t3_loop.lb k0_t3_loop.ub k0_t3_loop.st k0_t3_ok (⟨⟩ : Unit)
    (fun t _ => tripProg buf h hs lanes t) (fun j _ => iprop(holdBuf thr buf xs ob ∗ hold thr h (histN xs o (n + 16 * j)))) ?_) $$ H
  · intro t acc
    iintro H
    iapply (wp_trip thr buf h hs xs o ob (n + 16 * t.val) t (by omega)) $$ H
    iintro H
    iexact H
  · iintro %acc H
    iapply Hk
    iexact H

/-- Half a trip. -/
theorem wp_half (hx : ∀ j, x2.view.read (Elt F) x j = xs (j 0).val) (o ob n : ℕ) (hn : ob = o + 16 * n)
    (O : CellTallies nD τ sig (HIx 1)) (W : Waits sig (HIx 1)) (hO : ∀ g, O g none = 0)
    (c : BitVec 1) (off : Fin 1 → ℕ) (hoff : c = 1#1 → ∀ a, off a + S32768.size a ≤ S25165824.size a)
    (rest : Prog (TpuEff nD τ sig (Elt F) Λ₀ thr.2) Unit) (Q : Unit → sProp (MM F)) :
    iprop(levAts (K (F := F)).L (K (F := F)).lev ∗ slot thr xs x2 buf sem q x (some ob) ∗ hold thr h (histN xs o n) ∗ owesIn thr O W)
      ⊢ iprop((slot thr xs x2 buf sem q x (if c = 1#1 then some (off 0) else none) ∗ hold thr h (histN xs o (n + 2048)) ∗ owesIn thr O W
            -∗ wp frame (wpE (defs₀ (F := F)) 𝒱₀ thr none) Set.univ rest Q)
          -∗ wp frame (wpE (defs₀ (F := F)) 𝒱₀ thr none) Set.univ (halfProg x2 buf hbuf sem h hs lanes c off hoff rest) Q) := by
  iintro ⟨#Hlv, Hsl, Hh, HO⟩ Hk
  ihave Hmw := ((K (F := F)).mayWaits_none (thr := thr) hO) $$ Hlv
  unfold owesIn
  icases HO with ⟨%W', %hW, HO⟩
  ihave Hmw' := (Transfers.MayWaits.elim (SemLoc.dma sem.sem)) $$ Hmw
  unfold halfProg
  iapply (Transfers.wp_waitLocalO EC (defs := defs₀ (F := F)) 𝒱₀ thr none none rfl) $$ [Hsl HO Hmw']
  · isplitl [Hsl]; · unfold slot; iexact Hsl
    isplitl [HO]; · iexact HO
    iexact Hmw'
  iintro ⟨⟨Hb, Hx⟩, Hv, HO⟩
  iapply (wp_count thr xs buf h hs o ob n hn) $$ [Hb Hh]
  · isplitl [Hb]; · iexact Hb
    iexact Hh
  iintro ⟨Hb, Hh⟩
  ihave Hsl : slot thr xs x2 buf sem q x none $$ [Hb Hx Hv]
  · unfold slot holdBuf
    icases Hb with ⟨%f, -, Hb⟩
    isplitl [Hv]; · iexact Hv
    isplitl [Hb]; · iexists f; iexact Hb
    iexact Hx
  ihave HO : iprop(∃ W', ⌜∀ p ∈ W', p ∈ W ∨ p.2 = none⌝ ∗ owes thr O W') $$ [HO]
  · iexists (insert (SemLoc.dma sem.sem, none) W')
    isplitr
    · ipureintro
      intro p hp
      rcases Finset.mem_insert.mp hp with rfl | hp
      · exact .inr rfl
      · exact hW p hp
    iexact HO
  by_cases hc : c = 1#1
  · rw [dif_pos hc]
    rw [if_pos hc]
    iapply (wp_start thr xs x2 buf sem q x hx off (hoff hc)) $$ Hsl
    iintro Hsl
    iapply Hk
    isplitl [Hsl]; · iexact Hsl
    isplitl [Hh]; · iexact Hh
    iexact HO
  · rw [dif_neg hc]
    rw [if_neg hc]
    iapply Hk
    isplitl [Hsl]; · iexact Hsl
    isplitl [Hh]; · iexact Hh
    iexact HO

/-- The copy a slot has in flight when the chunk `k` of the tile's 24 is next in it. -/
def slotAt (base k : ℕ) : Option ℕ := if k < 24 then some (base + 32768 * k) else none

variable (b0 b1 : Memref sig thr.2.kind .vmem S32768 .f32) (hb0 : b0.IsWhole) (hb1 : b1.IsWhole) (s0 s1 : DmaSems sig S_) (q0 q1 : PosShare TreeShare)

/-- A trip of the loop over the chunks. -/
theorem wp_pair (hx : ∀ j, x2.view.read (Elt F) x j = xs (j 0).val) (o base n k : ℕ) (hk : k + 1 < 24) (hn : base + 32768 * k = o + 16 * n)
    (O : CellTallies nD τ sig (HIx 1)) (W : Waits sig (HIx 1)) (hO : ∀ g, O g none = 0)
    (c0 c1 : BitVec 1) (off0 off1 : Fin 1 → ℕ) (hoff0 : c0 = 1#1 → ∀ a, off0 a + S32768.size a ≤ S25165824.size a)
    (hoff1 : c1 = 1#1 → ∀ a, off1 a + S32768.size a ≤ S25165824.size a)
    (hc0 : c0 = 1#1 ↔ k + 2 < 24) (hc1 : c1 = 1#1 ↔ k + 3 < 24) (he0 : off0 0 = base + 32768 * (k + 2)) (he1 : off1 0 = base + 32768 * (k + 3))
    (Q : Unit → sProp (MM F)) :
    iprop(levAts (K (F := F)).L (K (F := F)).lev ∗ slot thr xs x2 b0 s0 q0 x (slotAt base k) ∗ slot thr xs x2 b1 s1 q1 x (slotAt base (k + 1))
        ∗ hold thr h (histN xs o n) ∗ owesIn thr O W)
      ⊢ iprop((slot thr xs x2 b0 s0 q0 x (slotAt base (k + 2)) ∗ slot thr xs x2 b1 s1 q1 x (slotAt base (k + 3))
            ∗ hold thr h (histN xs o (n + 4096)) ∗ owesIn thr O W -∗ Q ⟨⟩)
          -∗ wp frame (wpE (defs₀ (F := F)) 𝒱₀ thr none) Set.univ
              (pairProg x2 b0 hb0 b1 hb1 s0 s1 h hs lanes c0 c1 off0 off1 hoff0 hoff1) Q) := by
  have e0 : slotAt base k = some (base + 32768 * k) := if_pos (by omega)
  have e1 : slotAt base (k + 1) = some (base + 32768 * (k + 1)) := if_pos hk
  have e2 : (if c0 = 1#1 then some (off0 0) else none) = slotAt base (k + 2) := by
    unfold slotAt; rw [he0]; exact if_congr hc0 rfl rfl
  have e3 : (if c1 = 1#1 then some (off1 0) else none) = slotAt base (k + 3) := by
    unfold slotAt; rw [he1]; exact if_congr hc1 rfl rfl
  rw [e0, e1]
  iintro ⟨#Hlv, H0, H1, Hh, HO⟩ Hk
  unfold pairProg
  iapply (wp_half thr xs x2 b0 hb0 s0 h hs q0 x hx o (base + 32768 * k) n hn O W hO) $$ [H0 Hh HO]
  · isplitr; · iexact Hlv
    isplitl [H0]; · iexact H0
    isplitl [Hh]; · iexact Hh
    iexact HO
  iintro ⟨H0, Hh, HO⟩
  iapply (wp_half thr xs x2 b1 hb1 s1 h hs q1 x hx o (base + 32768 * (k + 1)) (n + 2048) (by omega) O W hO) $$ [H1 Hh HO]
  · isplitr; · iexact Hlv
    isplitl [H1]; · iexact H1
    isplitl [Hh]; · iexact Hh
    iexact HO
  iintro ⟨H1, Hh, HO⟩
  rw [e2, e3]
  iapply (le_wp_ret _ _ _ _ _)
  iapply Hk
  isplitl [H0]; · iexact H0
  isplitl [H1]; · iexact H1
  isplitl [Hh]; · iexact Hh
  iexact HO

/-- A channel: four trips, eight chunks, its whole histogram. -/
theorem wp_chan (hx : ∀ j, x2.view.read (Elt F) x j = xs (j 0).val) (base ch : ℕ) (hch : ch < 3)
    (O : CellTallies nD τ sig (HIx 1)) (W : Waits sig (HIx 1)) (hO : ∀ g, O g none = 0)
    (lp : Scf.Loop 32) (hok : lp.OK) (h4 : lp.trips = 4) (body : Fin lp.trips → Unit → Prog (TpuEff nD τ sig (Elt F) Λ₀ thr.2) Unit)
    (c0 c1 : Fin lp.trips → BitVec 1) (off0 off1 : Fin lp.trips → Fin 1 → ℕ)
    (hoff0 : ∀ t, c0 t = 1#1 → ∀ a, off0 t a + S32768.size a ≤ S25165824.size a)
    (hoff1 : ∀ t, c1 t = 1#1 → ∀ a, off1 t a + S32768.size a ≤ S25165824.size a)
    (hbody : ∀ t, body t () = pairProg x2 b0 hb0 b1 hb1 s0 s1 h hs lanes (c0 t) (c1 t) (off0 t) (off1 t) (hoff0 t) (hoff1 t))
    (hc0 : ∀ t, c0 t = 1#1 ↔ 8 * ch + 2 * t.val + 2 < 24) (hc1 : ∀ t, c1 t = 1#1 ↔ 8 * ch + 2 * t.val + 3 < 24)
    (he0 : ∀ t, off0 t 0 = base + 32768 * (8 * ch + 2 * t.val + 2)) (he1 : ∀ t, off1 t 0 = base + 32768 * (8 * ch + 2 * t.val + 3))
    {β : Type} (k : Unit → Prog (TpuEff nD τ sig (Elt F) Λ₀ thr.2) β) (Q : β → sProp (MM F)) :
    iprop(levAts (K (F := F)).L (K (F := F)).lev ∗ slot thr xs x2 b0 s0 q0 x (slotAt base (8 * ch)) ∗ slot thr xs x2 b1 s1 q1 x (slotAt base (8 * ch + 1))
        ∗ hold thr h (histN xs (base + 262144 * ch) 0) ∗ owesIn thr O W)
      ⊢ iprop((slot thr xs x2 b0 s0 q0 x (slotAt base (8 * (ch + 1))) ∗ slot thr xs x2 b1 s1 q1 x (slotAt base (8 * (ch + 1) + 1))
            ∗ hold thr h (histN xs (base + 262144 * ch) 16384) ∗ owesIn thr O W
            -∗ wp frame (wpE (defs₀ (F := F)) 𝒱₀ thr none) Set.univ (k ⟨⟩) Q)
          -∗ wp frame (wpE (defs₀ (F := F)) 𝒱₀ thr none) Set.univ (Scf.Loop.for lp hok ⟨⟩ body >>= k) Q) := by
  iintro ⟨#Hlv, H⟩ Hk
  iapply (Scf.wp_for_bind frame (wpE (defs₀ (F := F)) 𝒱₀ thr none) Set.univ lp.lb lp.ub lp.st hok (⟨⟩ : Unit) body
    (fun j _ => iprop(levAts (K (F := F)).L (K (F := F)).lev ∗ slot thr xs x2 b0 s0 q0 x (slotAt base (8 * ch + 2 * j)) ∗ slot thr xs x2 b1 s1 q1 x (slotAt base (8 * ch + 2 * j + 1))
        ∗ hold thr h (histN xs (base + 262144 * ch) (4096 * j)) ∗ owesIn thr O W)) ?_) $$ [H]
  · intro t acc
    have ht : t.val < 4 := h4 ▸ t.isLt
    rw [show acc = () from rfl, hbody t]
    iintro ⟨#Hlv, H⟩
    iapply (wp_pair thr xs x2 h hs x b0 b1 hb0 hb1 s0 s1 q0 q1 hx (base + 262144 * ch) base (4096 * t.val) (8 * ch + 2 * t.val) (by omega) (by omega) O W hO
      (c0 t) (c1 t) (off0 t) (off1 t) (hoff0 t) (hoff1 t) (hc0 t) (hc1 t) (he0 t) (he1 t)) $$ [H]
    · isplitr; · iexact Hlv
      iexact H
    iintro H
    isplitr; · iexact Hlv
    iexact H
  · isplitr; · iexact Hlv
    iexact H
  · rw [show Scf.trips lp.lb lp.ub lp.st = 4 from h4]
    iintro %acc ⟨-, H⟩
    iapply Hk
    iexact H

end WP

end Cert.Proof.Hist

end
-- ==== Proof.Row.lean ====
/-
  Before and after the histograms are filled: the loop that clears the three histogram buffers, sixteen words of each a
  trip, and the copy of a filled buffer to its stretch of the tile's row of the result.
-/
module

public import Idealize.ShloMosaic.Lib.ViewIndex
public import proofs.«01_k».proof.Proof.Pair

@[expose] public section

noncomputable section

namespace Cert.Proof.Hist

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline
open Idealize.ShloMosaic.SparseCore.Cfg (HIx)

variable {F : FTy → Type} [FloatOps F]

/-! ## The programs -/

section Prog

variable {p : Proc τ}

/-- A zero vector stored at a trip's stretch of a histogram buffer (the stretch is read first, and not used). -/
def zeroP (h : Memref sig p.kind .vmem S4224 .f32) (off : Fin 1 → ℕ) (hoff : ∀ a, off a + S16.size a ≤ S4224.size a)
    (rest : Prog (TpuEff nD τ sig (Elt F) Λ₀ p) Unit) : Prog (TpuEff nD τ sig (Elt F) Λ₀ p) Unit :=
  .op (.load h (Rect.unit (s := S4224) off S16.size hoff).toLoadRect (View.loadsAt_vmem h_S16)) fun _ =>
    .op (.store h (Rect.unit (s := S4224) off S16.size hoff) (k0_pay236 (F := F)) Finset.univ (View.stores_vmem_bits_univ h_S16 rfl) (.inl rfl)) fun _ => rest

/-- The stretch of a row of the result that starts at `off`. -/
abbrev stretch (x3 : Memref sig p.kind .hbm S32x12672 .f32) (off : Fin 2 → ℕ) (hoff : ∀ a, off a + S1x4224.size a ≤ S32x12672.size a) :
    Memref sig p.kind .hbm S4224 .f32 :=
  (x3.slice (Rect.unit (s := S32x12672) off S1x4224.size hoff) (fun _ => rfl)).squeeze S4224 squeezes_S1x4224_S4224

/-- A histogram buffer copied out, and the copy waited for. -/
def outP (h : Memref sig p.kind .vmem S4224 .f32) (hh : h.IsWhole) (x3 : Memref sig p.kind .hbm S32x12672 .f32) (off : Fin 2 → ℕ)
    (hoff : ∀ a, off a + S1x4224.size a ≤ S32x12672.size a) (sem : DmaSems sig S_)
    (rest : Prog (TpuEff nD τ sig (Elt F) Λ₀ p) Unit) : Prog (TpuEff nD τ sig (Elt F) Λ₀ p) Unit :=
  .op (.enqueueDma h (.here (stretch x3 off hoff)) (.dma sem.sem) hh.wordExact ((View.wordExact_bits rfl).reshape _ _) ⟨Or.inl rfl, trivial⟩) fun _ =>
    .op (.waitDma2 sem.sem h (stretch x3 off hoff) hh.wordExact ((View.wordExact_bits rfl).reshape _ _)) fun _ => rest

end Prog

section Same

variable (i : grid0.Coords) (arg2 : Memref sig .scVector .hbm S25165824 .f32) (harg2 : arg2.IsWhole) (arg3 : Memref sig .scVector .hbm S32x12672 .f32)
  (harg3 : arg3.IsWhole) (arg4 : Memref sig .scVector .vmem S32768 .f32) (harg4 : arg4.IsWhole) (arg5 : Memref sig .scVector .vmem S32768 .f32)
  (harg5 : arg5.IsWhole) (arg6 : Memref sig .scVector .vmem S4224 .f32) (harg6 : arg6.IsWhole) (arg7 : Memref sig .scVector .vmem S4224 .f32)
  (harg7 : arg7.IsWhole) (arg8 : Memref sig .scVector .vmem S4224 .f32) (harg8 : arg8.IsWhole) (arg9 arg10 v19_r0 v19_r1 v19_r2 : DmaSems sig S_)

set_option maxRecDepth 65536

theorem t1_body_eq (t : Fin k0_t1_loop.trips) :
    k0_t1_body (F := F) i arg2 harg2 arg3 harg3 arg4 harg4 arg5 harg5 arg6 harg6 arg7 harg7 arg8 harg8 arg9 arg10 v19_r0 v19_r1 v19_r2 t ()
      = zeroP (p := .scVector ((i 0).castLE hcore0) ((i 1).castLE hsub0)) arg6 (k0_off1 t) (k0_off1_inb t)
          (zeroP arg7 (k0_off1 t) (k0_off1_inb t) (zeroP arg8 (k0_off1 t) (k0_off1_inb t) (.ret ⟨⟩))) := by chain_rfl

end Same

/-! ## What they do -/

section WP

variable (thr : Thread nD τ)

/-- A histogram buffer whose first `n` words are zero. -/
def holdZ (h : Memref sig thr.2.kind .vmem S4224 .f32) (n : ℕ) : sProp (MM F) :=
  iprop(∃ f : Buf (Elt F) (h.view.loc thr), ⌜∀ y : S4224.Idx, (y 0).val < n → h.view.read (Elt F) f y = (Scalar.ofBits .f32 0x00000000#32 : F .f32)⌝
    ∗ (h.view.loc thr ↦[h.view.set]{fullShare} f))

variable (h : Memref sig thr.2.kind .vmem S4224 .f32)

theorem set_access_whole : (h.access (.whole S4224)).set = h.view.set := by
  show (h.view.slice (.whole S4224)).set = _
  rw [View.set_slice, Rect.set_whole]
  rfl

theorem read_access_whole (f : Buf (Elt F) (h.view.loc thr)) (y : S4224.Idx) :
    (h.access (.whole S4224)).read (Elt F) f y = h.view.read (Elt F) f y := by
  show h.view.read (Elt F) f ((Rect.whole S4224).emb y) = _
  rw [Rect.emb_whole_apply]

theorem holdZ_hold (xs : ℕ → Elt F .f32) (o : ℕ) : holdZ thr h 4224 ⊢ (hold thr h (histN xs o 0) : sProp (MM F)) := by
  unfold holdZ hold
  iintro ⟨%f, %hf, H⟩
  iexists f
  isplitr
  · ipureintro
    funext y
    exact (read_access_whole thr h f y).trans (hf y (y 0).isLt)
  rw [set_access_whole]
  iexact H

theorem wp_zeroP (off : Fin 1 → ℕ) (hoff : ∀ a, off a + S16.size a ≤ S4224.size a) (n : ℕ) (hn : off 0 = n)
    (rest : Prog (TpuEff nD τ sig (Elt F) Λ₀ thr.2) Unit) (Q : Unit → sProp (MM F)) :
    holdZ thr h n
      ⊢ iprop((holdZ thr h (n + 16) -∗ wp frame (wpE (defs₀ (F := F)) 𝒱₀ thr none) Set.univ rest Q)
          -∗ wp frame (wpE (defs₀ (F := F)) 𝒱₀ thr none) Set.univ (zeroP h off hoff rest) Q) := by
  unfold holdZ
  iintro ⟨%f, %hf, H⟩ Hk
  unfold zeroP
  iapply (wp_load (defs := defs₀ (F := F)) 𝒱₀ thr none Set.univ (m := h) (S := h.view.set) (View.setOn_subset_set _ _)) $$ H
  iintro H
  iapply (wp_store (defs := defs₀ (F := F)) 𝒱₀ thr none Set.univ (m := h) (r := Rect.unit (s := S4224) off S16.size hoff) (S := h.view.set)
    ((View.setOn_subset_set _ _).trans (View.set_slice_subset _ _))) $$ H
  iintro H
  iapply Hk
  iexists ((h.access (Rect.unit (s := S4224) off S16.size hoff)).write (Elt F) f (k0_pay236 (F := F)) Finset.univ)
  isplitr
  · ipureintro
    intro y hy
    by_cases hyn : (y 0).val < n
    · refine (View.read_slice_write_of_not_mem (v := h.view) _ _ _ _ ?_).trans (hf y hyn)
      intro hm
      obtain ⟨z, -, hz⟩ := Finset.mem_map.mp hm
      have h0 := congrArg (fun y : S4224.Idx => (y 0).val) hz
      have h1 : off 0 + 1 * (z 0).val = (y 0).val := h0
      omega
    · have hz : (Rect.unit (s := S4224) off S16.size hoff).emb (fun a => ⟨(y a).val - n, by
          obtain rfl : a = 0 := Subsingleton.elim _ _
          show (y 0).val - n < 16
          omega⟩) = y := by
        apply Shape.idx1_ext
        show off 0 + 1 * ((y 0).val - n) = (y 0).val
        omega
      rw [← hz]
      exact View.read_slice_write_emb (v := h.view) _ _ _ (Finset.mem_univ _)
  iexact H

/-- The clearing loop: the three buffers, any contents, become three empty histograms. -/
theorem wp_zeros (h' h'' : Memref sig thr.2.kind .vmem S4224 .f32) (body : Fin k0_t1_loop.trips → Unit → Prog (TpuEff nD τ sig (Elt F) Λ₀ thr.2) Unit)
    (hbody : ∀ t, body t () = zeroP h (k0_off1 t) (k0_off1_inb t) (zeroP h' (k0_off1 t) (k0_off1_inb t) (zeroP h'' (k0_off1 t) (k0_off1_inb t) (.ret ⟨⟩))))
    (xs : ℕ → Elt F .f32) (o o' o'' : ℕ) {β : Type} (k : Unit → Prog (TpuEff nD τ sig (Elt F) Λ₀ thr.2) β) (Q : β → sProp (MM F)) :
    iprop((∃ f, h.view.loc thr ↦[h.view.set]{fullShare} f) ∗ (∃ f, h'.view.loc thr ↦[h'.view.set]{fullShare} f)
        ∗ (∃ f, h''.view.loc thr ↦[h''.view.set]{fullShare} f))
      ⊢ iprop((hold thr h (histN xs o 0) ∗ hold thr h' (histN xs o' 0) ∗ hold thr h'' (histN xs o'' 0)
            -∗ wp frame (wpE (defs₀ (F := F)) 𝒱₀ thr none) Set.univ (k ⟨⟩) Q)
          -∗ wp frame (wpE (defs₀ (F := F)) 𝒱₀ thr none) Set.univ (Scf.Loop.for k0_t1_loop k0_t1_ok ⟨⟩ body >>= k) Q) := by
  have z0 : ∀ (g : Memref sig thr.2.kind .vmem S4224 .f32), iprop(∃ f, g.view.loc thr ↦[g.view.set]{fullShare} f) ⊢ (holdZ thr g (16 * 0) : sProp (MM F)) := by
    intro g
    unfold holdZ
    iintro ⟨%f, H⟩
    iexists f
    isplitr
    · ipureintro; intro y hy; omega
    iexact H
  iintro ⟨H, H', H''⟩ Hk
  iapply (Scf.wp_for_bind frame (wpE (defs₀ (F := F)) 𝒱₀ thr none) Set.univ k0_t1_loop.lb k0_t1_loop.ub k0_t1_loop.st k0_t1_ok (⟨⟩ : Unit)
    body (fun j _ => iprop(holdZ thr h (16 * j) ∗ holdZ thr h' (16 * j) ∗ holdZ thr h'' (16 * j))) ?_) $$ [H H' H'']
  · intro t acc
    rw [show acc = () from rfl, hbody t]
    have ht : k0_off1 t 0 = 16 * t.val := congrFun (k0_off1_eq t) 0
    iintro ⟨H, H', H''⟩
    iapply (wp_zeroP thr h _ _ _ ht) $$ H
    iintro H
    iapply (wp_zeroP thr h' _ _ _ ht) $$ H'
    iintro H'
    iapply (wp_zeroP thr h'' _ _ _ ht) $$ H''
    iintro H''
    iapply (le_wp_ret _ _ _ _ _)
    isplitl [H]; · iexact H
    isplitl [H']; · iexact H'
    iexact H''
  · isplitl [H]; · iapply (z0 h) $$ H
    isplitl [H']; · iapply (z0 h') $$ H'
    iapply (z0 h'') $$ H''
  · rw [show Scf.trips k0_t1_loop.lb k0_t1_loop.ub k0_t1_loop.st = 264 by decide]
    iintro %acc ⟨H, H', H''⟩
    iapply Hk
    isplitl [H]; · iapply (holdZ_hold thr h xs o) $$ H
    isplitl [H']; · iapply (holdZ_hold thr h' xs o') $$ H'
    iapply (holdZ_hold thr h'' xs o'') $$ H''

/-! ### The result's row -/

/-- The words of row `r` of the result. -/
def rowSet (r : ℕ) : Finset S32x12672.Idx := Finset.univ.filter fun j => (j 0).val = r

/-- Row `r` of the result, its first `n` words those of `G`. -/
def rowAt (x3 : Memref sig thr.2.kind .hbm S32x12672 .f32) (r : ℕ) (G : S32x12672.Idx → Elt F .f32) (n : ℕ) : sProp (MM F) :=
  iprop(∃ f : Buf (Elt F) (x3.view.loc thr), ⌜∀ j : S32x12672.Idx, (j 0).val = r → (j 1).val < n → x3.view.read (Elt F) f j = G j⌝
    ∗ (x3.view.loc thr ↦[x3.view.setOn (rowSet r)]{fullShare} f))

variable (x3 : Memref sig thr.2.kind .hbm S32x12672 .f32)

theorem stretch_emb (off : Fin 2 → ℕ) (hoff : ∀ a, off a + S1x4224.size a ≤ S32x12672.size a) (y : S4224.Idx) :
    (stretch x3 off hoff).view.emb y
      = x3.view.emb ((Rect.unit (s := S32x12672) off S1x4224.size hoff).emb (Fin.cons ⟨0, Nat.one_pos⟩ y)) := by
  have e : Shape.reshapeEquiv (s := S1x4224) (s' := S4224) squeezes_S1x4224_S4224.numel_eq y = Fin.cons ⟨0, Nat.one_pos⟩ y :=
    Shape.reshapeEquiv_cons_one _ y
  show x3.view.emb ((Rect.unit (s := S32x12672) off S1x4224.size hoff).emb (Shape.reshapeEquiv (s := S1x4224) (s' := S4224) squeezes_S1x4224_S4224.numel_eq y)) = _
  rw [e]

/-- A filled buffer copied out: the row's next 4224 words are the buffer's. -/
theorem wp_outP (hh : h.IsWhole) (off : Fin 2 → ℕ) (hoff : ∀ a, off a + S1x4224.size a ≤ S32x12672.size a) (sem : DmaSems sig S_)
    (r n : ℕ) (hr : off 0 = r) (hn : off 1 = n) (G : S32x12672.Idx → Elt F .f32) (H : Vec F S4224 .f32)
    (hG : ∀ (j : S32x12672.Idx) (y : S4224.Idx), (j 0).val = r → (j 1).val = n + (y 0).val → G j = H y)
    (O : CellTallies nD τ sig (HIx 1)) (W : Waits sig (HIx 1)) (hO : ∀ g, O g none = 0)
    (rest : Prog (TpuEff nD τ sig (Elt F) Λ₀ thr.2) Unit) (Q : Unit → sProp (MM F)) :
    iprop(levAts (K (F := F)).L (K (F := F)).lev ∗ hold thr h H ∗ rowAt thr x3 r G n ∗ semVal (thr, .dma sem.sem) 0 ∗ owesIn thr O W)
      ⊢ iprop((hold thr h H ∗ rowAt thr x3 r G (n + 4224) ∗ semVal (thr, .dma sem.sem) 0 ∗ owesIn thr O W
            -∗ wp frame (wpE (defs₀ (F := F)) 𝒱₀ thr none) Set.univ rest Q)
          -∗ wp frame (wpE (defs₀ (F := F)) 𝒱₀ thr none) Set.univ (outP h hh x3 off hoff sem rest) Q) := by
  have hSd : (stretch x3 off hoff).view.set ⊆ x3.view.setOn (rowSet r) := by
    intro i hi
    obtain ⟨y, -, rfl⟩ := Finset.mem_map.mp hi
    rw [stretch_emb]
    refine Finset.mem_map_of_mem _ (Finset.mem_filter.mpr ⟨Finset.mem_univ _, ?_⟩)
    show off 0 + 1 * 0 = r
    omega
  unfold hold rowAt owesIn
  rw [set_access_whole]
  iintro ⟨#Hlv, ⟨%f, %hf, Hh⟩, ⟨%g, %hg, Hg⟩, Hv, ⟨%W', %hW, HO⟩⟩ Hk
  unfold outP
  iapply (Transfers.wp_dmaLocal EC (defs := defs₀ (F := F)) 𝒱₀ thr none (src := h) (dst := stretch x3 off hoff) (sm := .dma sem.sem) (via := .same)
    none (stretch x3 off hoff).view.dmaCredit rfl (View.dmaCredit_pos _ (by decide)) hSd) $$ [Hh Hg Hv]
  · isplitl [Hh]; · iexact Hh
    isplitl [Hg]; · iexact Hg
    iexact Hv
  iintro Hf
  ihave Hmw := ((K (F := F)).mayWaits_none (thr := thr) hO) $$ Hlv
  ihave Hmw' := (Transfers.MayWaits.elim (SemLoc.dma sem.sem)) $$ Hmw
  iapply (Transfers.wp_waitLocalO EC (defs := defs₀ (F := F)) 𝒱₀ thr none none rfl) $$ [Hf HO Hmw']
  · isplitl [Hf]; · iexact Hf
    isplitl [HO]; · iexact HO
    iexact Hmw'
  iintro ⟨⟨Hg, Hh⟩, Hv, HO⟩
  iapply Hk
  isplitl [Hh]
  · iexists f
    isplitr; · ipureintro; exact hf
    iexact Hh
  isplitl [Hg]
  · iexists ((stretch x3 off hoff).view.write (Elt F) g (h.view.read (Elt F) f) Finset.univ)
    isplitr
    · ipureintro
      intro j hj0 hj1
      by_cases hjn : (j 1).val < n
      · refine Eq.trans ?_ (hg j hj0 hjn)
        rw [View.read_apply, View.read_apply, View.write_of_not_mem]
        intro hm
        obtain ⟨y, -, hy⟩ := Finset.mem_map.mp hm
        rw [stretch_emb] at hy
        have h1 := congrArg (fun j : S32x12672.Idx => (j 1).val) (x3.view.emb.injective hy)
        have h2 : off 1 + 1 * (y 0).val = (j 1).val := h1
        omega
      · have hlt : (j 1).val - n < 4224 := by omega
        let y : S4224.Idx := fun a => ⟨(j 1).val - n, by
          obtain rfl : a = 0 := Subsingleton.elim _ _
          exact hlt⟩
        have hz : (Rect.unit (s := S32x12672) off S1x4224.size hoff).emb (Fin.cons ⟨0, Nat.one_pos⟩ y) = j := by
          funext a
          apply Fin.ext
          match a with
          | ⟨0, _⟩ => show off 0 + 1 * 0 = (j 0).val; omega
          | ⟨1, _⟩ => show off 1 + 1 * ((j 1).val - n) = (j 1).val; omega
        have hw := View.write_emb_of_mem (v := (stretch x3 off hoff).view) (Val := Elt F) g (h.view.read (Elt F) f) (Finset.mem_univ y)
        rw [stretch_emb, hz] at hw
        rw [hG j y hj0 (by show _ = n + ((j 1).val - n); omega), ← hf, read_access_whole]
        rw [View.read_apply, hw, cast_cast, cast_eq]
    iexact Hg
  isplitl [Hv]; · iexact Hv
  iexists (insert (SemLoc.dma sem.sem, none) W')
  isplitr
  · ipureintro
    intro p hp
    rcases Finset.mem_insert.mp hp with rfl | hp
    · exact .inr rfl
    · exact hW p hp
  iexact HO

end WP

end Cert.Proof.Hist

end
-- ==== Proof.Tile.lean ====
/-
  A tile's whole task: clear the three histograms, count the tile's three channels, copy the histograms out. The tile at
  core `i 0` and subcore `i 1` does image `2 · i 1 + i 0`.
-/
module

public import proofs.«01_k».proof.Proof.Row

@[expose] public section

noncomputable section

namespace Cert.Proof.Hist

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline
open Idealize.ShloMosaic.SparseCore.Cfg (HIx)

variable {F : FTy → Type} [FloatOps F]

/-- What the histogram call computes, of the flat pixels `xs`: in row `b`, at stretch `ch`, the lane-split histogram of
    channel `ch` of image `b`. -/
def histOut (xs : ℕ → Elt F .f32) (j : S32x12672.Idx) : Elt F .f32 :=
  histN xs (786432 * (j 0).val + 262144 * ((j 1).val / 4224)) 16384 (fun a => ⟨(j 1).val % 4224, by
    obtain rfl : a = 0 := Subsingleton.elim _ _
    exact Nat.mod_lt _ (Nat.succ_pos 4223)⟩)

/-- The first word of the tile's image. -/
def base0 (i : grid0.Coords) : ℕ := 1572864 * (i 1).val + 786432 * (i 0).val

theorem base0_eq (i : grid0.Coords) (a b : ℕ) (h : a = b) : 1572864 * (i 1).val + 786432 * (i 0).val + a = base0 i + b := by
  unfold base0; rw [h]

theorem vec_one (a : ℕ) : (![a] : Fin 1 → ℕ) 0 = a := rfl

theorem off2a (i : grid0.Coords) : k0_off2 i 0#32 0 = base0 i + 32768 * (8 * 0) :=
  (congrFun (k0_off2_eq i 0) 0).trans ((vec_one _).trans (base0_eq i _ _ rfl))
theorem off2b (i : grid0.Coords) : k0_off2 i 32768#32 0 = base0 i + 32768 * (8 * 0 + 1) :=
  (congrFun (k0_off2_eq i 1) 0).trans ((vec_one _).trans (base0_eq i _ _ rfl))
theorem off4 (i : grid0.Coords) (t : Fin k0_t2_loop.trips) : k0_off4 i t 0 = base0 i + 32768 * (8 * 0 + 2 * t.val + 2) :=
  (congrFun (k0_off4_eq i t) 0).trans ((vec_one _).trans ((add_assoc _ _ _).trans (base0_eq i _ _ (by omega))))
theorem off6 (i : grid0.Coords) (t : Fin k0_t2_loop.trips) : k0_off6 i t 0 = base0 i + 32768 * (8 * 0 + 2 * t.val + 3) :=
  (congrFun (k0_off6_eq i t) 0).trans ((vec_one _).trans ((add_assoc _ _ _).trans (base0_eq i _ _ (by omega))))
theorem off8 (i : grid0.Coords) (t : Fin k0_t5_loop.trips) : k0_off8 i t 0 = base0 i + 32768 * (8 * 1 + 2 * t.val + 2) :=
  (congrFun (k0_off8_eq i t) 0).trans ((vec_one _).trans ((add_assoc _ _ _).trans (base0_eq i _ _ (by omega))))
theorem off10 (i : grid0.Coords) (t : Fin k0_t5_loop.trips) : k0_off10 i t 0 = base0 i + 32768 * (8 * 1 + 2 * t.val + 3) :=
  (congrFun (k0_off10_eq i t) 0).trans ((vec_one _).trans ((add_assoc _ _ _).trans (base0_eq i _ _ (by omega))))
theorem off12 (i : grid0.Coords) (t : Fin k0_t8_loop.trips) : k0_off12 i t 0 = base0 i + 32768 * (8 * 2 + 2 * t.val + 2) :=
  (congrFun (k0_off12_eq i t) 0).trans ((vec_one _).trans ((add_assoc _ _ _).trans (base0_eq i _ _ (by omega))))
theorem off14 (i : grid0.Coords) (t : Fin k0_t8_loop.trips) : k0_off14 i t 0 = base0 i + 32768 * (8 * 2 + 2 * t.val + 3) :=
  (congrFun (k0_off14_eq i t) 0).trans ((vec_one _).trans ((add_assoc _ _ _).trans (base0_eq i _ _ (by omega))))

theorem trips2 : k0_t2_loop.trips = 4 := by decide
theorem trips5 : k0_t5_loop.trips = 4 := by decide
theorem trips8 : k0_t8_loop.trips = 4 := by decide
theorem cond1 : ∀ t : Fin k0_t2_loop.trips, k0_cond1 t = 1#1 ↔ 8 * 0 + 2 * t.val + 2 < 24 := by decide +kernel
theorem cond2 : ∀ t : Fin k0_t2_loop.trips, k0_cond2 t = 1#1 ↔ 8 * 0 + 2 * t.val + 3 < 24 := by decide +kernel
theorem cond3 : ∀ t : Fin k0_t5_loop.trips, k0_cond3 t = 1#1 ↔ 8 * 1 + 2 * t.val + 2 < 24 := by decide +kernel
theorem cond4 : ∀ t : Fin k0_t5_loop.trips, k0_cond4 t = 1#1 ↔ 8 * 1 + 2 * t.val + 3 < 24 := by decide +kernel
theorem cond5 : ∀ t : Fin k0_t8_loop.trips, k0_cond5 t = 1#1 ↔ 8 * 2 + 2 * t.val + 2 < 24 := by decide +kernel
theorem cond6 : ∀ t : Fin k0_t8_loop.trips, k0_cond6 t = 1#1 ↔ 8 * 2 + 2 * t.val + 3 < 24 := by decide +kernel

theorem slotAt_lt (base k : ℕ) (h : k < 24) : slotAt base k = some (base + 32768 * k) := if_pos h

theorem slotAt_ge (base k : ℕ) (h : ¬ k < 24) : slotAt base k = none := if_neg h

/-- A buffer's first copy started. -/
def startP {p : Proc τ} (x2 : Memref sig p.kind .hbm S25165824 .f32) (buf : Memref sig p.kind .vmem S32768 .f32) (hbuf : buf.IsWhole) (sem : DmaSems sig S_)
    (off : Fin 1 → ℕ) (hoff : ∀ a, off a + S32768.size a ≤ S25165824.size a)
    (rest : Prog (TpuEff nD τ sig (Elt F) Λ₀ p) Unit) : Prog (TpuEff nD τ sig (Elt F) Λ₀ p) Unit :=
  .op (.enqueueDma (x2.slice (Rect.unit (s := S25165824) off S32768.size hoff) (fun _ => rfl)) (.here buf) (.dma sem.sem)
    (View.wordExact_bits rfl) hbuf.wordExact ⟨Or.inl rfl, trivial⟩) fun _ => rest

theorem wp_startP (thr : Thread nD τ) (xs : ℕ → Elt F .f32) (x2 : Memref sig thr.2.kind .hbm S25165824 .f32) (buf : Memref sig thr.2.kind .vmem S32768 .f32)
    (hbuf : buf.IsWhole) (sem : DmaSems sig S_) (q : PosShare TreeShare) (x : Buf (Elt F) (x2.view.loc thr))
    (hx : ∀ j, x2.view.read (Elt F) x j = xs (j 0).val) (off : Fin 1 → ℕ) (hoff : ∀ a, off a + S32768.size a ≤ S25165824.size a)
    (base k : ℕ) (hk : k < 24) (he : off 0 = base + 32768 * k)
    (rest : Prog (TpuEff nD τ sig (Elt F) Λ₀ thr.2) Unit) (Q : Unit → sProp (MM F)) :
    slot thr xs x2 buf sem q x none
      ⊢ iprop((slot thr xs x2 buf sem q x (slotAt base k) -∗ wp frame (wpE (defs₀ (F := F)) 𝒱₀ thr none) Set.univ rest Q)
          -∗ wp frame (wpE (defs₀ (F := F)) 𝒱₀ thr none) Set.univ (startP x2 buf hbuf sem off hoff rest) Q) := by
  rw [slotAt_lt base k hk, ← he]
  exact wp_start thr xs x2 buf sem q x hx off hoff (fun _ => rest) Q

section Body

variable (d : Dev nD) (i : grid0.Coords)

/-- The tile's thread. -/
abbrev tileThr : Thread nD τ := SparseCore.V d ((i 0).castLE hcore0) ((i 1).castLE hsub0)

variable (arg2 : Memref sig .scVector .hbm S25165824 .f32) (harg2 : arg2.IsWhole) (arg3 : Memref sig .scVector .hbm S32x12672 .f32)
  (harg3 : arg3.IsWhole) (arg4 : Memref sig .scVector .vmem S32768 .f32) (harg4 : arg4.IsWhole) (arg5 : Memref sig .scVector .vmem S32768 .f32)
  (harg5 : arg5.IsWhole) (arg6 : Memref sig .scVector .vmem S4224 .f32) (harg6 : arg6.IsWhole) (arg7 : Memref sig .scVector .vmem S4224 .f32)
  (harg7 : arg7.IsWhole) (arg8 : Memref sig .scVector .vmem S4224 .f32) (harg8 : arg8.IsWhole) (arg9 arg10 v19_r0 v19_r1 v19_r2 : DmaSems sig S_)
  (xs : ℕ → Elt F .f32) (q q0 q1 : PosShare TreeShare) (x : Buf (Elt F) (arg2.view.loc (tileThr d i)))
  (O : CellTallies nD τ sig (HIx 1)) (W : Waits sig (HIx 1))

set_option maxRecDepth 65536 in
theorem part49_eq :
    k0_part49 (F := F) i arg2 harg2 arg3 harg3 arg4 harg4 arg5 harg5 arg6 harg6 arg7 harg7 arg8 harg8 arg9 arg10 v19_r0 v19_r1 v19_r2
      = (Scf.Loop.for k0_t1_loop k0_t1_ok ⟨⟩ (k0_t1_body i arg2 harg2 arg3 harg3 arg4 harg4 arg5 harg5 arg6 harg6 arg7 harg7 arg8 harg8 arg9 arg10 v19_r0 v19_r1 v19_r2) >>= fun _ =>
        startP (p := .scVector ((i 0).castLE hcore0) ((i 1).castLE hsub0)) arg2 arg4 harg4 arg9 (k0_off2 i 0#32) (k0_off2_inb i 0)
        (startP arg2 arg5 harg5 arg10 (k0_off2 i 32768#32) (k0_off2_inb i 1)
        (Scf.Loop.for k0_t2_loop k0_t2_ok ⟨⟩ (k0_t2_body i arg2 harg2 arg3 harg3 arg4 harg4 arg5 harg5 arg6 harg6 arg7 harg7 arg8 harg8 arg9 arg10 v19_r0 v19_r1 v19_r2 lanes) >>= fun _ =>
        Scf.Loop.for k0_t5_loop k0_t5_ok ⟨⟩ (k0_t5_body i arg2 harg2 arg3 harg3 arg4 harg4 arg5 harg5 arg6 harg6 arg7 harg7 arg8 harg8 arg9 arg10 v19_r0 v19_r1 v19_r2 lanes) >>= fun _ =>
        Scf.Loop.for k0_t8_loop k0_t8_ok ⟨⟩ (k0_t8_body i arg2 harg2 arg3 harg3 arg4 harg4 arg5 harg5 arg6 harg6 arg7 harg7 arg8 harg8 arg9 arg10 v19_r0 v19_r1 v19_r2 lanes) >>= fun _ => .ret ⟨⟩))) := by
  rw [k0_part49_eq_skeleton]
  rfl

/-- Clearing and counting. -/
theorem wp_part49 (hx : ∀ j, arg2.view.read (Elt F) x j = xs (j 0).val) (hO : ∀ g, O g none = 0) :
    iprop(levAts (K (F := F)).L (K (F := F)).lev
        ∗ slot (tileThr d i) xs arg2 arg4 arg9 q0 x none ∗ slot (tileThr d i) xs arg2 arg5 arg10 q1 x none
        ∗ (∃ f, arg6.view.loc (tileThr d i) ↦[arg6.view.set]{fullShare} f) ∗ (∃ f, arg7.view.loc (tileThr d i) ↦[arg7.view.set]{fullShare} f)
        ∗ (∃ f, arg8.view.loc (tileThr d i) ↦[arg8.view.set]{fullShare} f) ∗ owesIn (tileThr d i) O W)
      ⊢ wp frame (wpE (defs₀ (F := F)) 𝒱₀ (tileThr d i) none) Set.univ
          (k0_part49 i arg2 harg2 arg3 harg3 arg4 harg4 arg5 harg5 arg6 harg6 arg7 harg7 arg8 harg8 arg9 arg10 v19_r0 v19_r1 v19_r2)
          fun _ => (iprop(slot (tileThr d i) xs arg2 arg4 arg9 q0 x none ∗ slot (tileThr d i) xs arg2 arg5 arg10 q1 x none
            ∗ hold (tileThr d i) arg6 (histN xs (base0 i + 262144 * 0) 16384) ∗ hold (tileThr d i) arg7 (histN xs (base0 i + 262144 * 1) 16384)
            ∗ hold (tileThr d i) arg8 (histN xs (base0 i + 262144 * 2) 16384) ∗ owesIn (tileThr d i) O W) : sProp (MM F)) := by
  rw [part49_eq]
  iintro ⟨#Hlv, H0, H1, H6, H7, H8, HO⟩
  iapply (wp_zeros (tileThr d i) arg6 arg7 arg8 _
    (fun t => t1_body_eq i arg2 harg2 arg3 harg3 arg4 harg4 arg5 harg5 arg6 harg6 arg7 harg7 arg8 harg8 arg9 arg10 v19_r0 v19_r1 v19_r2 t)
    xs (base0 i + 262144 * 0) (base0 i + 262144 * 1) (base0 i + 262144 * 2)) $$ [H6 H7 H8]
  · isplitl [H6]; · iexact H6
    isplitl [H7]; · iexact H7
    iexact H8
  iintro ⟨H6, H7, H8⟩
  iapply (wp_startP (tileThr d i) xs arg2 arg4 harg4 arg9 q0 x hx (k0_off2 i 0#32) _ (base0 i) (8 * 0) (by decide) (off2a i)) $$ H0
  iintro H0
  iapply (wp_startP (tileThr d i) xs arg2 arg5 harg5 arg10 q1 x hx (k0_off2 i 32768#32) _ (base0 i) (8 * 0 + 1) (by decide) (off2b i)) $$ H1
  iintro H1
  iapply (wp_chan (tileThr d i) xs arg2 arg6 (View.stores_vmem_bits_univ h_S4224 rfl) x arg4 arg5 harg4 harg5 arg9 arg10 q0 q1 hx (base0 i) 0 (by decide) O W hO
    k0_t2_loop k0_t2_ok trips2 _ k0_cond1 k0_cond2 (k0_off4 i) (k0_off6 i) (k0_off4_inb i) (k0_off6_inb i)
    (fun t => t2_body_eq i arg2 harg2 arg3 harg3 arg4 harg4 arg5 harg5 arg6 harg6 arg7 harg7 arg8 harg8 arg9 arg10 v19_r0 v19_r1 v19_r2 lanes t)
    cond1 cond2
    (off4 i)
    (off6 i)) $$ [H0 H1 H6 HO]
  · isplitr; · iexact Hlv
    isplitl [H0]; · iexact H0
    isplitl [H1]; · iexact H1
    isplitl [H6]; · iexact H6
    iexact HO
  iintro ⟨H0, H1, H6, HO⟩
  iapply (wp_chan (tileThr d i) xs arg2 arg7 (View.stores_vmem_bits_univ h_S4224 rfl) x arg4 arg5 harg4 harg5 arg9 arg10 q0 q1 hx (base0 i) 1 (by decide) O W hO
    k0_t5_loop k0_t5_ok trips5 _ k0_cond3 k0_cond4 (k0_off8 i) (k0_off10 i) (k0_off8_inb i) (k0_off10_inb i)
    (fun t => t5_body_eq i arg2 harg2 arg3 harg3 arg4 harg4 arg5 harg5 arg6 harg6 arg7 harg7 arg8 harg8 arg9 arg10 v19_r0 v19_r1 v19_r2 lanes t)
    cond3 cond4
    (off8 i)
    (off10 i)) $$ [H0 H1 H7 HO]
  · isplitr; · iexact Hlv
    isplitl [H0]; · iexact H0
    isplitl [H1]; · iexact H1
    isplitl [H7]; · iexact H7
    iexact HO
  iintro ⟨H0, H1, H7, HO⟩
  iapply (wp_chan (tileThr d i) xs arg2 arg8 (View.stores_vmem_bits_univ h_S4224 rfl) x arg4 arg5 harg4 harg5 arg9 arg10 q0 q1 hx (base0 i) 2 (by decide) O W hO
    k0_t8_loop k0_t8_ok trips8 _ k0_cond5 k0_cond6 (k0_off12 i) (k0_off14 i) (k0_off12_inb i) (k0_off14_inb i)
    (fun t => t8_body_eq i arg2 harg2 arg3 harg3 arg4 harg4 arg5 harg5 arg6 harg6 arg7 harg7 arg8 harg8 arg9 arg10 v19_r0 v19_r1 v19_r2 lanes t)
    cond5 cond6
    (off12 i)
    (off14 i)) $$ [H0 H1 H8 HO]
  · isplitr; · iexact Hlv
    isplitl [H0]; · iexact H0
    isplitl [H1]; · iexact H1
    isplitl [H8]; · iexact H8
    iexact HO
  iintro ⟨H0, H1, H8, HO⟩
  rw [slotAt_ge _ _ (show ¬ 8 * (2 + 1) < 24 by decide), slotAt_ge _ _ (show ¬ 8 * (2 + 1) + 1 < 24 by decide)]
  iapply (le_wp_ret _ _ _ _ _)
  isplitl [H0]; · iexact H0
  isplitl [H1]; · iexact H1
  isplitl [H6]; · iexact H6
  isplitl [H7]; · iexact H7
  isplitl [H8]; · iexact H8
  iexact HO

/-- The whole task. -/
theorem wp_sc_body (hx : ∀ j, arg2.view.read (Elt F) x j = xs (j 0).val) (hO : ∀ g, O g none = 0) :
    iprop(levAts (K (F := F)).L (K (F := F)).lev
        ∗ slot (tileThr d i) xs arg2 arg4 arg9 q0 x none ∗ slot (tileThr d i) xs arg2 arg5 arg10 q1 x none
        ∗ (∃ f, arg6.view.loc (tileThr d i) ↦[arg6.view.set]{fullShare} f) ∗ (∃ f, arg7.view.loc (tileThr d i) ↦[arg7.view.set]{fullShare} f)
        ∗ (∃ f, arg8.view.loc (tileThr d i) ↦[arg8.view.set]{fullShare} f)
        ∗ rowAt (tileThr d i) arg3 (2 * (i 1).val + (i 0).val) (histOut xs) 0
        ∗ semVal (tileThr d i, .dma v19_r0.sem) 0 ∗ semVal (tileThr d i, .dma v19_r1.sem) 0 ∗ semVal (tileThr d i, .dma v19_r2.sem) 0
        ∗ owesIn (tileThr d i) O W)
      ⊢ wp frame (wpE (defs₀ (F := F)) 𝒱₀ (tileThr d i) none) Set.univ
          (cc0__sc_body i arg2 harg2 arg3 harg3 arg4 harg4 arg5 harg5 arg6 harg6 arg7 harg7 arg8 harg8 arg9 arg10 v19_r0 v19_r1 v19_r2)
          fun _ => (iprop(slot (tileThr d i) xs arg2 arg4 arg9 q0 x none ∗ slot (tileThr d i) xs arg2 arg5 arg10 q1 x none
            ∗ (∃ f, arg6.view.loc (tileThr d i) ↦[arg6.view.set]{fullShare} f) ∗ (∃ f, arg7.view.loc (tileThr d i) ↦[arg7.view.set]{fullShare} f)
            ∗ (∃ f, arg8.view.loc (tileThr d i) ↦[arg8.view.set]{fullShare} f)
            ∗ rowAt (tileThr d i) arg3 (2 * (i 1).val + (i 0).val) (histOut xs) 12672
            ∗ semVal (tileThr d i, .dma v19_r0.sem) 0 ∗ semVal (tileThr d i, .dma v19_r1.sem) 0 ∗ semVal (tileThr d i, .dma v19_r2.sem) 0
            ∗ owesIn (tileThr d i) O W) : sProp (MM F)) := by
  have hG : ∀ (c o : ℕ), o = base0 i + 262144 * c → ∀ (j : S32x12672.Idx) (y : S4224.Idx), (j 0).val = 2 * (i 1).val + (i 0).val →
      (j 1).val = 4224 * c + (y 0).val → histOut xs j = histN xs o 16384 y := by
    intro c o ho j y h0 h1
    have hy : (y 0).val < 4224 := (y 0).isLt
    have hd : (j 1).val / 4224 = c := by omega
    have hm : (j 1).val % 4224 = (y 0).val := by omega
    unfold histOut
    have hoo : 786432 * (j 0).val + 262144 * ((j 1).val / 4224) = o := by
      rw [hd, h0, ho]; unfold base0; omega
    rw [hoo]
    congr 1
    exact Shape.idx1_ext hm
  have hout : ∀ h : Memref sig .scVector .vmem S4224 .f32, ∀ H : Vec F S4224 .f32,
      hold (tileThr d i) h H ⊢ (iprop(∃ f, h.view.loc (tileThr d i) ↦[h.view.set]{fullShare} f) : sProp (MM F)) := by
    intro h H
    unfold hold
    rw [set_access_whole (tileThr d i) h]
    iintro ⟨%f, -, H⟩
    iexists f
    iexact H
  rw [cc0__sc_body_eq_skeleton]
  unfold cc0__sc_body_skel
  iintro ⟨#Hlv, H0, H1, H6, H7, H8, Hr, Hs0, Hs1, Hs2, HO⟩
  rw [wp_bind]
  ihave Hw := (wp_part49 d i arg2 harg2 arg3 harg3 arg4 harg4 arg5 harg5 arg6 harg6 arg7 harg7 arg8 harg8 arg9 arg10 v19_r0 v19_r1 v19_r2 xs q0 q1 x O W hx hO) $$ [H0 H1 H6 H7 H8 HO]
  · isplitr; · iexact Hlv
    isplitl [H0]; · iexact H0
    isplitl [H1]; · iexact H1
    isplitl [H6]; · iexact H6
    isplitl [H7]; · iexact H7
    isplitl [H8]; · iexact H8
    iexact HO
  iapply (wp_wand frame) $$ Hw
  iintro %u ⟨H0, H1, H6, H7, H8, HO⟩
  iapply (wp_outP (tileThr d i) arg6 arg3 harg6 (k0_off15 i) (k0_off15_inb i) v19_r0 _ 0 (congrFun (k0_off15_eq i) 0) (congrFun (k0_off15_eq i) 1)
    (histOut xs) (histN xs (base0 i + 262144 * 0) 16384) (hG 0 _ rfl) O W hO) $$ [H6 Hr Hs0 HO]
  · isplitr; · iexact Hlv
    isplitl [H6]; · iexact H6
    isplitl [Hr]; · iexact Hr
    isplitl [Hs0]; · iexact Hs0
    iexact HO
  iintro ⟨H6, Hr, Hs0, HO⟩
  iapply (wp_outP (tileThr d i) arg7 arg3 harg7 (k0_off16 i) (k0_off16_inb i) v19_r1 _ 4224 (congrFun (k0_off16_eq i) 0) (congrFun (k0_off16_eq i) 1)
    (histOut xs) (histN xs (base0 i + 262144 * 1) 16384) (hG 1 _ rfl) O W hO) $$ [H7 Hr Hs1 HO]
  · isplitr; · iexact Hlv
    isplitl [H7]; · iexact H7
    isplitl [Hr]; · iexact Hr
    isplitl [Hs1]; · iexact Hs1
    iexact HO
  iintro ⟨H7, Hr, Hs1, HO⟩
  iapply (wp_outP (tileThr d i) arg8 arg3 harg8 (k0_off17 i) (k0_off17_inb i) v19_r2 _ 8448 (congrFun (k0_off17_eq i) 0) (congrFun (k0_off17_eq i) 1)
    (histOut xs) (histN xs (base0 i + 262144 * 2) 16384) (hG 2 _ rfl) O W hO) $$ [H8 Hr Hs2 HO]
  · isplitr; · iexact Hlv
    isplitl [H8]; · iexact H8
    isplitl [Hr]; · iexact Hr
    isplitl [Hs2]; · iexact Hs2
    iexact HO
  iintro ⟨H8, Hr, Hs2, HO⟩
  iapply (le_wp_ret _ _ _ _ _)
  isplitl [H0]; · iexact H0
  isplitl [H1]; · iexact H1
  isplitl [H6]; · iapply (hout arg6 _) $$ H6
  isplitl [H7]; · iapply (hout arg7 _) $$ H7
  isplitl [H8]; · iapply (hout arg8 _) $$ H8
  isplitl [Hr]; · iexact Hr
  isplitl [Hs0]; · iexact Hs0
  isplitl [Hs1]; · iexact Hs1
  isplitl [Hs2]; · iexact Hs2
  iexact HO

end Body

end Cert.Proof.Hist

end
-- ==== Proof.Launch.lean ====
/-
  The launch's side of the histogram call: what the handshakes carry, and each tile's obligation. A tile is handed a
  share of the flat pixels and its row of the result; it brings back the share and the row at its image's histograms.
-/
module

public import proofs.«01_k».proof.Proof.Tile

@[expose] public section

noncomputable section

namespace Cert.Proof.Hist

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx ownSems0 ownBufs ownCells mem_ownCells ownRefs)

variable {F : FTy → Type} [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

abbrev v0Loc (d : Dev nD) : Loc nD τ sig := (SparseCore.T d).loc main_v0
abbrev v1Loc (d : Dev nD) : Loc nD τ sig := (SparseCore.T d).loc main_v1

/-! ## What the handshakes carry -/

/-- The pixels in row-major order, by number. -/
def flatOf (x : S25165824.Idx → Elt F .f32) (n : ℕ) : Elt F .f32 :=
  x fun a => ⟨n % 25165824, by
    obtain rfl : a = 0 := Subsingleton.elim _ _
    exact Nat.mod_lt _ (by decide)⟩

theorem flatOf_apply (x : S25165824.Idx → Elt F .f32) (j : S25165824.Idx) : x j = flatOf x (j 0).val := by
  unfold flatOf
  exact congrArg x (Shape.idx1_ext (Nat.mod_eq_of_lt (j 0).isLt).symm)

/-- The tile's share of the pixels. -/
def shareOf (c : Fin 2) (i : Fin 16) : PosShare TreeShare := Transfers.dealOf (Transfers.dealOf fullShare Finset.univ c) Finset.univ i

variable (X : (d : Dev nD) → Buf (Elt F) (v0Loc d))

abbrev pix (d : Dev nD) (c : Fin 2) (i : Fin 16) : sProp (MM F) := v0Loc d ↦{shareOf c i} X d
/-- The row of the tile at core `c` and subcore `i`. -/
abbrev row (d : Dev nD) (c : Fin 2) (i : Fin 16) (f : Buf (Elt F) (v1Loc d)) : sProp (MM F) :=
  v1Loc d ↦[rowSet (2 * i.val + c.val)]{fullShare} f
/-- What the call leaves in its result. -/
def histBuf (d : Dev nD) : Buf (Elt F) (v1Loc d) := histOut (flatOf (X d))

abbrev goOf (d : Dev nD) (c : Fin 2) (i : Fin 16) : sProp (MM F) := iprop(pix X d c i ∗ ∃ f, row d c i f)
abbrev tdOf (d : Dev nD) (c : Fin 2) (i : Fin 16) : sProp (MM F) := iprop(pix X d c i ∗ row d c i (histBuf X d))

/-- A sequencer takes what its tiles take, and brings back what they bring back. -/
def P : (K (F := F)).Pay (nD := nD) (Val := Elt F) (Name := ℕ) (U := UU) where
  st := fun q d c => match q with | 0 => bigSep Finset.univ fun i : Fin 16 => goOf X d (Fin.cast nCore_zero c) i
  dn := fun q d c => match q with | 0 => bigSep Finset.univ fun i : Fin 16 => tdOf X d (Fin.cast nCore_zero c) i
  go := fun q d c i => match q with | 0 => goOf X d (Fin.cast nCore_zero c) (Fin.cast nSub_zero i)
  td := fun q d c i => match q with | 0 => tdOf X d (Fin.cast nCore_zero c) (Fin.cast nSub_zero i)
  x := fun _ _ => iprop(emp)

instance P_storable : (P X).IsStorable where
  st q d c := match q with
    | 0 => (inferInstance : BI.Storable (upEmb : UEmb _ (MM F)) (bigSep Finset.univ fun i : Fin 16 => goOf X d (Fin.cast nCore_zero c) i))
  dn q d c := match q with
    | 0 => (inferInstance : BI.Storable (upEmb : UEmb _ (MM F)) (bigSep Finset.univ fun i : Fin 16 => tdOf X d (Fin.cast nCore_zero c) i))
  go q d c i := match q with
    | 0 => (inferInstance : BI.Storable (upEmb : UEmb _ (MM F)) (goOf X d (Fin.cast nCore_zero c) (Fin.cast nSub_zero i)))
  td q d c i := match q with
    | 0 => (inferInstance : BI.Storable (upEmb : UEmb _ (MM F)) (tdOf X d (Fin.cast nCore_zero c) (Fin.cast nSub_zero i)))

theorem vecSplit : (K (F := F)).VecSplit' (P X) 0 := by
  intro d c
  show (bigSep Finset.univ fun i : Fin 16 => goOf X d (Fin.cast nCore_zero c) i) ⊢ |={Set.univ}=> iprop(
      (bigSep Finset.univ fun i : Fin 16 => goOf X d (Fin.cast nCore_zero c) (Fin.cast nSub_zero i))
      ∗ ((bigSep Finset.univ fun i : Fin 16 => tdOf X d (Fin.cast nCore_zero c) (Fin.cast nSub_zero i))
          -∗ bigSep Finset.univ fun i : Fin 16 => tdOf X d (Fin.cast nCore_zero c) i))
  iintro H
  imodintro
  isplitl [H]; · iexact H
  iintro H
  iexact H

/-! ## A tile's own semaphores and buffers -/

section Tile

variable (d : Dev nD) (i : grid0.Coords)

abbrev dmaCell (s : DmaSems sig S_) : GSem nD τ sig := (tileThr d i, .dma s.sem)

theorem dmaCell_mem (s : DmaSems sig S_) (h : (SemLoc.dma s.sem : SemLoc sig).isScoped .scVector = true) : dmaCell d i s ∈ ownCells (tileThr d i) :=
  (mem_ownCells (g := dmaCell d i s)).mpr ⟨rfl, h⟩

theorem dmaCell_ne {s t : DmaSems sig S_} (h : (SemLoc.dma s.sem : SemLoc sig) ≠ SemLoc.dma t.sem) : dmaCell d i s ≠ dmaCell d i t :=
  fun e => h (congrArg Prod.snd e)

/-- Five members taken out of a separating product. -/
theorem bigSep_erase5 {I : Type} [DecidableEq I] {s : Finset I} {Φ : I → sProp (MM F)} {a b c e g : I} (ha : a ∈ s) (hb : b ∈ s) (hc : c ∈ s) (he : e ∈ s)
    (hg : g ∈ s) (hba : b ≠ a) (hca : c ≠ a) (hcb : c ≠ b) (hea : e ≠ a) (heb : e ≠ b) (hec : e ≠ c) (hga : g ≠ a) (hgb : g ≠ b) (hgc : g ≠ c) (hge : g ≠ e) :
    bigSep s Φ = iprop(Φ a ∗ Φ b ∗ Φ c ∗ Φ e ∗ Φ g ∗ bigSep (((((s.erase a).erase b).erase c).erase e).erase g) Φ) := by
  have hb' := Finset.mem_erase.mpr ⟨hba, hb⟩
  have hc' := Finset.mem_erase.mpr ⟨hcb, Finset.mem_erase.mpr ⟨hca, hc⟩⟩
  have he' := Finset.mem_erase.mpr ⟨hec, Finset.mem_erase.mpr ⟨heb, Finset.mem_erase.mpr ⟨hea, he⟩⟩⟩
  have hg' := Finset.mem_erase.mpr ⟨hge, Finset.mem_erase.mpr ⟨hgc, Finset.mem_erase.mpr ⟨hgb, Finset.mem_erase.mpr ⟨hga, hg⟩⟩⟩⟩
  rw [SparseCore.bigSep_erase' ha, SparseCore.bigSep_erase' hb', SparseCore.bigSep_erase' hc', SparseCore.bigSep_erase' he', SparseCore.bigSep_erase' hg']

/-- The tile's copies' semaphores are among its own. -/
theorem ownSems0_V : ∃ R : sProp (MM F),
    (ownSems0 (tileThr d i) : sProp (MM F))
      = iprop(semVal (dmaCell d i cc0_scratch5) 0 ∗ semVal (dmaCell d i cc0_scratch6) 0 ∗ semVal (dmaCell d i cc0_scoped0) 0
          ∗ semVal (dmaCell d i cc0_scoped1) 0 ∗ semVal (dmaCell d i cc0_scoped2) 0 ∗ R) :=
  ⟨_, by
    unfold SparseCore.Cfg.ownSems0
    exact bigSep_erase5 (dmaCell_mem d i cc0_scratch5 (by decide)) (dmaCell_mem d i cc0_scratch6 (by decide)) (dmaCell_mem d i cc0_scoped0 (by decide))
      (dmaCell_mem d i cc0_scoped1 (by decide)) (dmaCell_mem d i cc0_scoped2 (by decide)) (dmaCell_ne d i (by decide)) (dmaCell_ne d i (by decide))
      (dmaCell_ne d i (by decide)) (dmaCell_ne d i (by decide)) (dmaCell_ne d i (by decide)) (dmaCell_ne d i (by decide)) (dmaCell_ne d i (by decide))
      (dmaCell_ne d i (by decide)) (dmaCell_ne d i (by decide)) (dmaCell_ne d i (by decide))⟩

theorem ref_mem (r : Ref sig .scVector) (h : ((tileThr d i).2.devRef r).owner = .proc (tileThr d i).2) :
    (tileThr d i).2.devRef r ∈ ownRefs (τ := τ) (sig := sig) (tileThr d i).2 := SparseCore.Cfg.mem_ownRefs_of_owner h

theorem ref_ne {r r' : Ref sig .scVector} (h : r ≠ r') : (tileThr d i).2.devRef r ≠ (tileThr d i).2.devRef r' :=
  fun e => h (Proc.devRef_injective _ e)

/-- The tile's scratch buffers are among its own. -/
theorem ownBufs_V : ∃ R : sProp (MM F),
    (ownBufs (tileThr d i) : sProp (MM F))
      = iprop((∃ f, (tileThr d i).loc cc0_scratch0 ↦{fullShare} f) ∗ (∃ f, (tileThr d i).loc cc0_scratch1 ↦{fullShare} f)
          ∗ (∃ f, (tileThr d i).loc cc0_scratch2 ↦{fullShare} f) ∗ (∃ f, (tileThr d i).loc cc0_scratch3 ↦{fullShare} f)
          ∗ (∃ f, (tileThr d i).loc cc0_scratch4 ↦{fullShare} f) ∗ R) :=
  ⟨_, by
    unfold SparseCore.Cfg.ownBufs
    exact bigSep_erase5 (ref_mem d i cc0_scratch0 rfl) (ref_mem d i cc0_scratch1 rfl) (ref_mem d i cc0_scratch2 rfl) (ref_mem d i cc0_scratch3 rfl)
      (ref_mem d i cc0_scratch4 rfl) (ref_ne d i (by decide)) (ref_ne d i (by decide)) (ref_ne d i (by decide)) (ref_ne d i (by decide)) (ref_ne d i (by decide))
      (ref_ne d i (by decide)) (ref_ne d i (by decide)) (ref_ne d i (by decide)) (ref_ne d i (by decide)) (ref_ne d i (by decide))⟩

variable (hF : (K (F := F)).Facts) (O : CellTallies nD τ sig (HIx 1)) (W : Waits sig (HIx 1))

abbrev cL (i : grid0.Coords) : Fin 2 := i 0
abbrev sL (i : grid0.Coords) : Fin 16 := i 1

theorem setOn_whole (r : Ref sig .scVector) (S : Finset r.ty.Idx) : (View.whole r).setOn S = S := Finset.map_refl

include hF in
/-- The tile's task, from what its handshake carries and what it owns. -/
theorem tile_body (hO : ∀ g, O g none = 0) :
    iprop(levAts (K (F := F)).L (K (F := F)).lev ∗ emp ∗ goOf X d (cL i) (sL i) ∗ scopedBufs (tileThr d i) ∗ scopedSems0 (tileThr d i) ∗ owes (tileThr d i) O W)
      ⊢ wp frame (wpE (defs₀ (F := F)) 𝒱₀ (tileThr d i) none) Set.univ
          (cc0__sc_body i (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scoped0 cc0_scoped1 cc0_scoped2)
          fun _ => iprop(tdOf X d (cL i) (sL i) ∗ scopedBufs (tileThr d i) ∗ scopedSems0 (tileThr d i) ∗ owesIn (tileThr d i) O W) := by
  obtain ⟨Rs, hRs⟩ := ownSems0_V (F := F) d i
  obtain ⟨Rb, hRb⟩ := ownBufs_V (F := F) d i
  rw [(K (F := F)).scopedBufs_V hF d ((i 0).castLE hcore0) ((i 1).castLE hsub0),
    SparseCore.Cfg.scopedSems0_V (Val := Elt F) d ((i 0).castLE hcore0) ((i 1).castLE hsub0), hRs, hRb]
  have hset : ∀ r : Ref sig .scVector, (View.whole r).set = Finset.univ := fun r => View.set_whole r
  iintro ⟨#Hlv, -, ⟨Hx, %f, Hrow⟩, ⟨⟨%f0, H0⟩, ⟨%f1, H1⟩, ⟨%f2, H2⟩, ⟨%f3, H3⟩, ⟨%f4, H4⟩, Hbufs⟩, ⟨Hs5, Hs6, Hr0, Hr1, Hr2, Hsems⟩, HO⟩
  ihave Hx' := (pointsTo_share (PosShare.mem_left_op_right (shareOf (cL i) (sL i)))).1 $$ Hx
  icases Hx' with ⟨Hxl, Hxr⟩
  ihave Hw := (wp_sc_body d i (Memref.whole main_v0_scv) (Memref.isWhole_whole _) (Memref.whole main_v1_scv) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scoped0 cc0_scoped1 cc0_scoped2
      (flatOf (X d)) (shareOf (cL i) (sL i)).left (shareOf (cL i) (sL i)).right (X d) O W (fun j => flatOf_apply (X d) j) hO)
    $$ [Hxl Hxr Hrow H0 H1 H2 H3 H4 Hs5 Hs6 Hr0 Hr1 Hr2 HO]
  · unfold slot rowAt owesIn
    simp only [Memref.view_whole, hset, setOn_whole]
    isplitr; · iexact Hlv
    isplitl [Hs5 H0 Hxl]
    · isplitl [Hs5]; · iexact Hs5
      isplitl [H0]; · iexists f0; iexact H0
      iexact Hxl
    isplitl [Hs6 H1 Hxr]
    · isplitl [Hs6]; · iexact Hs6
      isplitl [H1]; · iexists f1; iexact H1
      iexact Hxr
    isplitl [H2]; · iexists f2; iexact H2
    isplitl [H3]; · iexists f3; iexact H3
    isplitl [H4]; · iexists f4; iexact H4
    isplitl [Hrow]
    · iexists f
      isplitr
      · ipureintro; intro j _ h; exact absurd h (Nat.not_lt_zero _)
      · iexact Hrow
    isplitl [Hr0]; · iexact Hr0
    isplitl [Hr1]; · iexact Hr1
    isplitl [Hr2]; · iexact Hr2
    iexists W
    isplitr; · ipureintro; exact fun p hp => .inl hp
    iexact HO
  iapply (wp_wand frame) $$ Hw
  iintro %u
  unfold slot rowAt
  simp only [Memref.view_whole, hset, setOn_whole]
  iintro ⟨⟨Hs5, ⟨%f0, H0⟩, Hxl⟩, ⟨Hs6, ⟨%f1, H1⟩, Hxr⟩, ⟨%f2, H2⟩, ⟨%f3, H3⟩, ⟨%f4, H4⟩, ⟨%g, %hg, Hrow⟩, Hr0, Hr1, Hr2, HO⟩
  isplitl [Hxl Hxr Hrow]
  · isplitl [Hxl Hxr]
    · iapply (pointsTo_share (PosShare.mem_left_op_right (shareOf (cL i) (sL i)))).2
      isplitl [Hxl]; · iexact Hxl
      iexact Hxr
    · have hgr : ∀ j ∈ rowSet (2 * (sL i).val + (cL i).val), g j = histBuf X d j := fun j hj =>
        hg j (Finset.mem_filter.mp hj).2 (j 1).isLt
      ihave Hrow' := (Entails.of_eq (pointsTo_congr (q := fullShare) hgr)) $$ Hrow
      iexact Hrow'
  isplitl [Hbufs H0 H1 H2 H3 H4]
  · isplitl [H0]; · iexists f0; iexact H0
    isplitl [H1]; · iexists f1; iexact H1
    isplitl [H2]; · iexists f2; iexact H2
    isplitl [H3]; · iexists f3; iexact H3
    isplitl [H4]; · iexists f4; iexact H4
    iexact Hbufs
  isplitl [Hs5 Hs6 Hr0 Hr1 Hr2 Hsems]
  · isplitl [Hs5]; · iexact Hs5
    isplitl [Hs6]; · iexact Hs6
    isplitl [Hr0]; · iexact Hr0
    isplitl [Hr1]; · iexact Hr1
    isplitl [Hr2]; · iexact Hr2
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) (Memref.whole main_v0_scv) (Memref.isWhole_whole _) (Memref.whole main_v1_scv)
          (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scratch6 cc0_scoped0 cc0_scoped1 cc0_scoped2) ⟨⟩ c s := rfl

theorem obl_post {thr : Thread nD τ} {A B C : sProp (MM F)} {O : CellTallies nD τ sig (HIx 1)} {W : Waits sig (HIx 1)} {q : Fin 1} :
    iprop(A ∗ B ∗ C ∗ owesIn thr O W) ⊢ iprop(A ∗ B ∗ C ∗ ∃ W', ⌜∀ p ∈ W', p ∈ W ∨ p.2 = none ∨ p.2 = some q⌝ ∗ owes thr O W') := by
  unfold owesIn
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) facts O W hO).trans (wp_mono frame _ _ fun _ => obl_post)

end Tile

end Cert.Proof.Hist

end
-- ==== Proof.Bodies.lean ====
/-
  The two TensorCore kernels, each run once over staging buffers held whole: what each leaves in its results' staging
  buffers, as functions of what its operands' hold.
-/
module

public import proofs.«01_k».proof.Proof.Setup
public import proofs.«01_k».proof.Proof.Gen.KernelIdeal.Launch
public import proofs.«01_k».proof.Proof.Gen.KernelIdeal.Points
public import Idealize.ShloMosaic.Lib.VecWindow
public import Idealize.ShloMosaic.Lib.Pipeline.ValueKit

@[expose] public section

noncomputable section

namespace Cert.Proof.Hist

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

/-- A memref's buffer on core `c`, held whole at `f`; -/
abbrev heldAt (c : Dev nD) {sp : Space} {S : Shape} {e : EltTy} (M : Memref sig .tc sp S e) (f : Buf (Elt F) (M.view.loc (c : Thread nD τ))) : sProp (MM F) :=
  M.view.loc (c : Thread nD τ) ↦{fullShare} f
/-- held whole, reading as `x`. -/
abbrev reads (c : Dev nD) {sp : Space} {S : Shape} {e : EltTy} (M : Memref sig .tc sp S e) (x : S.Idx → Elt F e) : sProp (MM F) :=
  iprop(∃ f, ⌜M.view.read (Elt F) f = x⌝ ∗ heldAt c M f)

/-! ## The moments' kernel -/

/-- One image in, its power sums out. -/
theorem momRun (c : Dev nD) (i : grid1.Coords) (M0 : Memref sig .tc .vmem S1x3x512x512 .f32) (h0 : M0.IsWhole)
    (M1 : Memref sig .tc .vmem S1x3x4 .f32) (h1 : M1.IsWhole) (x : S1x3x512x512.Idx → Elt F .f32)
    (f1 : Buf (Elt F) (M1.view.loc (c : Thread nD τ))) (E : Set ℕ) (Q : PUnit → sProp (MM F)) :
    iprop(reads c M0 x ∗ heldAt c M1 f1 ∗ (iprop(reads c M0 x ∗ reads c M1 (k1_pay1 x)) -∗ Q ⟨⟩))
      ⊢ wp frame (wpE (defs₀ (F := F)) Variants.none c none) E (cc1__tc_moments_body i M0 h0 M1 h1) Q := by
  iintro ⟨⟨%f0, %hf0, H0⟩, H1, Hk⟩
  subst hf0
  sl_exec!
  sl_step
  iapply Hk
  isplitl [H0]
  · iexists f0
    isplitr; · ipureintro; rfl
    iexact H0
  iexists _
  isplitr; swap
  · iexact H1
  ipureintro
  delta momRun.sl.H1_1
  rw [View.read_writes_full, View.readAt_full]

/-! ## The statistics' kernel -/

/-- Power sum `k` of channel `ch`, of every image, as the kernel reads it. -/
def cellAt (M : S32x3x4.Idx → Elt F .f32) (off : Fin 3 → ℕ) (inb : ∀ a, off a + S32x1x1.size a ≤ S32x3x4.size a) : Vec F S32x1x1 .f32 :=
  fun y => M ((Rect.unit (s := S32x3x4) off S32x1x1.size inb).toLoadRect.idx y)

section Results

variable (H : Vec F S32x792x16 .f32) (M : S32x3x4.Idx → Elt F .f32)

abbrev m00 : Vec F S32x1x1 .f32 := cellAt M ![0, 0, 0] inb_S32x3x4_S32x1x1_0_0_0
abbrev m01 : Vec F S32x1x1 .f32 := cellAt M ![0, 0, 1] inb_S32x3x4_S32x1x1_0_0_1
abbrev m02 : Vec F S32x1x1 .f32 := cellAt M ![0, 0, 2] inb_S32x3x4_S32x1x1_0_0_2
abbrev m03 : Vec F S32x1x1 .f32 := cellAt M ![0, 0, 3] inb_S32x3x4_S32x1x1_0_0_3
abbrev m10 : Vec F S32x1x1 .f32 := cellAt M ![0, 1, 0] inb_S32x3x4_S32x1x1_0_1_0
abbrev m11 : Vec F S32x1x1 .f32 := cellAt M ![0, 1, 1] inb_S32x3x4_S32x1x1_0_1_1
abbrev m12 : Vec F S32x1x1 .f32 := cellAt M ![0, 1, 2] inb_S32x3x4_S32x1x1_0_1_2
abbrev m13 : Vec F S32x1x1 .f32 := cellAt M ![0, 1, 3] inb_S32x3x4_S32x1x1_0_1_3
abbrev m20 : Vec F S32x1x1 .f32 := cellAt M ![0, 2, 0] inb_S32x3x4_S32x1x1_0_2_0
abbrev m21 : Vec F S32x1x1 .f32 := cellAt M ![0, 2, 1] inb_S32x3x4_S32x1x1_0_2_1
abbrev m22 : Vec F S32x1x1 .f32 := cellAt M ![0, 2, 2] inb_S32x3x4_S32x1x1_0_2_2
abbrev m23 : Vec F S32x1x1 .f32 := cellAt M ![0, 2, 3] inb_S32x3x4_S32x1x1_0_2_3

-- each statistic of channels 0, 1 and 2, a column over the images
abbrev mean0 : FVec F S32x1 .f32 := k2_pay7 (m00 M)
abbrev mean1 : FVec F S32x1 .f32 := k2_pay18 (m10 M)
abbrev mean2 : FVec F S32x1 .f32 := k2_pay28 (m20 M)
abbrev var0 : FVec F S32x1 .f32 := k2_pay11 (k2_pay4 (m01 M)) (mean0 M) k2_pay8
abbrev var1 : FVec F S32x1 .f32 := k2_pay22 (m10 M) (m11 M)
abbrev var2 : FVec F S32x1 .f32 := k2_pay32 (m20 M) (m21 M)
abbrev skew0 : FVec F S32x1 .f32 := k2_pay13 (k2_pay4 (m01 M)) (k2_pay5 (m02 M)) (mean0 M) k2_pay8
abbrev skew1 : FVec F S32x1 .f32 := k2_pay24 (mean1 M) (k2_pay19 (m11 M)) (k2_pay20 (m12 M)) (var1 M)
abbrev kurt0 : FVec F S32x1 .f32 := k2_pay14 (k2_pay4 (m01 M)) (k2_pay5 (m02 M)) (k2_pay6 (m03 M)) (mean0 M) k2_pay8
abbrev kurt1 : FVec F S32x1 .f32 := k2_pay25 (mean1 M) (k2_pay19 (m11 M)) (k2_pay20 (m12 M)) (k2_pay21 (m13 M)) (var1 M)
abbrev ent0 : FVec F S32x1 .f32 := k2_pay3 H
abbrev ent1 : FVec F S32x1 .f32 := k2_pay17 (k2_pay15 (k2_pay2 H)) (k2_pay16 (k2_pay2 H))
abbrev ent2 : FVec F S32x1 .f32 := k2_pay27 (k2_pay26 (k2_pay2 H))

/-- The mean, variance, skewness, kurtosis and entropy of every channel, and the score. -/
def outMean : FVec F S32x3 .f32 := k2_pay36 (mean0 M) (mean1 M) (mean2 M)
def outVar : FVec F S32x3 .f32 := k2_pay37 (var0 M) (var1 M) (var2 M)
def outSkew : FVec F S32x3 .f32 :=
  k2_pay38 (skew0 M) (skew1 M) (k2_pay33 (m20 M) (m21 M)) (k2_pay34 (m20 M) (m21 M)) (k2_pay35 (m20 M) (m21 M) (m22 M))
def outKurt : FVec F S32x3 .f32 :=
  k2_pay39 (kurt0 M) (kurt1 M) (mean2 M) (k2_pay29 (m21 M)) (k2_pay30 (m22 M)) (k2_pay31 (m23 M)) (k2_pay33 (m20 M) (m21 M))
def outEnt : FVec F S32x3 .f32 := k2_pay40 (ent0 H) (ent1 H) (ent2 H)
def outScore : FVec F S32 .f32 :=
  k2_pay1 (k2_pay41 (mean0 M) (var0 M) (skew0 M) (kurt0 M) (mean1 M) (var1 M) (skew1 M) (kurt1 M) (mean2 M) (k2_pay29 (m21 M))
    (k2_pay30 (m22 M)) (k2_pay31 (m23 M)) (var2 M) (k2_pay33 (m20 M) (m21 M)) (k2_pay34 (m20 M) (m21 M)) (k2_pay35 (m20 M) (m21 M) (m22 M)))

end Results

/-- The histograms and power sums in, the six statistics out. -/
theorem finRun (c : Dev nD) (M0 : Memref sig .tc .vmem S32x792x16 .f32) (h0 : M0.IsWhole) (M1 : Memref sig .tc .vmem S32x3x4 .f32) (h1 : M1.IsWhole)
    (M2 : Memref sig .tc .vmem S32 .f32) (h2 : M2.IsWhole) (M3 : Memref sig .tc .vmem S32x3 .f32) (h3 : M3.IsWhole)
    (M4 : Memref sig .tc .vmem S32x3 .f32) (h4 : M4.IsWhole) (M5 : Memref sig .tc .vmem S32x3 .f32) (h5 : M5.IsWhole)
    (M6 : Memref sig .tc .vmem S32x3 .f32) (h6 : M6.IsWhole) (M7 : Memref sig .tc .vmem S32x3 .f32) (h7 : M7.IsWhole)
    (H : Vec F S32x792x16 .f32) (M : S32x3x4.Idx → Elt F .f32)
    (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ)))
    (f6 : Buf (Elt F) (M6.view.loc (c : Thread nD τ))) (f7 : Buf (Elt F) (M7.view.loc (c : Thread nD τ)))
    (E : Set ℕ) (Q : PUnit → sProp (MM F)) :
    iprop(reads c M0 H ∗ reads c M1 M ∗ heldAt c M2 f2 ∗ heldAt c M3 f3 ∗ heldAt c M4 f4 ∗ heldAt c M5 f5 ∗ heldAt c M6 f6 ∗ heldAt c M7 f7
        ∗ (iprop(reads c M0 H ∗ reads c M1 M ∗ reads c M2 (outScore M) ∗ reads c M3 (outMean M) ∗ reads c M4 (outVar M)
            ∗ reads c M5 (outSkew M) ∗ reads c M6 (outKurt M) ∗ reads c M7 (outEnt H)) -∗ Q ⟨⟩))
      ⊢ wp frame (wpE (defs₀ (F := F)) Variants.none c none) E (cc2__tc_body M0 h0 M1 h1 M2 h2 M3 h3 M4 h4 M5 h5 M6 h6 M7 h7) Q := by
  rw [cc2__tc_body_eq_skeleton]; unfold cc2__tc_body_skel
  simp only [k2_part1_eq_skeleton, k2_part2_eq_skeleton, k2_part3_eq_skeleton, k2_part4_eq_skeleton, k2_part5_eq_skeleton, k2_part6_eq_skeleton]
  unfold k2_part1_skel k2_part2_skel k2_part3_skel k2_part4_skel k2_part5_skel k2_part6_skel
  iintro ⟨⟨%f0, %hf0, H0⟩, ⟨%f1, %hf1, H1⟩, H2, H3, H4, H5, H6, H7, Hk⟩
  subst hf0 hf1
  sl_exec!
  sl_step
  iapply Hk
  have hH : M0.view.readAt (Elt F) (Rect.unit (s := S32x792x16) ![0, 0, 0] S32x792x16.size inb_S32x792x16_S32x792x16_0_0_0).toLoadRect f0
      = M0.view.read (Elt F) f0 := View.readAt_full _ _ _
  isplitl [H0]
  · iexists f0
    isplitr; · ipureintro; rfl
    iexact H0
  isplitl [H1]
  · iexists f1
    isplitr; · ipureintro; rfl
    iexact H1
  isplitl [H2]
  · iexists _
    isplitr; swap; · iexact H2
    ipureintro
    delta finRun.sl.H2_1
    refine (View.read_writes_full _ _ _ _ _).trans ?_
    dsimp only
    rfl
  isplitl [H3]
  · iexists _
    isplitr; swap; · iexact H3
    ipureintro
    delta finRun.sl.H3_1
    refine (View.read_writes_full _ _ _ _ _).trans ?_
    dsimp only
    rfl
  isplitl [H4]
  · iexists _
    isplitr; swap; · iexact H4
    ipureintro
    delta finRun.sl.H4_1
    refine (View.read_writes_full _ _ _ _ _).trans ?_
    dsimp only
    rfl
  isplitl [H5]
  · iexists _
    isplitr; swap; · iexact H5
    ipureintro
    delta finRun.sl.H5_1
    refine (View.read_writes_full _ _ _ _ _).trans ?_
    dsimp only
    rfl
  isplitl [H6]
  · iexists _
    isplitr; swap; · iexact H6
    ipureintro
    delta finRun.sl.H6_1
    refine (View.read_writes_full _ _ _ _ _).trans ?_
    dsimp only
    rfl
  iexists _
  isplitr; swap; · iexact H7
  ipureintro
  delta finRun.sl.H7_1
  refine (View.read_writes_full _ _ _ _ _).trans ?_
  dsimp only
  rw [hH]
  rfl

end Cert.Proof.Hist

end
-- ==== Proof.Regions.lean ====
/-
  The two TensorCore pipelines over the thread's state: every buffer of the core at a valuation. The first leaves the
  power sums of every image, the second the six results.
-/
module

public import proofs.«01_k».proof.Proof.Bodies

@[expose] public section

noncomputable section

namespace Cert.Proof.Hist

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] [∀ e, Nonempty (Elt F e)]

/-- A core's buffers. -/
abbrev Val (F : FTy → Type) : Type := (c : Dev nD) → (b : Ref sig .tc) → Buf (Elt F) ((c : Thread nD τ).loc b)

/-- The waits recorded so far lie at or below level `8`. -/
def low (c : Dev nD) : Set (SemLoc sig × HIx 1) := {p | (K (F := F)).lev ((c : Thread nD τ), p.1) p.2 ≤ 8}

/-- Proof data for a pipeline that is not the one running. -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- What both regions carry beside the buffers: the core owes nothing, and has waited low. -/
abbrev owesLow (c : Dev nD) : sProp (MM F) :=
  iprop(∃ W, ⌜(K (F := F)).WBelow (c : Thread nD τ) W 8⌝ ∗ owes (c : Thread nD τ) (0 : CellTallies nD τ sig (HIx 1)) W)

/-- In and out of a pipeline's own account of the waits. -/
theorem owes_in {cfg : Cfg sig Λ₀} (c : Dev nD) (dat : Dat τ (Elt F) (HIx 1) ℕ UU ℕ cfg c) (t : Fin (cfg.N + 1)) (h0 : dat.owed t = 0)
    (hr : dat.recorded t = low (F := F) c) : owesLow (F := F) c ⊢ dat.owesAt none t := by
  unfold Pipeline.Dat.owesAt Pipeline.owesWithin
  rw [h0]
  iintro ⟨%W, %hW, HO⟩
  iexists W
  isplitr
  · ipureintro
    intro p hp
    exact Or.inl (hr ▸ hW p hp)
  iexact HO
theorem owes_out {cfg : Cfg sig Λ₀} (c : Dev nD) (dat : Dat τ (Elt F) (HIx 1) ℕ UU ℕ cfg c) (t : Fin (cfg.N + 1)) (h0 : dat.owed t = 0)
    (hr : dat.recorded t = low (F := F) c) : dat.owesAt none t ⊢ owesLow (F := F) c := by
  unfold Pipeline.Dat.owesAt Pipeline.owesWithin
  rw [h0]
  iintro ⟨%W, %hW, HO⟩
  iexists W
  isplitr
  · ipureintro
    intro p hp
    rcases hW hp with h | ⟨w, s, h⟩
    · exact (hr ▸ h : p ∈ low (F := F) c)
    · rw [show p = _ from h]; exact Nat.zero_le _
  iexact HO

variable (V Vp : Val F) (adm : (p : Fin 2) → (pcfgs (F := F) p).Adm)

/-! ## The moments -/

/-- Image `t`, as the pipeline fetches it. -/
abbrev img (c : Dev nD) (t : Fin cfg1.N) : (cfg1.win 0).block.Idx → Elt F (cfg1.win 0).elt :=
  ((cfg1.win 0).blk t).view.read (Elt F) (V c main_arg0)

def dat1 (c : Dev nD) : Dat τ (Elt F) (HIx 1) ℕ UU ℕ cfg1 c where
  A w := V c (Pipeline.arrRef spec1 w)
  after w t := match w with
    | ⟨0, _⟩ => img V c t
    | ⟨1, _⟩ => k1_pay1 (img V c t)
  Φ _ := Pipeline.scopedRest (Ix := HIx 1) (Name := ℕ) (U := UU) (Lvl := ℕ) (Val := Elt F) spec1 c
  q _ := fullShare
  owed _ := 0
  recorded _ := low (F := F) c

def pdats1 : (p : Fin 2) → (c : Dev nD) → Dat τ (Elt F) (HIx 1) ℕ UU ℕ (Pipeline.pin (pcfgs (F := F)) adm p) c
  | ⟨0, _⟩ => fun c => dat1 V c
  | ⟨1, _⟩ => fun c => idleDat c

theorem before1 (c : Dev nD) (t : Fin cfg1.N) (d : (cfg1.win 0).block.Idx → Elt F (cfg1.win 0).elt) : (dat1 V c).before 0 t d = img V c t := by
  unfold Dat.before; rw [if_pos (fetch1_0 t)]; rfl

theorem owns_reads (c : Dev nD) {sp : Space} {S : Shape} {e : EltTy} {M : Memref sig .tc sp S e} (h : M.IsWhole) (x : S.Idx → Elt F e) :
    (owns (c : Thread nD τ) M fullShare x : sProp (MM F)) = reads c M x := by
  unfold owns reads heldAt
  rw [h.set_eq_univ]

theorem body1 (c : Dev nD) : BodyObligation (dat1 V c) (defs₀ (F := F)) 𝒱₀ none Set.univ := fun t => by
  rw [bigSep_W1, bigSep_W1]
  rw [show (dat1 V c).Φ t.succ = (dat1 V c).Φ t.castSucc from rfl, show (dat1 V c).owesAt none t.succ = (dat1 V c).owesAt none t.castSucc from rfl]
  have e0 : ∀ x, (owns (c : Thread nD τ) (st1_0 t) fullShare x : sProp (MM F)) = reads c (st1_0 t) x := fun x =>
    owns_reads c (stage_whole1 0 (cfg1.slots t 0)) x
  have e1 : ∀ x, (owns (c : Thread nD τ) (st1_1 t) fullShare x : sProp (MM F)) = reads c (st1_1 t) x := fun x =>
    owns_reads c (stage_whole1 1 (cfg1.slots t 1)) x
  simp only [e0, e1]
  iintro ⟨HΦ, Howes, ⟨%d0, H0⟩, ⟨%d1, %f1, -, H1⟩⟩
  ihave H0' := (Entails.of_eq (congrArg (reads c (st1_0 t)) (before1 V c t d0))) $$ H0
  iapply (momRun c (grid1.coords t) (st1_0 t) (stage_whole1 0 (cfg1.slots t 0)) (st1_1 t) (stage_whole1 1 (cfg1.slots t 1)) (img V c t) f1 Set.univ _)
  isplitl [H0']; · iexact H0'
  isplitl [H1]; · iexact H1
  iintro ⟨H0, H1⟩
  isplitl [HΦ]; · iexact HΦ
  isplitl [Howes]; · iexact Howes
  isplitl [H0]; · iexact H0
  iexact H1

-- `iapply` of a lemma stated over the pinned configurations unifies only when unification may unfold plain definitions
-- in a metavariable's type
set_option backward.isDefEq.respectTransparency.types false in
/-- The moments' region: from every buffer at `V` to every buffer at `Vp`, which has the result's array as the
    write-backs leave it and is `V` elsewhere. -/
def reg1 (hout : ∀ c, Vp c main_v2 = (dat1 V c).arrAt 1 cfg1.N) (hne : ∀ c (b : Ref sig .tc), b ≠ main_v2 → Vp c b = V c b) :
    Pipeline.RegionSeg (pcfgs (F := F)) adm (pdats1 V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := iprop(unscopedBufs c (V c) ∗ owesLow (F := F) c)
  post c := iprop(unscopedBufs c (Vp c) ∗ owesLow (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats1 V adm) launch1.win launch1.arr_whole c
      ((pdats1 V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in c (pdats1 V adm 0 c) 0 rfl rfl); iexact HO
    isplitr; · iempintro
    iexact Hrest
  hin c := by
    rw [show (pdats1 V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none,
      show (pdats1 V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win
      launch1.arr_whole c (pdats1 V adm) ((pdats1 V adm 0 c).share_full fun _ => rfl) (V c) (Vp c) ((pdats1 V adm 0 c).arrAt · cfg1.N)
      (fun w => by
        fin_cases w
        · exact ((pdats1 V adm 0 c).arrAt_in 0 rfl _).trans (hne c main_arg0 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    iapply (owes_out c (pdats1 V adm 0 c) (Fin.last _) rfl rfl); iexact HO

/-! ## The statistics -/

/-- The histograms and the power sums, as the pipeline fetches them. -/
abbrev hist2 (c : Dev nD) : (cfg2.win 0).block.Idx → Elt F (cfg2.win 0).elt := ((cfg2.win 0).blk t2_0).view.read (Elt F) (V c main_v3)
abbrev moms2 (c : Dev nD) : (cfg2.win 1).block.Idx → Elt F (cfg2.win 1).elt := ((cfg2.win 1).blk t2_0).view.read (Elt F) (V c main_v2)

def dat2 (c : Dev nD) : Dat τ (Elt F) (HIx 1) ℕ UU ℕ cfg2 c where
  A w := V c (Pipeline.arrRef spec2 w)
  after w _ := match w with
    | ⟨0, _⟩ => hist2 V c
    | ⟨1, _⟩ => moms2 V c
    | ⟨2, _⟩ => outScore (moms2 V c)
    | ⟨3, _⟩ => outMean (moms2 V c)
    | ⟨4, _⟩ => outVar (moms2 V c)
    | ⟨5, _⟩ => outSkew (moms2 V c)
    | ⟨6, _⟩ => outKurt (moms2 V c)
    | ⟨7, _⟩ => outEnt (hist2 V c)
  Φ _ := Pipeline.scopedRest (Ix := HIx 1) (Name := ℕ) (U := UU) (Lvl := ℕ) (Val := Elt F) spec2 c
  q _ := fullShare
  owed _ := 0
  recorded _ := low (F := F) c

def pdats2 : (p : Fin 2) → (c : Dev nD) → Dat τ (Elt F) (HIx 1) ℕ UU ℕ (Pipeline.pin (pcfgs (F := F)) adm p) c
  | ⟨0, _⟩ => fun c => idleDat c
  | ⟨1, _⟩ => fun c => dat2 V c

theorem before2_0 (c : Dev nD) (d : (cfg2.win 0).block.Idx → Elt F (cfg2.win 0).elt) : (dat2 V c).before 0 t2_0 d = hist2 V c := by
  unfold Dat.before; rw [if_pos (fetch2_0 t2_0)]; rfl
theorem before2_1 (c : Dev nD) (d : (cfg2.win 1).block.Idx → Elt F (cfg2.win 1).elt) : (dat2 V c).before 1 t2_0 d = moms2 V c := by
  unfold Dat.before; rw [if_pos (fetch2_1 t2_0)]; rfl

theorem body2 (c : Dev nD) : BodyObligation (dat2 V c) (defs₀ (F := F)) 𝒱₀ none Set.univ := fun t => by
  obtain rfl := fin_N2 t
  rw [bigSep_W2, bigSep_W2]
  rw [show (dat2 V c).Φ t2_0.succ = (dat2 V c).Φ t2_0.castSucc from rfl,
    show (dat2 V c).owesAt none t2_0.succ = (dat2 V c).owesAt none t2_0.castSucc from rfl]
  have e0 : ∀ x, (owns (c : Thread nD τ) (st2_0 t2_0) fullShare x : sProp (MM F)) = reads c (st2_0 t2_0) x := fun x =>
    owns_reads c (stage_whole2 0 (cfg2.slots t2_0 0)) x
  have e1 : ∀ x, (owns (c : Thread nD τ) (st2_1 t2_0) fullShare x : sProp (MM F)) = reads c (st2_1 t2_0) x := fun x =>
    owns_reads c (stage_whole2 1 (cfg2.slots t2_0 1)) x
  have e2 : ∀ x, (owns (c : Thread nD τ) (st2_2 t2_0) fullShare x : sProp (MM F)) = reads c (st2_2 t2_0) x := fun x =>
    owns_reads c (stage_whole2 2 (cfg2.slots t2_0 2)) x
  have e3 : ∀ x, (owns (c : Thread nD τ) (st2_3 t2_0) fullShare x : sProp (MM F)) = reads c (st2_3 t2_0) x := fun x =>
    owns_reads c (stage_whole2 3 (cfg2.slots t2_0 3)) x
  have e4 : ∀ x, (owns (c : Thread nD τ) (st2_4 t2_0) fullShare x : sProp (MM F)) = reads c (st2_4 t2_0) x := fun x =>
    owns_reads c (stage_whole2 4 (cfg2.slots t2_0 4)) x
  have e5 : ∀ x, (owns (c : Thread nD τ) (st2_5 t2_0) fullShare x : sProp (MM F)) = reads c (st2_5 t2_0) x := fun x =>
    owns_reads c (stage_whole2 5 (cfg2.slots t2_0 5)) x
  have e6 : ∀ x, (owns (c : Thread nD τ) (st2_6 t2_0) fullShare x : sProp (MM F)) = reads c (st2_6 t2_0) x := fun x =>
    owns_reads c (stage_whole2 6 (cfg2.slots t2_0 6)) x
  have e7 : ∀ x, (owns (c : Thread nD τ) (st2_7 t2_0) fullShare x : sProp (MM F)) = reads c (st2_7 t2_0) x := fun x =>
    owns_reads c (stage_whole2 7 (cfg2.slots t2_0 7)) x
  simp only [e0, e1, e2, e3, e4, e5, e6, e7]
  iintro ⟨HΦ, Howes, ⟨%d0, H0⟩, ⟨%d1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩⟩
  ihave H0' := (Entails.of_eq (congrArg (reads c (st2_0 t2_0)) (before2_0 V c d0))) $$ H0
  ihave H1' := (Entails.of_eq (congrArg (reads c (st2_1 t2_0)) (before2_1 V c d1))) $$ H1
  iapply (finRun c (st2_0 t2_0) (stage_whole2 0 _) (st2_1 t2_0) (stage_whole2 1 _) (st2_2 t2_0) (stage_whole2 2 _) (st2_3 t2_0) (stage_whole2 3 _)
    (st2_4 t2_0) (stage_whole2 4 _) (st2_5 t2_0) (stage_whole2 5 _) (st2_6 t2_0) (stage_whole2 6 _) (st2_7 t2_0) (stage_whole2 7 _)
    (hist2 V c) (moms2 V c) f2 f3 f4 f5 f6 f7 Set.univ _)
  isplitl [H0']; · iexact H0'
  isplitl [H1']; · iexact H1'
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The results' arrays. -/
def outs : Finset (Ref sig .tc) := {main_v4_0, main_v4_1, main_v4_2, main_v4_3, main_v4_4, main_v4_5}

theorem outs_image : ∀ b ∈ outs, b ∈ Finset.univ.image (Pipeline.arrRef spec2) := by decide

set_option backward.isDefEq.respectTransparency.types false in
/-- The statistics' region, likewise. -/
def reg2 (hout : ∀ c (w : Fin 8), Vp c (Pipeline.arrRef spec2 w) = (dat2 V c).arrAt w cfg2.N) (hne : ∀ c (b : Ref sig .tc), b ∉ outs → Vp c b = V c b) :
    Pipeline.RegionSeg (pcfgs (F := F)) adm (pdats2 V adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V c).loose
  hwaits := Pipeline.hwaits_of_owed_zero _ _ _ _ (K (F := F)).L (K (F := F)).lev 1 fun _ _ => rfl
  pre c := iprop(unscopedBufs c (V c) ∗ owesLow (F := F) c)
  post c := iprop(unscopedBufs c (Vp c) ∗ owesLow (F := F) c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V adm) launch2.win launch2.arr_whole c
      ((pdats2 V adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in c (pdats2 V adm 1 c) 0 rfl rfl); iexact HO
    isplitr; · iempintro
    iexact Hrest
  hin c := by
    rw [show (pdats2 V adm 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none,
      show (pdats2 V adm 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win
      launch2.arr_whole c (pdats2 V adm) ((pdats2 V adm 1 c).share_full fun _ => rfl) (V c) (Vp c) ((pdats2 V adm 1 c).arrAt · cfg2.N)
      (fun w => (hout c w).symm)
      (fun b hb => hne c b fun h => hb (outs_image b h))
    iintro ⟨Ha, HO, -, Hrest⟩
    imodintro
    isplitl [Ha Hrest]
    · iapply hjoin; isplitl [Ha] <;> iassumption
    iapply (owes_out c (pdats2 V adm 1 c) (Fin.last _) rfl rfl); iexact HO

end Cert.Proof.Hist

end
-- ==== Proof.Steps.lean ====
/-
  The buffers after each step of @main: the pixels flattened, the histograms counted on the SparseCores, the power sums
  and then the six results computed by the two pipelines. And how the SparseCore call's two operands are dealt to its tiles.
-/
module

public import proofs.«01_k».proof.Proof.Launch
public import proofs.«01_k».proof.Proof.Regions

@[expose] public section

noncomputable section

namespace Cert.Proof.Hist

open Cert.KernelIdeal Cert.KernelIdeal.Gen

open Idealize.ShloMosaic
open Idealize.ShloMosaic.StableHlo (held wp_hlo_within)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F] [∀ e, Nonempty (Elt F e)]
variable (m : (ℓ : Loc nD τ sig) → Buf (Elt F) ℓ) (ρ : Dev nD → PrngReg)

/-! ## The buffers, step by step -/

abbrev dev (b : Ref sig .tc) : DevRef τ sig := Proc.devRef .tc b

/-- The TensorCore's buffers that no region scopes. -/
def ucRefs : Finset (DevRef τ sig) := (StableHlo.tcRefs τ sig).filter fun b => ¬ b.isScoped

theorem unscoped_held (d : Dev nD) (W : Valuation τ sig (Elt F)) :
    (unscopedBufs d (fun b => W (dev b)) : sProp (MM F)) = held (SparseCore.T d) ucRefs W := by
  unfold unscopedBufs StableHlo.held ucRefs StableHlo.tcRefs
  rw [Finset.filter_map, bigSep_map]
  rfl

abbrev valOf (W : Dev nD → Valuation τ sig (Elt F)) : Val F := fun c b => W c (dev b)

abbrev flatOp : HloOp τ sig (Elt F) := StableHlo.reshape main_arg0 main_v0 (rfl : (.f32 : EltTy) = .f32) shapeCasts_S32x3x512x512_S25165824
abbrev foldOp : HloOp τ sig (Elt F) := StableHlo.reshape main_v1 main_v3 (rfl : (.f32 : EltTy) = .f32) shapeCasts_S32x12672_S32x792x16

def W0 (d : Dev nD) : Valuation τ sig (Elt F) := fun b => m (d, b)
/-- The pixels flat; -/
def W1 (d : Dev nD) : Valuation τ sig (Elt F) := (flatOp (F := F)).result (W0 m d)
def X (d : Dev nD) : Buf (Elt F) (v0Loc d) := W1 m d (dev main_v0)
/-- the histograms; -/
def W2 (d : Dev nD) : Valuation τ sig (Elt F) := Function.update (W1 m d) (dev main_v1) (histBuf (X m) d)
/-- the power sums; -/
def W3 (d : Dev nD) : Valuation τ sig (Elt F) := Function.update (W2 m d) (dev main_v2) ((dat1 (valOf (W2 m)) d).arrAt 1 cfg1.N)
/-- the histograms, a row of bins by lanes for each image; -/
def W4 (d : Dev nD) : Valuation τ sig (Elt F) := (foldOp (F := F)).result (W3 m d)
/-- and the results. -/
def W5 (d : Dev nD) : Valuation τ sig (Elt F) :=
  Function.update (Function.update (Function.update (Function.update (Function.update (Function.update (W4 m d)
    (dev main_v4_0) ((dat2 (valOf (W4 m)) d).arrAt 2 cfg2.N)) (dev main_v4_1) ((dat2 (valOf (W4 m)) d).arrAt 3 cfg2.N))
    (dev main_v4_2) ((dat2 (valOf (W4 m)) d).arrAt 4 cfg2.N)) (dev main_v4_3) ((dat2 (valOf (W4 m)) d).arrAt 5 cfg2.N))
    (dev main_v4_4) ((dat2 (valOf (W4 m)) d).arrAt 6 cfg2.N)) (dev main_v4_5) ((dat2 (valOf (W4 m)) d).arrAt 7 cfg2.N)

theorem W2_v1 (d : Dev nD) : W2 m d (dev main_v1) = histBuf (X m) d := Function.update_self _ _ _
theorem W2_ne (d : Dev nD) {b : DevRef τ sig} (h : b ≠ dev main_v1) : W2 m d b = W1 m d b := Function.update_of_ne h _ _
theorem W3_v2 (d : Dev nD) : W3 m d (dev main_v2) = (dat1 (valOf (W2 m)) d).arrAt 1 cfg1.N := Function.update_self _ _ _
theorem W3_ne (d : Dev nD) {b : DevRef τ sig} (h : b ≠ dev main_v2) : W3 m d b = W2 m d b := Function.update_of_ne h _ _

theorem dev_ne {b b' : Ref sig .tc} (h : b ≠ b') : dev b ≠ dev b' := fun e => h (Proc.devRef_injective (sig := sig) .tc e)

theorem W5_out (d : Dev nD) : (w : Fin 8) → W5 m d (dev (Pipeline.arrRef spec2 w)) = (dat2 (valOf (W4 m)) d).arrAt w cfg2.N
  | 0 => by
    refine Eq.trans ?_ ((dat2 (valOf (W4 m)) d).arrAt_in 0 rfl _).symm
    unfold W5
    iterate 6 rw [Function.update_of_ne (dev_ne (by decide))]
    rfl
  | 1 => by
    refine Eq.trans ?_ ((dat2 (valOf (W4 m)) d).arrAt_in 1 rfl _).symm
    unfold W5
    iterate 6 rw [Function.update_of_ne (dev_ne (by decide))]
    rfl
  | 2 => by
    unfold W5
    iterate 5 rw [Function.update_of_ne (dev_ne (by decide))]
    exact Function.update_self _ _ _
  | 3 => by
    unfold W5
    iterate 4 rw [Function.update_of_ne (dev_ne (by decide))]
    exact Function.update_self _ _ _
  | 4 => by
    unfold W5
    iterate 3 rw [Function.update_of_ne (dev_ne (by decide))]
    exact Function.update_self _ _ _
  | 5 => by
    unfold W5
    iterate 2 rw [Function.update_of_ne (dev_ne (by decide))]
    exact Function.update_self _ _ _
  | 6 => by
    unfold W5
    rw [Function.update_of_ne (dev_ne (by decide))]
    exact Function.update_self _ _ _
  | 7 => Function.update_self _ _ _

theorem W5_ne (d : Dev nD) (b : Ref sig .tc) (h : b ∉ outs) : W5 m d (dev b) = W4 m d (dev b) := by
  unfold W5
  have hb : ∀ b' ∈ outs, b ≠ b' := fun b' hb' e => h (e ▸ hb')
  rw [Function.update_of_ne (dev_ne (hb _ (by decide))), Function.update_of_ne (dev_ne (hb _ (by decide))),
    Function.update_of_ne (dev_ne (hb _ (by decide))), Function.update_of_ne (dev_ne (hb _ (by decide))),
    Function.update_of_ne (dev_ne (hb _ (by decide))), Function.update_of_ne (dev_ne (hb _ (by decide)))]

/-! ## The SparseCore call's operands, dealt to the tiles -/

theorem held_two (d : Dev nD) (W : Valuation τ sig (Elt F)) :
    (held (SparseCore.T d) ucRefs W : sProp (MM F))
      = iprop((v0Loc d ↦{fullShare} W (dev main_v0)) ∗ (v1Loc d ↦{fullShare} W (dev main_v1))
          ∗ held (SparseCore.T d) ((ucRefs.erase (dev main_v0)).erase (dev main_v1)) W) := by
  unfold StableHlo.held
  rw [SparseCore.bigSep_erase' (show dev main_v0 ∈ ucRefs by decide), SparseCore.bigSep_erase' (show dev main_v1 ∈ ucRefs.erase (dev main_v0) by decide)]

theorem pix_all (d : Dev nD) :
    (v0Loc d ↦{fullShare} X m d : sProp (MM F)) = bigSep Finset.univ fun c : Fin 2 => bigSep Finset.univ fun i : Fin 16 => pix (X m) d c i := by
  rw [Transfers.pointsTo_deal (Finset.univ : Finset (Fin 2)) ⟨0, Finset.mem_univ _⟩]
  exact bigSep_congr fun c _ => Transfers.pointsTo_deal (Finset.univ : Finset (Fin 16)) ⟨0, Finset.mem_univ _⟩ _

theorem rows_univ : (Finset.univ : Finset S32x12672.Idx)
    = (Finset.univ : Finset (Fin 2)).biUnion fun c => (Finset.univ : Finset (Fin 16)).biUnion fun i => rowSet (2 * i.val + c.val) := by
  ext j
  have hj : (j 0).val < 32 := (j 0).isLt
  simp only [Finset.mem_univ, Finset.mem_biUnion, rowSet, Finset.mem_filter, true_and, true_iff]
  exact ⟨⟨(j 0).val % 2, by omega⟩, ⟨(j 0).val / 2, by omega⟩, by show _ = 2 * ((j 0).val / 2) + (j 0).val % 2; omega⟩

theorem rows_all (d : Dev nD) (f : Buf (Elt F) (v1Loc d)) :
    (v1Loc d ↦{fullShare} f : sProp (MM F)) = bigSep Finset.univ fun c : Fin 2 => bigSep Finset.univ fun i : Fin 16 => row d c i f := by
  have hd : ∀ n n' : ℕ, n ≠ n' → Disjoint (rowSet n) (rowSet n') := fun n n' h => by
    rw [Finset.disjoint_left]
    intro j hj hj'
    exact h ((Finset.mem_filter.mp hj).2.symm.trans (Finset.mem_filter.mp hj').2)
  rw [show (v1Loc d ↦{fullShare} f : sProp (MM F)) = (v1Loc d ↦[(Finset.univ : Finset S32x12672.Idx)]{fullShare} f) from rfl, rows_univ]
  refine (pointsTo_biUnion (ℓ := v1Loc d) Finset.univ (fun c : Fin 2 => (Finset.univ : Finset (Fin 16)).biUnion fun i => rowSet (2 * i.val + c.val))
      fun c _ c' _ hc => ?_).trans ?_
  · simp only [Finset.disjoint_biUnion_left, Finset.disjoint_biUnion_right]
    intro i _ i' _
    exact hd _ _ fun e => hc (Fin.ext (by have := c.isLt; have := c'.isLt; omega))
  exact bigSep_congr fun c _ => pointsTo_biUnion (ℓ := v1Loc d) Finset.univ (fun i : Fin 16 => rowSet (2 * i.val + c.val))
    fun i _ i' _ hi => hd _ _ fun e => hi (Fin.ext (by omega))

theorem st0_of (d : Dev nD) (f : Buf (Elt F) (v1Loc d)) :
    iprop((v0Loc d ↦{fullShare} X m d) ∗ (v1Loc d ↦{fullShare} f))
      ⊢ (bigSep Finset.univ fun c : Fin ((K (F := F)).nCore 0) => (P (X m)).st 0 d c : sProp (MM F)) := by
  rw [pix_all, rows_all, ← bigSep_sep']
  refine bigSep_mono fun c _ => ?_
  rw [← bigSep_sep']
  refine bigSep_mono fun i _ => ?_
  show iprop(pix (X m) d c i ∗ row d c i f) ⊢ (iprop(pix (X m) d c i ∗ ∃ f, row d c i f) : sProp (MM F))
  iintro ⟨Hx, Hr⟩
  isplitl [Hx]; · iexact Hx
  iexists f; iexact Hr

theorem dn0_eq (d : Dev nD) :
    (bigSep Finset.univ fun c : Fin ((K (F := F)).nCore 0) => (P (X m)).dn 0 d c : sProp (MM F))
      = iprop((v0Loc d ↦{fullShare} X m d) ∗ (v1Loc d ↦{fullShare} histBuf (X m) d)) := by
  rw [pix_all, rows_all, ← bigSep_sep']
  refine bigSep_congr fun c _ => ?_
  rw [← bigSep_sep']
  rfl

end Cert.Proof.Hist

end
-- ==== Proof.Main.lean ====
/-
  @main on the TensorCore, and the program's run.
-/
module

public import proofs.«01_k».proof.Proof.Steps

@[expose] public section

noncomputable section

namespace Cert.Proof.Hist

open Cert.KernelIdeal Cert.KernelIdeal.Gen

open Idealize.ShloMosaic
open Idealize.ShloMosaic.StableHlo (held wp_hlo_within)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F] [∀ e, Nonempty (Elt F e)]
variable (m : (ℓ : Loc nD τ sig) → Buf (Elt F) ℓ) (ρ : Dev nD → PrngReg)

/-! ## The two pipelines, called from @main -/

abbrev adm : (p : Fin 2) → (pcfgs (F := F) p).Adm := fun p => (cfgs p).toPCfg_adm
abbrev pin : (p : Fin 2) → Pipeline.Cfg sig Λ₀ := Pipeline.pin (pcfgs (F := F)) adm

/-- The pipelines' ghost state on one core. -/
abbrev G (p : Fin 2) (d : Dev nD) : sProp (MM F) :=
  iprop(Pipeline.cellsGhost (pin (F := F)) EP p d ∗ Pipeline.toksInit (pin (F := F)) EP p d)

/-- A pipeline's call, proved where the pipelines' labels stand alone, holds in @main. -/
theorem call_wp (p : Fin 2) (d : Dev nD) (Φ : PUnit.{1} → sProp (MM F)) :
    wp frame (wpE (D (F := F)) 𝒱 (SparseCore.T d) none) Set.univ (.op (.customCall (Pipeline.entry p) ()) fun _ => .ret PUnit.unit) Φ
      ⊢ wp frame (wpE ((K (F := F)).defs (D (F := F))) 𝒱 (SparseCore.T d) none) Set.univ
          (Prog.lift (.customCall (SparseCore.inner (Pipeline.entry p)) ())) Φ := by
  have h := (K (F := F)).wp_liftProg (D (F := F)) 𝒱 (SparseCore.T d) Set.univ none (.op (.customCall (Pipeline.entry p) ()) fun _ => .ret PUnit.unit) Φ
  simp only [SparseCore.liftProg_op, SparseCore.liftProg_ret] at h
  exact h

set_option backward.isDefEq.respectTransparency.types false in
def momReg : Pipeline.RegionSeg (pcfgs (F := F)) adm (pdats1 (valOf (W2 m)) adm) none defs₀ 𝒱₀ (K (F := F)).L (K (F := F)).lev 0 :=
  reg1 (valOf (W2 m)) (valOf (W3 m)) adm (fun c => W3_v2 m c) (fun c b hb => W3_ne m c (dev_ne hb))

set_option backward.isDefEq.respectTransparency.types false in
theorem moments_wp (d : Dev nD) (Φ : PUnit.{1} → sProp (MM F)) :
    iprop((iprop(boundary (SparseCore.T d) ∗ held (SparseCore.T d) ucRefs (W3 m d) ∗ owesLow (F := F) d) -∗ Φ ⟨⟩)
        ∗ boundary (SparseCore.T d) ∗ (held (SparseCore.T d) ucRefs (W2 m d) ∗ owesLow (F := F) d) ∗ levAts (K (F := F)).L (K (F := F)).lev ∗ G 0 d)
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) adm (pdats1 (valOf (W2 m)) adm) none cellOf_inj EP defs₀ 𝒱₀ (K (F := F)).L (K (F := F)).lev
    (momReg m) d none (fun _ h => nomatch h) (fun _ => .ret PUnit.unit) Φ
  rw [show (momReg m).pre d = iprop(unscopedBufs d (valOf (W2 m) d) ∗ owesLow (F := F) d) from rfl,
    show (momReg m).post d = iprop(unscopedBufs d (valOf (W3 m) d) ∗ owesLow (F := F) d) from rfl] at h
  rw [← unscoped_held, ← unscoped_held]
  iintro ⟨HΦ, Hb, Hpre, Hlev, Hc, Ht⟩
  iapply (call_wp 0 d Φ)
  iapply h
  isplitl [HΦ]
  · iintro ⟨Hb, Hpost⟩
    rw [wp_ret]
    imodintro
    iapply HΦ
    isplitl [Hb]; · iexact Hb
    iexact Hpost
  isplitl [Hb]; · iexact Hb
  isplitl [Hpre]; · iexact Hpre
  isplitl [Hlev]; · iexact Hlev
  isplitl [Hc]; · iexact Hc
  iexact Ht

set_option backward.isDefEq.respectTransparency.types false in
def resReg : Pipeline.RegionSeg (pcfgs (F := F)) adm (pdats2 (valOf (W4 m)) adm) none defs₀ 𝒱₀ (K (F := F)).L (K (F := F)).lev 1 :=
  reg2 (valOf (W4 m)) (valOf (W5 m)) adm (fun c w => W5_out m c w) (fun c b hb => W5_ne m c b hb)

set_option backward.isDefEq.respectTransparency.types false in
theorem results_wp (d : Dev nD) (Φ : PUnit.{1} → sProp (MM F)) :
    iprop((iprop(boundary (SparseCore.T d) ∗ held (SparseCore.T d) ucRefs (W5 m d) ∗ owesLow (F := F) d) -∗ Φ ⟨⟩)
        ∗ boundary (SparseCore.T d) ∗ (held (SparseCore.T d) ucRefs (W4 m d) ∗ owesLow (F := F) d) ∗ levAts (K (F := F)).L (K (F := F)).lev ∗ G 1 d)
      ⊢ wp frame (wpE ((K (F := F)).defs (D (F := F))) 𝒱 (SparseCore.T d) none) Set.univ
          (Prog.lift (.customCall (SparseCore.inner (Pipeline.entry 1)) ())) Φ := by
  have h := Pipeline.RegionSeg.wp (pcfgs (F := F)) adm (pdats2 (valOf (W4 m)) adm) none cellOf_inj EP defs₀ 𝒱₀ (K (F := F)).L (K (F := F)).lev
    (resReg m) d none (fun _ h => nomatch h) (fun _ => .ret PUnit.unit) Φ
  rw [show (resReg m).pre d = iprop(unscopedBufs d (valOf (W4 m) d) ∗ owesLow (F := F) d) from rfl,
    show (resReg m).post d = iprop(unscopedBufs d (valOf (W5 m) d) ∗ owesLow (F := F) d) from rfl] at h
  rw [← unscoped_held, ← unscoped_held]
  iintro ⟨HΦ, Hb, Hpre, Hlev, Hc, Ht⟩
  iapply (call_wp 1 d Φ)
  iapply h
  isplitl [HΦ]
  · iintro ⟨Hb, Hpost⟩
    rw [wp_ret]
    imodintro
    iapply HΦ
    isplitl [Hb]; · iexact Hb
    iexact Hpost
  isplitl [Hb]; · iexact Hb
  isplitl [Hpre]; · iexact Hpre
  isplitl [Hlev]; · iexact Hlev
  isplitl [Hc]; · iexact Hc
  iexact Ht

/-! ## The launch's ghost state -/

def u₀ : UU := (initOf (K (F := F)).hsCells (K (F := F)).hsToks,
  (initOf (Pipeline.cells (pin (F := F)) cellOf_inj) (Pipeline.launchToks (pin (F := F)) cellOf_inj), 1))

theorem hu₀ : (ownU (u₀ (F := F)) : sProp (MM F))
    ⊢ |={Set.univ}=> iprop(BI.own (EH (initOf (K (F := F)).hsCells (K (F := F)).hsToks)) ∗ (bigSep Finset.univ fun d : Dev nD => iprop(G (F := F) 0 d ∗ G 1 d))
        ∗ bigSep Finset.univ fun thr : Thread nD τ => bigSep Finset.univ fun q : Fin 1 => (P (X m)).x q thr) := by
  have hp : ∀ (d : Dev nD) (Ψ : Fin 2 → sProp (MM F)), bigSep Finset.univ Ψ = iprop(Ψ 0 ∗ Ψ 1) := fun d Ψ => by
    rw [show (Finset.univ : Finset (Fin 2)) = insert 0 {1} from by decide, SparseCore.bigSep_insert' (by decide), bigSep_singleton]
  have hg : iprop((bigSep Finset.univ fun c : Dev nD => bigSep Finset.univ fun p => Pipeline.cellsGhost (pin (F := F)) EP p c)
        ∗ (bigSep Finset.univ fun c : Dev nD => bigSep Finset.univ fun p => (Pipeline.toksInit (pin (F := F)) EP p c : sProp (MM F))))
      ⊢ (bigSep Finset.univ fun d : Dev nD => iprop(G (F := F) 0 d ∗ G 1 d)) := by
    rw [← bigSep_sep']
    refine bigSep_mono fun d _ => ?_
    rw [hp d, hp d]
    show _ ⊢ (iprop((Pipeline.cellsGhost (pin (F := F)) EP 0 d ∗ Pipeline.toksInit (pin (F := F)) EP 0 d)
      ∗ Pipeline.cellsGhost (pin (F := F)) EP 1 d ∗ Pipeline.toksInit (pin (F := F)) EP 1 d) : sProp (MM F))
    iintro ⟨⟨Ha, Hb⟩, Hc, Hd⟩
    isplitl [Ha Hc]
    · isplitl [Ha]; · iexact Ha
      iexact Hc
    isplitl [Hb]; · iexact Hb
    iexact Hd
  unfold u₀
  iintro Hu
  ihave H := (ownU_pair (initOf (K (F := F)).hsCells (K (F := F)).hsToks) _) $$ Hu
  icases H with ⟨HH, HR⟩
  ihave HR' := (own_pair_emb _ _ _) $$ HR
  icases HR' with ⟨HR', -⟩
  imod (Pipeline.fund_ghost (pin (F := F)) EP cellOf_inj) $$ HR' with ⟨Hc, Ht⟩
  imodintro
  isplitl [HH]; · iexact HH
  isplitl [Hc Ht]
  · iapply hg
    isplitl [Hc]; · iexact Hc
    iexact Ht
  rw [show (bigSep Finset.univ fun thr : Thread nD τ => bigSep Finset.univ fun q : Fin 1 => (P (X m)).x q thr) = bigSep Finset.univ fun _ => iprop(emp) from
    bigSep_congr fun _ _ => bigSep_univ_of_subsingleton (0 : Fin 1)]
  rw [show (bigSep Finset.univ fun _ : Thread nD τ => (iprop(emp) : sProp (MM F))) = iprop(emp) from bigSep_emp_const _]
  iempintro

/-! ## @main -/

/-- What @main leaves: every buffer at its last contents. -/
abbrev FIN (d : Dev nD) : sProp (MM F) := held (SparseCore.T d) ucRefs (W5 m d)

theorem flat_sub : (flatOp (F := F)).bufs ⊆ ucRefs := show ({dev main_arg0, dev main_v0} : Finset (DevRef τ sig)) ⊆ ucRefs by decide
theorem fold_sub : (foldOp (F := F)).bufs ⊆ ucRefs := show ({dev main_v1, dev main_v3} : Finset (DevRef τ sig)) ⊆ ucRefs by decide

theorem held_W2 (d : Dev nD) :
    (held (SparseCore.T d) ucRefs (W2 m d) : sProp (MM F))
      = iprop((v0Loc d ↦{fullShare} X m d) ∗ (v1Loc d ↦{fullShare} histBuf (X m) d)
          ∗ held (SparseCore.T d) ((ucRefs.erase (dev main_v0)).erase (dev main_v1)) (W1 m d)) := by
  rw [held_two, W2_v1, W2_ne m d (dev_ne (by decide))]
  rw [show (held (SparseCore.T d) ((ucRefs.erase (dev main_v0)).erase (dev main_v1)) (W2 m d) : sProp (MM F))
    = held (SparseCore.T d) ((ucRefs.erase (dev main_v0)).erase (dev main_v1)) (W1 m d) from
      bigSep_congr fun b hb => by rw [W2_ne m d (Finset.ne_of_mem_erase hb)]]
  rfl

/-- After the call the core owes nothing and has waited low. -/
theorem after_call (d : Dev nD) : ∃ R : sProp (MM F), (K (F := F)).tcSt EH d 1 = iprop(owesLow (F := F) d ∗ R) := by
  unfold SparseCore.Cfg.tcSt
  rw [(K (F := F)).Otc_end d (le_refl 1)]
  exact ⟨_, rfl⟩

theorem hmain (κ : GSem nD τ sig → ℕ) (d : Dev nD) :
    iprop((K (F := F)).ctx EH (P (X m)) κ ∗ (K (F := F)).tcSt EH d 0 ∗ (K (F := F)).tcRes m ρ d ∗ G (F := F) 0 d ∗ G 1 d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = held (SparseCore.T d) ucRefs (W0 m d) from
    (unscoped_held d (W0 m d))]
  simp only [main, wp_bind, wp_pure]
  iintro ⟨#Hctx, Hst, ⟨Hb, Hheld, Hts, -⟩, HG0, HG1⟩
  iapply (wp_hlo_within 𝒱 (SparseCore.T d) none Set.univ (op := flatOp) (S := ucRefs) flat_sub (V := W0 m d)) $$ [Hb Hheld]
  · isplitl [Hb]; · iexact Hb
    iexact Hheld
  iintro ⟨Hb, Hheld⟩
  rw [wp_ret]; imodintro
  have e1 : (held (SparseCore.T d) ucRefs ((flatOp (F := F)).result (W0 m d)) : sProp (MM F))
      = iprop((v0Loc d ↦{fullShare} X m d) ∗ (v1Loc d ↦{fullShare} W1 m d (dev main_v1))
          ∗ held (SparseCore.T d) ((ucRefs.erase (dev main_v0)).erase (dev main_v1)) (W1 m d)) := held_two d (W1 m d)
  ihave Hh := (Entails.of_eq e1) $$ Hheld
  icases Hh with ⟨Hx, Ho, Hr⟩
  iapply ((K (F := F)).wp_run (D (F := F)) 𝒱 (EH := EH) (P := P (X m)) κ d 0)
  isplitr; · iexact Hctx
  isplitl [Hst]; · iexact Hst
  isplitl [Hx Ho]
  · iapply (st0_of m d _)
    isplitl [Hx]; · iexact Hx
    iexact Ho
  iintro ⟨Hst, Hdn⟩
  ihave Hdn' := (Entails.of_eq (dn0_eq m d)) $$ Hdn
  icases Hdn' with ⟨Hx, Ho⟩
  ihave Hheld := (Entails.of_eq (held_W2 m d).symm) $$ [Hx Ho Hr]
  · isplitl [Hx]; · iexact Hx
    isplitl [Ho]; · iexact Ho
    iexact Hr
  obtain ⟨R, hR⟩ := after_call (F := F) d
  ihave Hst := (Entails.of_eq (show (K (F := F)).tcSt EH d ((0 : Fin 1).val + 1) = iprop(owesLow (F := F) d ∗ R) from hR)) $$ Hst
  icases Hst with ⟨Hlow, Hst⟩
  ihave Hlev := ((K (F := F)).ctx_levAts κ) $$ Hctx
  iapply (moments_wp m d _)
  isplitr [Hb Hheld Hlow HG0]
  swap
  · isplitl [Hb]; · iexact Hb
    isplitl [Hheld Hlow]; · isplitl [Hheld] <;> iassumption
    isplitr; · iexact Hlev
    iexact HG0
  iintro ⟨Hb, Hheld, Hlow⟩
  iapply (wp_hlo_within 𝒱 (SparseCore.T d) none Set.univ (op := foldOp) (S := ucRefs) fold_sub (V := W3 m d)) $$ [Hb Hheld]
  · isplitl [Hb]; · iexact Hb
    iexact Hheld
  iintro ⟨Hb, Hheld⟩
  rw [wp_ret]; imodintro
  iapply (results_wp m d _)
  isplitr [Hb Hheld Hlow HG1]
  swap
  · isplitl [Hb]; · iexact Hb
    isplitl [Hheld Hlow]
    · isplitl [Hheld]; · iexact Hheld
      iexact Hlow
    isplitr; · iexact Hlev
    iexact HG1
  iintro ⟨Hb, Hheld, Hlow⟩
  imodintro
  isplitl [Hlow Hst]
  · rw [hR]
    isplitl [Hlow]; · iexact Hlow
    iexact Hst
  isplitl [Hheld]; · iexact Hheld
  isplitl [Hb] <;> iassumption

/-! ## The run -/

def fq (d : Dev nD) (s' : Phys nD τ sig (Elt F)) : Prop := ∀ b ∈ ucRefs, s'.mem.mem (d, b) = W5 m d b

theorem hfin (d : Dev nD) (s' : Phys nD τ sig (Elt F)) : iprop(FIN m d ∗ SI s') ⊢ (⌜fq m d s'⌝ : sProp (MM F)) := by
  have h : ∀ b : {b : DevRef τ sig // b ∈ ucRefs}, iprop(FIN m d ∗ SI s') ⊢ (⌜s'.mem.mem (d, b.val) = W5 m d b.val⌝ : sProp (MM F)) := fun b => by
    have hb : (FIN m d : sProp (MM F)) ⊢ (((d, b.val) : Loc nD τ sig) ↦{fullShare} W5 m d b.val) := bigSep_elim (Φ := fun b => (((d, b) : Loc nD τ sig) ↦{fullShare} W5 m d b)) b.property
    iintro ⟨HF, HSI⟩
    ihave Hx := hb $$ HF
    ihave H := (SI_pointsTo_agree (st := s') (ℓ := (d, b.val)) (I := Finset.univ) (q := fullShare) (f := W5 m d b.val)) $$ [HSI Hx]
    · isplitl [HSI] <;> iassumption
    icases H with %hx
    ipureintro; exact funext fun i => hx i (Finset.mem_univ i)
  refine (BIClass.forall_intro h).trans (Laws.pure_forall.2.trans (Laws.pure_mono fun h b hb => h ⟨b, hb⟩))

/-- Every buffer ends at its last contents, every semaphore at zero. -/
def QC : PUnit × MemSt nD τ sig (Elt F) → Prop := fun r => (∀ d : Dev nD, ∀ b ∈ ucRefs, r.2.mem (d, b) = W5 m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m)) (A := ∅) facts v₀
    (fun q hq => match q with | 0 => nomatch hq)
    (fun q _ => match q with | 0 => tileObl (X m))
    (fun q _ => match q with | 0 => SparseCore.Cfg.VecSplit.of_plain (vecSplit (X m)))
    m ρ main (fun d => iprop(G (F := F) 0 d ∗ G 1 d)) (FIN m) (u₀ (F := F)) (sep_elim_left.trans (hu₀ m)) (hmain m ρ) (fq m) (hfin m) (QC m) (fun _ h hz => ⟨h, hz⟩)

theorem arg_mem : dev main_arg0 ∈ ucRefs := by decide

theorem W5_arg (d : Dev nD) : W5 m d (dev main_arg0) = m ((SparseCore.T d).loc main_arg0) := by
  rw [W5_ne m d main_arg0 (by decide)]
  unfold W4
  rw [(foldOp (F := F)).result_of_not_mem (W3 m d) (b := dev main_arg0) (show dev main_arg0 ∉ ({dev main_v3} : Finset (DevRef τ sig)) by decide),
    W3_ne m d (dev_ne (by decide)), W2_ne m d (dev_ne (by decide))]
  unfold W1
  rw [(flatOp (F := F)).result_of_not_mem (W0 m d) (b := dev main_arg0) (show dev main_arg0 ∉ ({dev main_v0} : Finset (DevRef τ sig)) by decide)]
  rfl

end Cert.Proof.Hist

end
-- ==== Proof.Stats.lean ====
/-
  The statistics' identities over the real numbers: a variance, skewness and kurtosis written with the sums of the
  first four powers, and written with the deviations from the mean.
-/
module

public import Idealize.ShloMosaic.PureOps.Ideal.Laws
public import Mathlib.Tactic.Ring
public import Mathlib.Tactic.FieldSimp
public import Mathlib.Tactic.Linarith
public import Mathlib.Tactic.Positivity

@[expose] public section

noncomputable section

namespace Cert.Proof.Hist

open scoped BigOperators

/-- The number of pixels of a channel. -/
abbrev NP : ℝ := 262144

/-! ## As the kernel writes them, of the sums of the powers -/

def pMean (s1 : ℝ) : ℝ := s1 / NP
def pVar (s1 s2 : ℝ) : ℝ := (s2 / NP - pMean s1 * pMean s1) * NP / 262143
def pThird (s1 s2 s3 : ℝ) : ℝ := s3 / NP - 3 * pMean s1 * (s2 / NP) + 2 * pMean s1 * pMean s1 * pMean s1
def pFourth (s1 s2 s3 s4 : ℝ) : ℝ :=
  s4 / NP - 4 * pMean s1 * (s3 / NP) + 6 * pMean s1 * pMean s1 * (s2 / NP) - 3 * pMean s1 * pMean s1 * pMean s1 * pMean s1
def pSkew (e s1 s2 s3 : ℝ) : ℝ := pThird s1 s2 s3 / ((pVar s1 s2 + e) * Real.sqrt (pVar s1 s2 + e))
def pKurt (e s1 s2 s3 s4 : ℝ) : ℝ := pFourth s1 s2 s3 s4 / ((pVar s1 s2 + e) * (pVar s1 s2 + e))

/-! ## As the reference writes them, of the pixels -/

section

variable (x : Fin 262144 → ℝ)

/-- The mean, the variance, a pixel's standard score, and the means of its third and fourth powers. -/
def qMean : ℝ := (∑ n, x n) / NP
def qVar : ℝ := (∑ n, (x n - qMean x) * (x n - qMean x)) / 262143
def qDev (e : ℝ) (n : Fin 262144) : ℝ := (x n - qMean x) / Real.sqrt (qVar x + e)
def qSkew (e : ℝ) : ℝ := (∑ n, qDev x e n * qDev x e n * qDev x e n) / NP
def qKurt (e : ℝ) : ℝ := (∑ n, qDev x e n * qDev x e n * (qDev x e n * qDev x e n)) / NP

/-- The sums of the first four powers. -/
abbrev pow1 : ℝ := ∑ n, x n
abbrev pow2 : ℝ := ∑ n, x n * x n
abbrev pow3 : ℝ := ∑ n, x n * x n * x n
abbrev pow4 : ℝ := ∑ n, x n * x n * (x n * x n)

theorem pMean_eq : pMean (pow1 x) = qMean x := rfl

theorem pow1_eq : pow1 x = NP * qMean x := by unfold qMean; field_simp

theorem sum_const_np (a : ℝ) : ∑ _n : Fin 262144, a = NP * a := by
  rw [Finset.sum_const, Finset.card_univ, Fintype.card_fin, nsmul_eq_mul]; norm_num

/-- The sums of the powers of the deviations from `m`, expanded. -/
theorem dev2 (m : ℝ) : ∑ n, (x n - m) * (x n - m) = pow2 x - 2 * m * pow1 x + NP * (m * m) := by
  rw [← sum_const_np, Finset.mul_sum, ← Finset.sum_sub_distrib, ← Finset.sum_add_distrib]
  exact Finset.sum_congr rfl fun n _ => by ring

theorem dev3 (m : ℝ) : ∑ n, (x n - m) * (x n - m) * (x n - m) = pow3 x - 3 * m * pow2 x + 3 * m * m * pow1 x - NP * (m * m * m) := by
  rw [← sum_const_np, Finset.mul_sum, Finset.mul_sum, ← Finset.sum_sub_distrib, ← Finset.sum_add_distrib, ← Finset.sum_sub_distrib]
  exact Finset.sum_congr rfl fun n _ => by ring

theorem dev4 (m : ℝ) : ∑ n, (x n - m) * (x n - m) * ((x n - m) * (x n - m))
    = pow4 x - 4 * m * pow3 x + 6 * m * m * pow2 x - 4 * m * m * m * pow1 x + NP * (m * m * m * m) := by
  rw [← sum_const_np, Finset.mul_sum, Finset.mul_sum, Finset.mul_sum, ← Finset.sum_sub_distrib, ← Finset.sum_add_distrib,
    ← Finset.sum_sub_distrib, ← Finset.sum_add_distrib]
  exact Finset.sum_congr rfl fun n _ => by ring

theorem pVar_eq : pVar (pow1 x) (pow2 x) = qVar x := by
  unfold pVar qVar
  rw [dev2, pow1_eq, show pMean (NP * qMean x) = qMean x by unfold pMean; field_simp]
  congr 1
  field_simp
  ring

theorem qVar_nonneg : 0 ≤ qVar x :=
  div_nonneg (Finset.sum_nonneg fun n _ => mul_self_nonneg _) (by norm_num)

variable {e : ℝ} (he : 0 < e)
include he

theorem qVar_pos : 0 < qVar x + e := add_pos_of_nonneg_of_pos (qVar_nonneg x) he

theorem pSkew_eq : pSkew e (pow1 x) (pow2 x) (pow3 x) = qSkew x e := by
  have hv := qVar_pos x he
  have hs := Real.sqrt_pos.mpr hv
  have hq : Real.sqrt (qVar x + e) * Real.sqrt (qVar x + e) = qVar x + e := Real.mul_self_sqrt hv.le
  have h : ∑ n, qDev x e n * qDev x e n * qDev x e n
      = (∑ n, (x n - qMean x) * (x n - qMean x) * (x n - qMean x)) / ((qVar x + e) * Real.sqrt (qVar x + e)) := by
    rw [Finset.sum_div]
    refine Finset.sum_congr rfl fun n _ => ?_
    unfold qDev
    rw [← hq, Real.sqrt_mul_self hs.le]
    ring
  have hm : pMean (pow1 x) = qMean x := rfl
  unfold pSkew qSkew pThird
  rw [h, pVar_eq, hm, dev3, pow1_eq x]
  field_simp
  ring

theorem pKurt_eq : pKurt e (pow1 x) (pow2 x) (pow3 x) (pow4 x) = qKurt x e := by
  have hv := qVar_pos x he
  have hs := Real.sqrt_pos.mpr hv
  have hq : Real.sqrt (qVar x + e) * Real.sqrt (qVar x + e) = qVar x + e := Real.mul_self_sqrt hv.le
  have h : ∑ n, qDev x e n * qDev x e n * (qDev x e n * qDev x e n)
      = (∑ n, (x n - qMean x) * (x n - qMean x) * ((x n - qMean x) * (x n - qMean x))) / ((qVar x + e) * (qVar x + e)) := by
    rw [Finset.sum_div]
    refine Finset.sum_congr rfl fun n _ => ?_
    unfold qDev
    rw [← hq, Real.sqrt_mul_self hs.le]
    ring
  have hm : pMean (pow1 x) = qMean x := rfl
  unfold pKurt qKurt pFourth
  rw [h, pVar_eq, hm, dev4, pow1_eq x]
  field_simp
  ring

end

/-! ## The model's operations on real numbers -/

open Idealize.ShloMosaic

theorem coe_sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (a : ℝ) {b : ℝ} (hb : b ≠ 0) : Ideal.div (a : EReal) (b : EReal) = ((a / b : ℝ) : EReal) := by
  rw [Ideal.div_coe hb, ← EReal.coe_mul, mul_one_div]

theorem sqrt_coe_of_nonneg {a : ℝ} (ha : 0 ≤ a) : Ideal.sqrt (a : EReal) = ((Real.sqrt a : ℝ) : EReal) := by
  rw [Ideal.sqrt_coe, if_neg (not_lt.mpr ha)]

/-! ## The programs' float words -/

/-- The positive word added to a variance. -/
def eps : ℝ := 11258999 * (2 : ℝ) ^ (-50 : ℤ)

theorem eps_pos : 0 < eps := by unfold eps; positivity

theorem word_eps : Ideal.ofBits .f32 0x322BCC77#32 = ((eps : ℝ) : EReal) := by
  simp [Ideal.ofBits, Ideal.ieee, -EReal.coe_mul, eps]
theorem word_np : Ideal.ofBits .f32 0x48800000#32 = ((NP : ℝ) : EReal) := by
  simp [Ideal.ofBits, Ideal.ieee, -EReal.coe_mul]; norm_num
theorem word_np1 : Ideal.ofBits .f32 0x487FFFC0#32 = ((262143 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_four : Ideal.ofBits .f32 0x40800000#32 = ((4 : ℝ) : EReal) := by
  simp [Ideal.ofBits, Ideal.ieee, -EReal.coe_mul]; norm_num
theorem word_six : Ideal.ofBits .f32 0x40C00000#32 = ((6 : ℝ) : EReal) := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul, -EReal.coe_neg]; norm_num
theorem word_128 : Ideal.ofBits .f32 0x43000000#32 = ((128 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num

end Cert.Proof.Hist

end
-- ==== Proof.Counts.lean ====
/-
  The lane-split histogram over the extended reals: a position holds the number of pixels of its lane that fall in its
  bin, the sixteen lanes of a bin together hold the number of all the channel's pixels in it, and a real pixel falls in
  the bin whose two edges hold it.
-/
module

public import proofs.«01_k».proof.Proof.Trip
public import proofs.«01_k».proof.Proof.Stats
public import Idealize.ShloMosaic.Lib.ValueIdx

@[expose] public section

noncomputable section

namespace Cert.Proof.Hist

open Cert.KernelIdeal Cert.KernelIdeal.Gen
open Idealize.ShloMosaic Idealize.ShloMosaic.ValueIdx
open scoped BigOperators

/-! ## One scatter-add -/

/-- Whether a pixel is counted. -/
def okOf (v : EReal) : BitVec 1 := IntOp.andi (Ideal.cmp .oge v (Ideal.ofBits .f32 0xBF800000#32)) (Ideal.cmp .ole v (Ideal.ofBits .f32 0x3F800000#32))

theorem inRange_apply (v : Vec Ideal S16 .f32) (x : S16.Idx) : inRange v x = okOf (v x) := rfl

/-- What a pixel adds to bin `b`. -/
def hit (v : EReal) (b : ℕ) : EReal := if okOf v = 1#1 ∧ (binOf (F := Ideal) v).toNat = b then 1 else 0

/-- A chain of point updates adds, at each position, one for every update made there. -/
theorem foldl_points (H : S4224.Idx → EReal) (m : Fin 16 → Prop) [DecidablePred m] (i : Fin 16 → S4224.Idx) (y : S4224.Idx) (L : List (Fin 16)) :
    L.foldl (fun (g : S4224.Idx → EReal) k => if m k then (fun j => if ∀ a, (j a).val = (i k a).val then g (i k) + 1 else g j) else g) H y
      = H y + (L.map fun k => if m k ∧ (i k 0).val = (y 0).val then (1 : EReal) else 0).sum := by
  induction L generalizing H with
  | nil => simp
  | cons k L ih =>
    rw [List.foldl_cons, ih, List.map_cons, List.sum_cons, ← add_assoc]
    congr 1
    by_cases hm : m k
    · by_cases hy : (i k 0).val = (y 0).val
      · have e : i k = y := by
          funext a
          obtain rfl : a = 0 := Subsingleton.elim _ _
          exact Fin.ext hy
        have ha : ∀ a, (y a).val = (i k a).val := fun a => by rw [e]
        rw [if_pos hm, if_pos ha, if_pos ⟨hm, hy⟩, e]
      · have ha : ¬∀ a, (y a).val = (i k a).val := fun h => hy (h 0).symm
        have hn : ¬(m k ∧ (i k 0).val = (y 0).val) := fun h => hy h.2
        rw [if_pos hm, if_neg ha, if_neg hn, add_zero]
    · rw [if_neg hm, if_neg (fun h => hm h.1), add_zero]

/-- Where lane `k` counts. -/
def slotIdx (v : Vec Ideal S16 .f32) (k : Fin 16) : S4224.Idx :=
  idxAt (s := S4224) (t := S16) (![slots v] : Fin 1 → IVec S16 32) (slots_lt v) (ix1 k)

theorem slotIdx_val (v : Vec Ideal S16 .f32) (k : Fin 16) :
    (slotIdx v k 0).val = (binOf (F := Ideal) (v (ix1 k))).toNat * 16 + k.val := slots_toNat v (ix1 k)

theorem lane_eq (k : Fin 16) : (Shape.ofLane (d := ![16]) k : S16.Idx) = ix1 k := by
  funext a
  obtain rfl : a = 0 := Subsingleton.elim _ _
  rfl

theorem bump_apply (H : Vec Ideal S4224 .f32) (v : Vec Ideal S16 .f32) (y : S4224.Idx) :
    bump H v y = H y + hit (v (ix1 ⟨(y 0).val % 16, Nat.mod_lt _ (by decide)⟩)) ((y 0).val / 16) := by
  have e : bump H v = (List.finRange 16).foldl (fun (g : S4224.Idx → EReal) k =>
      if inRange v (ix1 k) = 1#1 then (fun j => if ∀ a, (j a).val = (slotIdx v k a).val then g (slotIdx v k) + 1 else g j) else g) H := by
    have e1 : (ones : FVec Ideal S16 .f32) = fun _ => (1 : EReal) := by
      funext x
      show Ideal.ofBits .f32 0x3F800000#32 = 1
      rw [word_one]; norm_num
    unfold bump
    rw [e1]
    unfold storeIdx
    refine congrArg (fun f => List.foldl f H (List.finRange 16)) ?_
    funext g k
    dsimp only
    rw [lane_eq k]
    by_cases hm : inRange v (ix1 k) = 1#1
    · refine (if_pos hm).trans (Eq.trans ?_ (if_pos hm).symm)
      funext j
      by_cases hj : ∀ a, (j a).val = (slotIdx v k a).val
      · exact (if_pos hj).trans (Eq.trans rfl (if_pos hj).symm)
      · exact (if_neg hj).trans (Eq.trans rfl (if_neg hj).symm)
    · exact (if_neg hm).trans (Eq.trans rfl (if_neg hm).symm)
  rw [e]
  refine (foldl_points H (fun k => inRange v (ix1 k) = 1#1) (slotIdx v) y
    (List.finRange 16)).trans ?_
  rw [← Fin.sum_univ_def]
  congr 1
  have hl : (y 0).val % 16 < 16 := Nat.mod_lt _ (by decide)
  rw [Finset.sum_eq_single (⟨(y 0).val % 16, hl⟩ : Fin 16)]
  · unfold hit
    refine if_congr ?_ rfl rfl
    rw [slotIdx_val]
    exact and_congr Iff.rfl ⟨fun h => by dsimp only at h; omega, fun h => by dsimp only; omega⟩
  · intro k _ hk
    refine if_neg fun h => hk (Fin.ext ?_)
    have h2 := h.2
    rw [slotIdx_val] at h2
    show k.val = (y 0).val % 16
    omega
  · exact fun h => absurd (Finset.mem_univ _) h

/-! ## A channel's histogram -/

theorem histN_apply (xs : ℕ → EReal) (o : ℕ) (y : S4224.Idx) (n : ℕ) :
    histN (F := Ideal) xs o n y = ∑ k ∈ Finset.range n, hit (xs (o + 16 * k + (y 0).val % 16)) ((y 0).val / 16) := by
  induction n with
  | zero =>
    show Ideal.ofBits .f32 0x00000000#32 = _
    rw [Ideal.ofBits_zero_f32, Finset.sum_range_zero]
  | succ n ih =>
    rw [Finset.sum_range_succ, ← ih]
    exact bump_apply _ _ _

/-- The sixteen lanes of bin `b` together count the channel's pixels in it. -/
theorem lanes_sum (xs : ℕ → EReal) (o b : ℕ) (pos : Fin 16 → S4224.Idx) (hpos : ∀ l, (pos l 0).val = 16 * b + l.val) :
    ∑ l, histN (F := Ideal) xs o 16384 (pos l) = ∑ n : Fin 262144, hit (xs (o + n.val)) b := by
  have e : ∀ l, histN (F := Ideal) xs o 16384 (pos l) = ∑ k : Fin 16384, hit (xs (o + (l.val + 16 * k.val))) b := by
    intro l
    have hl := l.isLt
    rw [histN_apply, hpos, show (16 * b + l.val) % 16 = l.val by omega, show (16 * b + l.val) / 16 = b by omega,
      ← Fin.sum_univ_eq_sum_range (fun k => hit (xs (o + 16 * k + l.val)) b)]
    exact Finset.sum_congr rfl fun k _ => by rw [show o + 16 * k.val + l.val = o + (l.val + 16 * k.val) by omega]
  rw [Finset.sum_congr rfl fun l _ => e l, Finset.sum_comm, ← Finset.sum_product']
  exact Fintype.sum_equiv finProdFinEquiv (fun p : Fin 16384 × Fin 16 => hit (xs (o + (p.2.val + 16 * p.1.val))) b)
    (fun n : Fin (16384 * 16) => hit (xs (o + n.val)) b) fun p => rfl

/-! ## A real pixel's bin -/

theorem okOf_iff (v : ℝ) : okOf (v : EReal) = 1#1 ↔ -1 ≤ v ∧ v ≤ 1 := by
  unfold okOf Ideal.cmp
  rw [word_one, word_neg_one]
  dsimp only
  simp only [EReal.coe_le_coe_iff]
  by_cases h1 : (-1 : ℝ) ≤ v <;> by_cases h2 : v ≤ 1 <;> simp [h1, h2, IntOp.andi]

theorem clamp_of_le (k : ℕ) (hk : k ≤ 256) : (IntOp.minsi (IntOp.maxsi (BitVec.ofNat 32 k) 0#32) 256#32).toNat = k := by
  have h : (BitVec.ofNat 32 k).toInt = k := by rw [BitVec.toInt_eq_toNat_cond, BitVec.toNat_ofNat]; omega
  have h1 : IntOp.maxsi (BitVec.ofNat 32 k) 0#32 = BitVec.ofNat 32 k := by
    simp only [IntOp.maxsi, BitVec.slt_eq_decide, decide_eq_true_eq, BitVec.toInt_zero, h]
    split
    · rfl
    · obtain rfl : k = 0 := by omega
      rfl
  rw [h1]
  simp only [IntOp.minsi, BitVec.slt_eq_decide, decide_eq_true_eq, show (256#32).toInt = 256 from rfl, h]
  split
  · rw [BitVec.toNat_ofNat]; omega
  · show 256 = k
    omega

theorem binOf_coe (v : ℝ) (h1 : -1 ≤ v) (h2 : v ≤ 1) : ((binOf (F := Ideal) (v : EReal)).toNat : ℤ) = ⌊v * 128 + 128⌋ := by
  have hr : (v : EReal) * Ideal.ofBits .f32 0x43000000#32 + Ideal.ofBits .f32 0x43000000#32 = ((v * 128 + 128 : ℝ) : EReal) := by
    rw [word_128, ← EReal.coe_mul, ← EReal.coe_add]
  have h0 : (0 : ℤ) ≤ ⌊v * 128 + 128⌋ := Int.floor_nonneg.mpr (by linarith)
  have h3 : ⌊v * 128 + 128⌋ ≤ 256 := by
    have := Int.floor_le (v * 128 + 128)
    have h : ((⌊v * 128 + 128⌋ : ℤ) : ℝ) ≤ ((256 : ℤ) : ℝ) := by push_cast; linarith
    exact_mod_cast h
  have e : Ideal.fptosi 32 ((v : EReal) * Ideal.ofBits .f32 0x43000000#32 + Ideal.ofBits .f32 0x43000000#32)
      = BitVec.ofNat 32 (⌊v * 128 + 128⌋).toNat := by
    rw [hr]
    unfold Ideal.fptosi
    rw [Ideal.toIntClamped_coe, if_pos (by linarith)]
    obtain ⟨k, hk⟩ := Int.eq_ofNat_of_zero_le h0
    rw [hk] at h3 ⊢
    rw [min_eq_right (by norm_num <;> omega), max_eq_right (by norm_num <;> omega)]
    rfl
  have := clamp_of_le (⌊v * 128 + 128⌋).toNat (by omega)
  show ((IntOp.minsi (IntOp.maxsi (Ideal.fptosi 32 ((v : EReal) * Ideal.ofBits .f32 0x43000000#32 + Ideal.ofBits .f32 0x43000000#32)) 0#32) 256#32).toNat : ℤ) = _
  rw [e, this]
  omega

/-- Edge `b` of the 257. -/
def edge (b : ℕ) : ℝ := b / 128 - 1

/-- A pixel in bin `b`, the last bin with its upper edge. -/
def inBin (v : ℝ) (b : ℕ) : Prop := edge b ≤ v ∧ (v < edge (b + 1) ∨ (b = 255 ∧ v = edge (b + 1)))

open Classical in
theorem hit_coe (v : ℝ) (b : ℕ) : hit (v : EReal) b = if -1 ≤ v ∧ v ≤ 1 ∧ edge b ≤ v ∧ v < edge (b + 1) then 1 else 0 := by
  unfold hit
  refine if_congr ?_ rfl rfl
  rw [okOf_iff]
  constructor
  · rintro ⟨⟨h1, h2⟩, hb⟩
    have h := binOf_coe v h1 h2
    rw [hb] at h
    have h' := (Int.floor_eq_iff.mp h.symm)
    push_cast at h'
    refine ⟨h1, h2, ?_, ?_⟩ <;> (unfold edge; push_cast; linarith [h'.1, h'.2])
  · rintro ⟨h1, h2, h3, h4⟩
    refine ⟨⟨h1, h2⟩, ?_⟩
    have h := binOf_coe v h1 h2
    unfold edge at h3 h4
    push_cast at h4
    have : ⌊v * 128 + 128⌋ = (b : ℤ) := Int.floor_eq_iff.mpr ⟨by push_cast; linarith, by push_cast; linarith⟩
    omega

open Classical in
/-- Below the last bin the kernel's bins are the reference's; -/
theorem hit_low (v : ℝ) (b : ℕ) (hb : b < 255) : hit (v : EReal) b = if inBin v b then 1 else 0 := by
  rw [hit_coe]
  refine if_congr ?_ rfl rfl
  have hb0 : (0 : ℝ) ≤ b := Nat.cast_nonneg b
  have hb' : (b : ℝ) + 1 ≤ 255 := by exact_mod_cast hb
  unfold inBin edge
  push_cast
  constructor
  · rintro ⟨_, _, h3, h4⟩
    exact ⟨h3, .inl h4⟩
  · rintro ⟨h3, h4 | h4⟩
    · exact ⟨by linarith, by linarith, h3, h4⟩
    · exact absurd h4.1 (by omega)

open Classical in
/-- and its last two together are the reference's last. -/
theorem hit_top (v : ℝ) : hit (v : EReal) 255 + hit (v : EReal) 256 = if inBin v 255 then 1 else 0 := by
  rw [hit_coe, hit_coe]
  unfold inBin edge
  norm_num
  by_cases h1 : (127 / 128 : ℝ) ≤ v
  · rcases lt_trichotomy v 1 with h | h | h
    · rw [if_pos ⟨by linarith, h.le, by linarith, by linarith⟩, if_neg (fun h' => by linarith [h'.2.2.1]), if_pos ⟨h1, .inl h⟩, add_zero]
    · subst h; norm_num
    · rw [if_neg (fun h' => by linarith [h'.2.1]), if_neg (fun h' => by linarith [h'.2.1]), if_neg (fun h' => by rcases h'.2 with h' | h' <;> linarith), add_zero]
  · rw [if_neg (fun h' => h1 (by linarith [h'.2.2.1])), if_neg (fun h' => h1 (by linarith [h'.2.2.1])), if_neg (fun h' => h1 h'.1), add_zero]

end Cert.Proof.Hist

end
-- ==== Proof.Moments.lean ====
/-
  The power sums: one image's, as sums over a channel's pixels, and the array of all of them that the moments' pipeline
  leaves.
-/
module

public import proofs.«01_k».proof.Proof.Regions
public import proofs.«01_k».proof.Proof.Counts
public import Idealize.ShloMosaic.Lib.Pointwise.Reduce

@[expose] public section

noncomputable section

namespace Cert.Proof.Hist

open Cert.KernelIdeal Cert.KernelIdeal.Gen
open Idealize.ShloMosaic hiding ix1 ix2 ix3 ix4
open Idealize.ShloMosaic.ValueIdx
open Idealize.ShloMosaic.TcCoe
open scoped BigOperators

/-! ## One image -/

/-- Pixel `n` of a channel: its row and column. -/
abbrev rowOf (n : Fin 262144) : Fin 512 := ⟨n.val / 512, by omega⟩
abbrev colOf (n : Fin 262144) : Fin 512 := ⟨n.val % 512, by omega⟩

theorem sum_pix (f : Fin 512 → Fin 512 → EReal) : ∑ h, ∑ w, f h w = ∑ n : Fin 262144, f (rowOf n) (colOf n) := by
  rw [← Finset.sum_product']
  refine Fintype.sum_equiv finProdFinEquiv (fun p : Fin 512 × Fin 512 => f p.1 p.2) (fun n : Fin (512 * 512) => f (rowOf n) (colOf n)) fun p => ?_
  have h1 := p.1.isLt
  have h2 := p.2.isLt
  refine congrArg₂ f (Fin.ext ?_) (Fin.ext ?_)
  · show p.1.val = (p.2.val + 512 * p.1.val) / 512
    omega
  · show p.2.val = (p.2.val + 512 * p.1.val) % 512
    omega

theorem sumImg (y : FVec Ideal S1x3x512x512 .f32) (c : Fin 3) :
    multiReduction .add [2, 3] S1x3 y 0x00000000#32 reduces_S1x3x512x512_S1x3 (.inl rfl) rfl (ix2 0 c)
      = ∑ n : Fin 262144, y (ix4 0 c (rowOf n) (colOf n)) := by
  refine Eq.trans ?_ (sum_pix fun h w => y (ix4 0 c h w))
  exact Ideal.reduceAdd_r4_a23 reduces_S1x3x512x512_S1x3 y (ix2 0 c)

theorem castMom {α : Type} (v : S1x3.Idx → α) (c : Fin 3) :
    shapeCast S1x3x1 v shapeCasts_S1x3_S1x3x1 (ix3 0 c 0) = v (ix2 0 c) := by
  refine congrArg v (S1x3.rowMajor.injective (Fin.ext ?_))
  rw [Shape.rowMajor_reshapeEquiv]
  refine (Shape.rowMajor_val_three (d := ![1, 3, 1]) _).trans ((Shape.rowMajor_val_two (d := ![1, 3]) _).trans ?_).symm
  show 0 * 3 + c.val = (0 * 3 + c.val) * 1 + 0
  omega

/-- The first four powers, as the kernel multiplies them. -/
def epow (k : Fin 4) (v : EReal) : EReal := (![v, v * v, v * v * v, v * v * (v * v)] : Fin 4 → EReal) k

/-- One image's power sum `k` of a channel. -/
theorem k1_at (v : Vec Ideal S1x3x512x512 .f32) (c : Fin 3) (k : Fin 4) :
    k1_pay1 v (ix3 0 c k) = ∑ n : Fin 262144, epow k (v (ix4 0 c (rowOf n) (colOf n))) := by
  have e (y : FVec Ideal S1x3x512x512 .f32) :
      shapeCast S1x3x1 (multiReduction .add [2, 3] S1x3 y 0x00000000#32 reduces_S1x3x512x512_S1x3 (.inl rfl) rfl) shapeCasts_S1x3_S1x3x1 (ix3 0 c 0)
        = ∑ n : Fin 262144, y (ix4 0 c (rowOf n) (colOf n)) := (castMom _ c).trans (sumImg y c)
  unfold k1_pay1
  fin_cases k
  · exact (concatenate_apply_piece (t := S1x3x4) 2 _ _ (ix3 (0 : Fin 1) c (0 : Fin 4)) 0 (by simp) S1x3x1 _ rfl rfl 0 (by rfl) (ix3 (0 : Fin 1) c (0 : Fin 1))
      (fun b hb => match b with | 0 => rfl | 1 => rfl | 2 => absurd rfl hb) rfl).trans (e v)
  · exact (concatenate_apply_piece (t := S1x3x4) 2 _ _ (ix3 (0 : Fin 1) c (1 : Fin 4)) 1 (by simp) S1x3x1 _ rfl rfl 1 (by rfl) (ix3 (0 : Fin 1) c (0 : Fin 1))
      (fun b hb => match b with | 0 => rfl | 1 => rfl | 2 => absurd rfl hb) rfl).trans (e (mulf v v))
  · exact (concatenate_apply_piece (t := S1x3x4) 2 _ _ (ix3 (0 : Fin 1) c (2 : Fin 4)) 2 (by simp) S1x3x1 _ rfl rfl 2 (by rfl) (ix3 (0 : Fin 1) c (0 : Fin 1))
      (fun b hb => match b with | 0 => rfl | 1 => rfl | 2 => absurd rfl hb) rfl).trans (e (mulf (mulf v v) v))
  · exact (concatenate_apply_piece (t := S1x3x4) 2 _ _ (ix3 (0 : Fin 1) c (3 : Fin 4)) 3 (by simp) S1x3x1 _ rfl rfl 3 (by rfl) (ix3 (0 : Fin 1) c (0 : Fin 1))
      (fun b hb => match b with | 0 => rfl | 1 => rfl | 2 => absurd rfl hb) rfl).trans (e (mulf (mulf v v) (mulf v v)))

/-! ## All the images -/

/-- Every image's power sums. -/
def momBuf (A : S32x3x512x512.Idx → EReal) (j : S32x3x4.Idx) : EReal :=
  ∑ n : Fin 262144, epow (j 2) (A (ix4 (j 0) (j 1) (rowOf n) (colOf n)))

variable (V : Val Ideal) (d : Dev nD)

/-- The block a point fetches, and the block it writes back: the point's image. -/
theorem index1_0 : ∀ t : Fin cfg1.N, win1_0.index t 0 = t.val ∧ win1_0.index t 1 = 0 ∧ win1_0.index t 2 = 0 ∧ win1_0.index t 3 = 0 := by decide +kernel
theorem index1_1 : ∀ t : Fin cfg1.N, win1_1.index t 0 = t.val ∧ win1_1.index t 1 = 0 ∧ win1_1.index t 2 = 0 := by decide +kernel

theorem img_at (t : Fin cfg1.N) (c : Fin 3) (h w : Fin 512) :
    img V d t (ix4 0 c h w) = V d main_arg0 (ix4 (⟨t.val, t.isLt⟩ : Fin 32) c h w) := by
  show V d main_arg0 (((cfg1.win 0).blk t).view.emb (ix4 0 c h w)) = _
  refine congrArg (V d main_arg0) (funext fun a => Fin.ext ?_)
  match a with
  | 0 => blk_simp; exact (index1_0 t).1
  | 1 => blk_simp; rw [(index1_0 t).2.1]; exact (congrArg (· + _) (Nat.zero_mul _)).trans (Nat.zero_add _)
  | 2 => blk_simp; rw [(index1_0 t).2.2.1]; exact (congrArg (· + _) (Nat.zero_mul _)).trans (Nat.zero_add _)
  | 3 => blk_simp; rw [(index1_0 t).2.2.2]; exact (congrArg (· + _) (Nat.zero_mul _)).trans (Nat.zero_add _)

theorem arr1 : (dat1 V d).arrAt 1 cfg1.N = momBuf (V d main_arg0) := by
  refine (dat1 V d).arrAt_eq_of_covers 1 _ (by decide +kernel) fun t hf y => ?_
  obtain ⟨i, c, k, rfl⟩ : ∃ (i : Fin 1) (c : Fin 3) (k : Fin 4), y = ix3 i c k := ⟨y 0, y 1, y 2, ValueIdx.eq_ix3 y⟩
  obtain rfl : i = 0 := Subsingleton.elim _ _
  blk_simp
  refine ((k1_at (img V d t) c k).trans ?_ : k1_pay1 (img V d t) (ix3 0 c k) = _)
  have e : (win1_1.blk t).view.emb (ix3 0 c k) = ix3 (⟨t.val, t.isLt⟩ : Fin 32) c k := funext fun a => Fin.ext (by
    match a with
    | 0 => blk_simp; exact (index1_1 t).1
    | 1 => blk_simp; rw [(index1_1 t).2.1]; exact (congrArg (· + _) (Nat.zero_mul _)).trans (Nat.zero_add _)
    | 2 => blk_simp; rw [(index1_1 t).2.2]; exact (congrArg (· + _) (Nat.zero_mul _)).trans (Nat.zero_add _))
  rw [e]
  exact Finset.sum_congr rfl fun n _ => congrArg (epow k) (img_at V d t c (rowOf n) (colOf n))

end Cert.Proof.Hist

end
-- ==== Proof.KerStats.lean ====
/-
  The statistics' kernel's mean, variance, skewness, kurtosis and score at a channel, as formulas of the channel's four
  power sums, and these formulas' values at real sums.
-/
module

public import proofs.«01_k».proof.Proof.Bodies
public import proofs.«01_k».proof.Proof.Stats
public import Idealize.ShloMosaic.Lib.ValueIdx
public import Idealize.ShloMosaic.Lib.Pipeline.Value

@[expose] public section

noncomputable section

namespace Cert.Proof.Hist

open Cert.KernelIdeal Cert.KernelIdeal.Gen
open Idealize.ShloMosaic hiding ix1 ix2 ix3 ix4
open Idealize.ShloMosaic.ValueIdx
open scoped BigOperators

/-! ## The formulas of the power sums -/

/-- A power sum's mean. -/
def eMean (a : EReal) : EReal := Ideal.div a (Ideal.ofBits .f32 0x48800000#32)
/-- The variance; the third and the fourth central moment, of the means of the powers; the two scaled moments, of the variance. -/
def eVarOf (m x2 : EReal) : EReal := Ideal.div ((x2 - m * m) * Ideal.ofBits .f32 0x48800000#32) (Ideal.ofBits .f32 0x487FFFC0#32)
def eThirdOf (m x2 x3 : EReal) : EReal := x3 - Ideal.ofBits .f32 0x40400000#32 * m * x2 + Ideal.ofBits .f32 0x40000000#32 * m * m * m
def eFourthOf (m x2 x3 x4 : EReal) : EReal :=
  x4 - Ideal.ofBits .f32 0x40800000#32 * m * x3 + Ideal.ofBits .f32 0x40C00000#32 * m * m * x2 - Ideal.ofBits .f32 0x40400000#32 * m * m * m * m
def eStd2 (v : EReal) : EReal := v + Ideal.ofBits .f32 0x322BCC77#32
def eSkewOf (t v : EReal) : EReal := Ideal.div t (eStd2 v * Ideal.sqrt (eStd2 v))
def eKurtOf (f v : EReal) : EReal := Ideal.div f (eStd2 v * eStd2 v)

/-- The same, of the sums. -/
def eVar (a b : EReal) : EReal := eVarOf (eMean a) (eMean b)
def eSkew (a b c : EReal) : EReal := eSkewOf (eThirdOf (eMean a) (eMean b) (eMean c)) (eVar a b)
def eKurt (a b c d : EReal) : EReal := eKurtOf (eFourthOf (eMean a) (eMean b) (eMean c) (eMean d)) (eVar a b)

theorem eMean_coe (a : ℝ) : eMean a = ((a / NP : ℝ) : EReal) := by
  unfold eMean
  rw [word_np, div_coe_coe _ (by norm_num)]

theorem eVar_coe (a b : ℝ) : eVar a b = ((pVar a b : ℝ) : EReal) := by
  unfold eVar eVarOf
  rw [eMean_coe, eMean_coe, word_np, word_np1, ← EReal.coe_mul, ← EReal.coe_sub, ← EReal.coe_mul, div_coe_coe _ (by norm_num)]
  rfl

theorem eStd2_coe (v : ℝ) : eStd2 v = ((v + eps : ℝ) : EReal) := by
  unfold eStd2
  rw [word_eps, ← EReal.coe_add]

theorem eSkew_coe (a b c : ℝ) (h : 0 < pVar a b + eps) : eSkew a b c = ((pSkew eps a b c : ℝ) : EReal) := by
  unfold eSkew eSkewOf eThirdOf
  rw [eMean_coe, eMean_coe, eMean_coe, eVar_coe, eStd2_coe, sqrt_coe_of_nonneg h.le, word_two, word_three]
  simp only [← EReal.coe_mul, ← EReal.coe_sub, ← EReal.coe_add]
  rw [div_coe_coe _ (mul_pos h (Real.sqrt_pos.2 h)).ne']
  rfl

theorem eKurt_coe (a b c d : ℝ) (h : 0 < pVar a b + eps) : eKurt a b c d = ((pKurt eps a b c d : ℝ) : EReal) := by
  unfold eKurt eKurtOf eFourthOf
  rw [eMean_coe, eMean_coe, eMean_coe, eMean_coe, eVar_coe, eStd2_coe, word_three, word_four, word_six]
  simp only [← EReal.coe_mul, ← EReal.coe_sub, ← EReal.coe_add]
  rw [div_coe_coe _ (mul_pos h h).ne']
  rfl

/-! ## Reading the columns -/

theorem castCol {α : Type} (v : S32x1x1.Idx → α) (r : Fin 32) :
    shapeCast S32x1 v shapeCasts_S32x1x1_S32x1 (ix2 r 0) = v (ix3 r 0 0) := by
  refine congrArg v (S32x1x1.rowMajor.injective (Fin.ext ?_))
  rw [Shape.rowMajor_reshapeEquiv]
  refine (Shape.rowMajor_val_two (d := ![32, 1]) _).trans ((Shape.rowMajor_val_three (d := ![32, 1, 1]) _).trans ?_).symm
  show (r.val * 1 + 0) * 1 + 0 = r.val * 1 + 0
  omega

theorem cellAt_at (M : S32x3x4.Idx → EReal) (r : Fin 32) (c : Fin 3) (k : Fin 4)
    (inb : ∀ a, (![0, c.val, k.val] : Fin 3 → ℕ) a + S32x1x1.size a ≤ S32x3x4.size a) :
    cellAt (F := Ideal) M ![0, c.val, k.val] inb (ix3 r 0 0) = M (ix3 r c k) := by
  unfold cellAt
  refine congrArg M (funext fun a => Fin.ext ?_)
  match a with
  | 0 => show 0 + 1 * r.val = r.val; omega
  | 1 => show c.val + 1 * 0 = c.val; omega
  | 2 => show k.val + 1 * 0 = k.val; omega

/-- Three columns side by side. -/
theorem cat3_at (u v w : FVec Ideal S32x1 .f32) (r : Fin 32) (c : Fin 3) :
    concatenate S32x3 1 [⟨S32x1, u⟩, ⟨S32x1, v⟩, ⟨S32x1, w⟩] concatenates_S32x1_S32x1_S32x1_S32x3_d1 (ix2 r c)
      = (![u, v, w] : Fin 3 → FVec Ideal S32x1 .f32) c (ix2 r 0) := by
  fin_cases c
  · exact concatenate_apply_piece (t := S32x3) 1 [⟨S32x1, u⟩, ⟨S32x1, v⟩, ⟨S32x1, w⟩] _ (ix2 r (0 : Fin 3)) 0 (by simp) S32x1 u rfl rfl 0 (by rfl) (ix2 r (0 : Fin 1))
      (fun b hb => match b with | 0 => rfl | 1 => absurd rfl hb) rfl
  · exact concatenate_apply_piece (t := S32x3) 1 [⟨S32x1, u⟩, ⟨S32x1, v⟩, ⟨S32x1, w⟩] _ (ix2 r (1 : Fin 3)) 1 (by simp) S32x1 v rfl rfl 1 (by rfl) (ix2 r (0 : Fin 1))
      (fun b hb => match b with | 0 => rfl | 1 => absurd rfl hb) rfl
  · exact concatenate_apply_piece (t := S32x3) 1 [⟨S32x1, u⟩, ⟨S32x1, v⟩, ⟨S32x1, w⟩] _ (ix2 r (2 : Fin 3)) 2 (by simp) S32x1 w rfl rfl 2 (by rfl) (ix2 r (0 : Fin 1))
      (fun b hb => match b with | 0 => rfl | 1 => absurd rfl hb) rfl

/-! ## The payloads at a row -/

section

variable (r : Fin 32)

theorem pay7_at (v : Vec Ideal S32x1x1 .f32) : k2_pay7 v (ix2 r 0) = eMean (v (ix3 r 0 0)) :=
  congrArg eMean (castCol v r)
theorem pay18_at (v : Vec Ideal S32x1x1 .f32) : k2_pay18 v (ix2 r 0) = eMean (v (ix3 r 0 0)) :=
  congrArg eMean (castCol v r)
theorem pay19_at (v : Vec Ideal S32x1x1 .f32) : k2_pay19 v (ix2 r 0) = eMean (v (ix3 r 0 0)) :=
  congrArg eMean (castCol v r)
theorem pay20_at (v : Vec Ideal S32x1x1 .f32) : k2_pay20 v (ix2 r 0) = eMean (v (ix3 r 0 0)) :=
  congrArg eMean (castCol v r)
theorem pay21_at (v : Vec Ideal S32x1x1 .f32) : k2_pay21 v (ix2 r 0) = eMean (v (ix3 r 0 0)) :=
  congrArg eMean (castCol v r)
theorem pay28_at (v : Vec Ideal S32x1x1 .f32) : k2_pay28 v (ix2 r 0) = eMean (v (ix3 r 0 0)) :=
  congrArg eMean (castCol v r)
theorem pay29_at (v : Vec Ideal S32x1x1 .f32) : k2_pay29 v (ix2 r 0) = eMean (v (ix3 r 0 0)) :=
  congrArg eMean (castCol v r)
theorem pay30_at (v : Vec Ideal S32x1x1 .f32) : k2_pay30 v (ix2 r 0) = eMean (v (ix3 r 0 0)) :=
  congrArg eMean (castCol v r)
theorem pay31_at (v : Vec Ideal S32x1x1 .f32) : k2_pay31 v (ix2 r 0) = eMean (v (ix3 r 0 0)) :=
  congrArg eMean (castCol v r)
theorem pay9_at (v : Vec Ideal S32x1x1 .f32) : k2_pay9 (k2_pay4 v) k2_pay8 (ix2 r 0) = eMean (v (ix3 r 0 0)) :=
  congrArg eMean (castCol v r)
theorem pay10_at (v : Vec Ideal S32x1x1 .f32) : k2_pay10 (k2_pay5 v) (ix2 r 0) = eMean (v (ix3 r 0 0)) :=
  congrArg eMean (castCol v r)
theorem pay6_at (v : Vec Ideal S32x1x1 .f32) : k2_pay6 v (ix2 r 0) = v (ix3 r 0 0) := castCol v r

theorem pay11_at (v w : FVec Ideal S32x1 .f32) (n : FVec Ideal S32x1 .f32) :
    k2_pay11 v w n (ix2 r 0) = eVarOf (w (ix2 r 0)) (k2_pay9 v n (ix2 r 0)) := rfl
theorem pay13_at (v u w n : FVec Ideal S32x1 .f32) :
    k2_pay13 v u w n (ix2 r 0)
      = eSkewOf (eThirdOf (w (ix2 r 0)) (k2_pay9 v n (ix2 r 0)) (k2_pay10 u (ix2 r 0))) (k2_pay11 v w n (ix2 r 0)) := rfl
theorem pay14_at (v u t w n : FVec Ideal S32x1 .f32) :
    k2_pay14 v u t w n (ix2 r 0)
      = eKurtOf (eFourthOf (w (ix2 r 0)) (k2_pay9 v n (ix2 r 0)) (k2_pay10 u (ix2 r 0)) (eMean (t (ix2 r 0)))) (k2_pay11 v w n (ix2 r 0)) := rfl
theorem pay22_at (v w : Vec Ideal S32x1x1 .f32) :
    k2_pay22 v w (ix2 r 0) = eVarOf (k2_pay18 v (ix2 r 0)) (k2_pay19 w (ix2 r 0)) := rfl
theorem pay24_at (m a b v : FVec Ideal S32x1 .f32) :
    k2_pay24 m a b v (ix2 r 0) = eSkewOf (eThirdOf (m (ix2 r 0)) (a (ix2 r 0)) (b (ix2 r 0))) (v (ix2 r 0)) := rfl
theorem pay25_at (m a b c v : FVec Ideal S32x1 .f32) :
    k2_pay25 m a b c v (ix2 r 0) = eKurtOf (eFourthOf (m (ix2 r 0)) (a (ix2 r 0)) (b (ix2 r 0)) (c (ix2 r 0))) (v (ix2 r 0)) := rfl
theorem pay32_at (v w : Vec Ideal S32x1x1 .f32) :
    k2_pay32 v w (ix2 r 0) = eVarOf (k2_pay28 v (ix2 r 0)) (k2_pay29 w (ix2 r 0)) := rfl
theorem pay33_at (v w : Vec Ideal S32x1x1 .f32) : k2_pay33 v w (ix2 r 0) = eStd2 (k2_pay32 v w (ix2 r 0)) := rfl
theorem pay34_at (v w : Vec Ideal S32x1x1 .f32) : k2_pay34 v w (ix2 r 0) = Ideal.sqrt (k2_pay33 v w (ix2 r 0)) := rfl
theorem pay35_at (v w u : Vec Ideal S32x1x1 .f32) :
    k2_pay35 v w u (ix2 r 0) = eThirdOf (k2_pay28 v (ix2 r 0)) (k2_pay29 w (ix2 r 0)) (k2_pay30 u (ix2 r 0)) := rfl

/-! ## The results at a channel -/

variable (M : S32x3x4.Idx → EReal) (c : Fin 3)

theorem m00_at : m00 (F := Ideal) M (ix3 r 0 0) = M (ix3 r 0 0) := cellAt_at M r 0 0 _
theorem m01_at : m01 (F := Ideal) M (ix3 r 0 0) = M (ix3 r 0 1) := cellAt_at M r 0 1 _
theorem m02_at : m02 (F := Ideal) M (ix3 r 0 0) = M (ix3 r 0 2) := cellAt_at M r 0 2 _
theorem m03_at : m03 (F := Ideal) M (ix3 r 0 0) = M (ix3 r 0 3) := cellAt_at M r 0 3 _
theorem m10_at : m10 (F := Ideal) M (ix3 r 0 0) = M (ix3 r 1 0) := cellAt_at M r 1 0 _
theorem m11_at : m11 (F := Ideal) M (ix3 r 0 0) = M (ix3 r 1 1) := cellAt_at M r 1 1 _
theorem m12_at : m12 (F := Ideal) M (ix3 r 0 0) = M (ix3 r 1 2) := cellAt_at M r 1 2 _
theorem m13_at : m13 (F := Ideal) M (ix3 r 0 0) = M (ix3 r 1 3) := cellAt_at M r 1 3 _
theorem m20_at : m20 (F := Ideal) M (ix3 r 0 0) = M (ix3 r 2 0) := cellAt_at M r 2 0 _
theorem m21_at : m21 (F := Ideal) M (ix3 r 0 0) = M (ix3 r 2 1) := cellAt_at M r 2 1 _
theorem m22_at : m22 (F := Ideal) M (ix3 r 0 0) = M (ix3 r 2 2) := cellAt_at M r 2 2 _
theorem m23_at : m23 (F := Ideal) M (ix3 r 0 0) = M (ix3 r 2 3) := cellAt_at M r 2 3 _

theorem outMean_at : outMean (F := Ideal) M (ix2 r c) = eMean (M (ix3 r c 0)) := by
  refine (cat3_at _ _ _ r c).trans ?_
  match c with
  | 0 => exact (pay7_at r _).trans (congrArg eMean (m00_at r M))
  | 1 => exact (pay18_at r _).trans (congrArg eMean (m10_at r M))
  | 2 => exact (pay28_at r _).trans (congrArg eMean (m20_at r M))

theorem outVar_at : outVar (F := Ideal) M (ix2 r c) = eVar (M (ix3 r c 0)) (M (ix3 r c 1)) := by
  refine (cat3_at _ _ _ r c).trans ?_
  match c with
  | 0 =>
    show var0 (F := Ideal) M (ix2 r 0) = _
    unfold var0 mean0
    rw [pay11_at, pay7_at, pay9_at, m00_at, m01_at]; rfl
  | 1 =>
    show var1 (F := Ideal) M (ix2 r 0) = _
    unfold var1
    rw [pay22_at, pay18_at, pay19_at, m10_at, m11_at]; rfl
  | 2 =>
    show var2 (F := Ideal) M (ix2 r 0) = _
    unfold var2
    rw [pay32_at, pay28_at, pay29_at, m20_at, m21_at]; rfl

theorem outSkew_at : outSkew (F := Ideal) M (ix2 r c) = eSkew (M (ix3 r c 0)) (M (ix3 r c 1)) (M (ix3 r c 2)) := by
  refine (cat3_at _ _ _ r c).trans ?_
  match c with
  | 0 =>
    show skew0 (F := Ideal) M (ix2 r 0) = _
    unfold skew0 mean0
    rw [pay13_at, pay11_at, pay7_at, pay9_at, pay10_at, m00_at, m01_at, m02_at]; rfl
  | 1 =>
    show skew1 (F := Ideal) M (ix2 r 0) = _
    unfold skew1 mean1 var1
    rw [pay24_at, pay22_at, pay18_at, pay19_at, pay20_at, m10_at, m11_at, m12_at]; rfl
  | 2 =>
    show Ideal.div (k2_pay35 (m20 (F := Ideal) M) (m21 M) (m22 M) (ix2 r 0))
      (k2_pay33 (m20 (F := Ideal) M) (m21 M) (ix2 r 0) * k2_pay34 (m20 (F := Ideal) M) (m21 M) (ix2 r 0)) = _
    rw [pay35_at, pay34_at, pay33_at, pay32_at, pay28_at, pay29_at, pay30_at, m20_at, m21_at, m22_at]; rfl

theorem outKurt_at : outKurt (F := Ideal) M (ix2 r c) = eKurt (M (ix3 r c 0)) (M (ix3 r c 1)) (M (ix3 r c 2)) (M (ix3 r c 3)) := by
  refine (cat3_at _ _ _ r c).trans ?_
  match c with
  | 0 =>
    show kurt0 (F := Ideal) M (ix2 r 0) = _
    unfold kurt0 mean0
    rw [pay14_at, pay11_at, pay7_at, pay9_at, pay10_at, pay6_at, m00_at, m01_at, m02_at, m03_at]; rfl
  | 1 =>
    show kurt1 (F := Ideal) M (ix2 r 0) = _
    unfold kurt1 mean1 var1
    rw [pay25_at, pay22_at, pay18_at, pay19_at, pay20_at, pay21_at, m10_at, m11_at, m12_at, m13_at]; rfl
  | 2 =>
    show Ideal.div (eFourthOf (k2_pay28 (m20 (F := Ideal) M) (ix2 r 0)) (k2_pay29 (m21 (F := Ideal) M) (ix2 r 0))
        (k2_pay30 (m22 (F := Ideal) M) (ix2 r 0)) (k2_pay31 (m23 (F := Ideal) M) (ix2 r 0)))
      (k2_pay33 (m20 (F := Ideal) M) (m21 M) (ix2 r 0) * k2_pay33 (m20 (F := Ideal) M) (m21 M) (ix2 r 0)) = _
    rw [pay33_at, pay32_at, pay28_at, pay29_at, pay30_at, pay31_at, m20_at, m21_at, m22_at, m23_at]; rfl

/-! ## The score -/

theorem sumChan (y : FVec Ideal S32x3 .f32) :
    multiReduction .add [1] S32 y 0x00000000#32 reduces_S32x3_S32 (.inl rfl) rfl (ix1 r) = ∑ c : Fin 3, y (ix2 r c) := by
  refine (Ideal.multiReduction_add_single _ _ _ _ _ _).trans ?_
  exact Finset.sum_congr rfl fun c _ => congrArg y (funext fun a => match a with | 0 => rfl | 1 => rfl)

/-- The mean over the channels of a row's magnitudes. -/
def ePart (y : Fin 3 → EReal) : EReal := Ideal.div (∑ c, max (y c) (-(y c))) (Ideal.ofBits .f32 0x40400000#32)

theorem outScore_at : outScore (F := Ideal) M (ix1 r)
    = (ePart (fun c => outMean (F := Ideal) M (ix2 r c)) + ePart (fun c => outVar (F := Ideal) M (ix2 r c) - Ideal.ofBits .f32 0x3E4CCCCD#32)
        + ePart (fun c => outSkew (F := Ideal) M (ix2 r c)) + ePart (fun c => outKurt (F := Ideal) M (ix2 r c) - Ideal.ofBits .f32 0x40400000#32))
      * Ideal.ofBits .f32 0x3E800000#32 := by
  have e (y : FVec Ideal S32x3 .f32) :
      divf (multiReduction .add [1] S32 (absf y) 0x00000000#32 reduces_S32x3_S32 (.inl rfl) rfl) (broadcast S32 (Scalar.ofBits .f32 0x40400000#32)) (ix1 r)
        = ePart fun c => y (ix2 r c) := by
    rw [divf_apply, sumChan]
    rfl
  exact congrArg (· * Ideal.ofBits .f32 0x3E800000#32) (congrArg₂ (· + ·) (congrArg₂ (· + ·) (congrArg₂ (· + ·) (e (outMean (F := Ideal) M))
    (e (subf (outVar (F := Ideal) M) (broadcast S32x3 (Scalar.ofBits .f32 0x3E4CCCCD#32))))) (e (outSkew (F := Ideal) M)))
    (e (subf (outKurt (F := Ideal) M) (broadcast S32x3 (Scalar.ofBits .f32 0x40400000#32)))))

end

end Cert.Proof.Hist

end
-- ==== Proof.KerEnt.lean ====
/-
  The statistics' kernel's entropy at a channel, as a formula of the channel's counters.
-/
module

public import proofs.«01_k».proof.Proof.KerStats

@[expose] public section

noncomputable section

namespace Cert.Proof.Hist

open Cert.KernelIdeal Cert.KernelIdeal.Gen
open Idealize.ShloMosaic hiding ix1 ix2 ix3 ix4
open Idealize.ShloMosaic.ValueIdx
open scoped BigOperators

/-! ## The formula -/

open Classical in
/-- A bin's term, of the channel's pixels counted and of the bin's count. -/
def eTerm (t v : EReal) : EReal := if 0 < v then Ideal.div v t * Ideal.log (Ideal.div v t) else 0

/-- The entropy, of the counts of the bins. -/
def eEnt (f : Fin 256 → EReal) : EReal := 0 - ∑ b, eTerm (∑ b, f b) (f b)

/-! ## The kernel's vectors -/

/-- A channel's counts, of its counters' sums over the lanes: the counter past the top bin joins the top bin's. -/
def kCells (v2 : FVec Ideal S32x792 .f32) (off : Fin 2 → ℕ) (h : S32x792.Slices off S32x257) : FVec Ideal S32x256 .f32 :=
  concatenate S32x256 1
    [⟨S32x255, extractStridedSlice S32x255 ![0, 0] (extractStridedSlice S32x257 off v2 h) slices_S32x257_o0_0_S32x255⟩,
     ⟨S32x1, addf (extractStridedSlice S32x1 ![0, 255] (extractStridedSlice S32x257 off v2 h) slices_S32x257_o0_255_S32x1)
      (extractStridedSlice S32x1 ![0, 256] (extractStridedSlice S32x257 off v2 h) slices_S32x257_o0_256_S32x1)⟩]
    concatenates_S32x255_S32x1_S32x256_d1

/-- A bin's share of its row's counts, the mark of the counts above zero, and the entropy of a row. -/
def kShare (cc : FVec Ideal S32x256 .f32) : FVec Ideal S32x256 .f32 :=
  divf cc (broadcastTo S32x256 (shapeCast S32x1 (multiReduction .add [1] S32 cc 0x00000000#32 reduces_S32x256_S32 (.inl rfl) rfl) shapeCasts_S32_S32x1)
    broadcasts_S32x1_S32x256)
def kPos (cc : FVec Ideal S32x256 .f32) : IVec S32x256 1 := cmpf .ogt cc (broadcast S32x256 (Scalar.ofBits .f32 0x00000000#32))
def kTerm (cc : FVec Ideal S32x256 .f32) : FVec Ideal S32x256 .f32 :=
  select (kPos cc) (mulf (kShare cc) (log (select (kPos cc) (kShare cc) (broadcast S32x256 (Scalar.ofBits .f32 0x3F800000#32)))))
    (broadcast S32x256 (Scalar.ofBits .f32 0x00000000#32))
def kEnt (cc : FVec Ideal S32x256 .f32) : FVec Ideal S32x1 .f32 :=
  subf (broadcast S32x1 (Scalar.ofBits .f32 0x00000000#32))
    (shapeCast S32x1 (multiReduction .add [1] S32 (kTerm cc) 0x00000000#32 reduces_S32x256_S32 (.inl rfl) rfl) shapeCasts_S32_S32x1)

variable (H : Vec Ideal S32x792x16 .f32)

theorem ent0_eq : ent0 H = kEnt (kCells (k2_pay2 H) ![0, 0] slices_S32x792_o0_0_S32x257) := rfl
theorem ent1_eq : ent1 H = kEnt (kCells (k2_pay2 H) ![0, 264] slices_S32x792_o0_264_S32x257) := rfl
theorem ent2_eq : ent2 H = kEnt (kCells (k2_pay2 H) ![0, 528] slices_S32x792_o0_528_S32x257) := rfl

/-! ## At a row -/

variable (r : Fin 32)

theorem castRow {α : Type} (v : S32.Idx → α) : shapeCast S32x1 v shapeCasts_S32_S32x1 (ix2 r 0) = v (ix1 r) := by
  refine congrArg v (S32.rowMajor.injective (Fin.ext ?_))
  rw [Shape.rowMajor_reshapeEquiv]
  refine (Shape.rowMajor_val_two (d := ![32, 1]) _).trans ((Shape.rowMajor_val_one (d := ![32]) _).trans ?_).symm
  show r.val = r.val * 1 + 0
  omega

theorem sumRow (y : FVec Ideal S32x256 .f32) :
    multiReduction .add [1] S32 y 0x00000000#32 reduces_S32x256_S32 (.inl rfl) rfl (ix1 r) = ∑ b : Fin 256, y (ix2 r b) := by
  refine (Ideal.multiReduction_add_single _ _ _ _ _ _).trans ?_
  exact Finset.sum_congr rfl fun c _ => congrArg y (funext fun a => match a with | 0 => rfl | 1 => rfl)

theorem kShare_at (cc : FVec Ideal S32x256 .f32) (b : Fin 256) :
    kShare cc (ix2 r b) = Ideal.div (cc (ix2 r b)) (∑ b : Fin 256, cc (ix2 r b)) := by
  unfold kShare
  rw [divf_apply]
  refine congrArg (Ideal.div (cc (ix2 r b))) ?_
  exact (broadcastTo_apply _ _ _ (ix2 r (0 : Fin 1)) fun a => match a with | 0 => rfl | 1 => rfl).trans ((castRow r _).trans (sumRow r cc))

theorem kTerm_at (cc : FVec Ideal S32x256 .f32) (b : Fin 256) :
    kTerm cc (ix2 r b) = eTerm (∑ b : Fin 256, cc (ix2 r b)) (cc (ix2 r b)) := by
  have e : kPos cc (ix2 r b) = BitVec.ofBool (decide (0 < cc (ix2 r b))) := by
    show BitVec.ofBool (decide (Ideal.ofBits .f32 0x00000000#32 < cc (ix2 r b))) = _
    simp only [Ideal.ofBits_zero_f32]
  unfold kTerm eTerm
  rw [select_apply, e, mulf_apply]
  show Scalar.select _ (kShare cc (ix2 r b)
    * Ideal.log (Scalar.select (kPos cc (ix2 r b)) (kShare cc (ix2 r b)) (Ideal.ofBits .f32 0x3F800000#32))) (Ideal.ofBits .f32 0x00000000#32) = _
  rw [e, kShare_at, Ideal.ofBits_zero_f32]
  by_cases h : 0 < cc (ix2 r b)
  · rw [if_pos h, decide_eq_true h]
    exact (select_one _ _).trans (congrArg (fun z => Ideal.div (cc (ix2 r b)) (∑ b, cc (ix2 r b)) * Ideal.log z) (select_one _ _))
  · rw [if_neg h, decide_eq_false h]
    exact select_zero _ _

theorem kEnt_at (cc : FVec Ideal S32x256 .f32) : kEnt cc (ix2 r 0) = eEnt fun b => cc (ix2 r b) := by
  unfold kEnt eEnt
  rw [subf_apply, castRow, sumRow]
  show Ideal.ofBits .f32 0x00000000#32 - _ = _
  rw [Ideal.ofBits_zero_f32]
  exact congrArg _ (Finset.sum_congr rfl fun b _ => kTerm_at r cc b)

/-- A row's counter's sum over the lanes. -/
theorem pay2_at (k : Fin 792) : k2_pay2 H (ix2 r k) = ∑ l : Fin 16, H (ix3 r k l) := by
  refine (Ideal.multiReduction_add_single (shapeCast S32x792x16 H shapeCasts_S32x792x16_S32x792x16) 0x00000000#32
    reduces_S32x792x16_S32x792 (.inl rfl) rfl (ix2 r k)).trans ?_
  refine Finset.sum_congr rfl fun l _ => ?_
  refine congrArg H (S32x792x16.rowMajor.injective (Fin.ext ?_))
  rw [Shape.rowMajor_reshapeEquiv]
  exact congrArg (fun i => (S32x792x16.rowMajor i).val) (funext fun a => match a with | 0 => rfl | 1 => rfl | 2 => rfl)

/-- A channel's counts: the counter of each bin, and for the top bin the next counter too. -/
def chanCount (c : Fin 3) (b : Fin 256) : EReal :=
  if b.val < 255 then ∑ l : Fin 16, H (ix3 r ⟨264 * c.val + b.val, by omega⟩ l)
  else (∑ l : Fin 16, H (ix3 r ⟨264 * c.val + 255, by omega⟩ l)) + ∑ l : Fin 16, H (ix3 r ⟨264 * c.val + 256, by omega⟩ l)

theorem kCells_at (c : Fin 3) (off : Fin 2 → ℕ) (h : S32x792.Slices off S32x257) (h0 : off 0 = 0) (h1 : off 1 = 264 * c.val) (b : Fin 256) :
    kCells (k2_pay2 H) off h (ix2 r b) = chanCount H r c b := by
  have hin (k : Fin 257) : extractStridedSlice S32x257 off (k2_pay2 H) h (ix2 r k) = ∑ l : Fin 16, H (ix3 r ⟨264 * c.val + k.val, by omega⟩ l) := by
    refine (extractStridedSlice_apply _ _ _ _ (ix2 r (⟨264 * c.val + k.val, by omega⟩ : Fin 792)) fun a => ?_).trans (pay2_at H r _)
    match a with
    | 0 => exact ((congrArg (· + r.val) h0).trans (Nat.zero_add _)).symm
    | 1 => exact (congrArg (· + k.val) h1).symm
  unfold kCells chanCount
  by_cases hb : b.val < 255
  · rw [if_pos hb, concatenate_pair_apply_left (s₁ := S32x255) (s₂ := S32x1) 1 _ _ _ (ix2 r b) rfl (ix2 r (⟨b.val, hb⟩ : Fin 255))
      (fun a => match a with | 0 => rfl | 1 => rfl)]
    refine (extractStridedSlice_apply _ _ _ _ (ix2 r (⟨b.val, by omega⟩ : Fin 257)) fun a => ?_).trans (hin _)
    match a with
    | 0 => exact (Nat.zero_add _).symm
    | 1 => exact (Nat.zero_add _).symm
  · rw [if_neg hb, concatenate_pair_apply_right (s₁ := S32x255) (s₂ := S32x1) 1 _ _ _ (ix2 r b) rfl rfl (ix2 r (0 : Fin 1))
      (fun a ha => match a with | 0 => rfl | 1 => absurd rfl ha) (by show 0 + 255 = b.val; omega), addf_apply]
    refine congrArg₂ (· + ·) ?_ ?_
    · refine (extractStridedSlice_apply _ _ _ _ (ix2 r (⟨255, by omega⟩ : Fin 257)) fun a => ?_).trans (hin _)
      match a with
      | 0 => exact (Nat.zero_add _).symm
      | 1 => rfl
    · refine (extractStridedSlice_apply _ _ _ _ (ix2 r (⟨256, by omega⟩ : Fin 257)) fun a => ?_).trans (hin _)
      match a with
      | 0 => exact (Nat.zero_add _).symm
      | 1 => rfl

/-- The kernel's entropy at a channel. -/
theorem outEnt_at (c : Fin 3) : outEnt H (ix2 r c) = eEnt (chanCount H r c) := by
  refine (cat3_at _ _ _ r c).trans ?_
  match c with
  | 0 => exact ((congrFun (ent0_eq H) _).trans (kEnt_at r _)).trans (congrArg eEnt (funext fun b => kCells_at H r 0 _ _ rfl rfl b))
  | 1 => exact ((congrFun (ent1_eq H) _).trans (kEnt_at r _)).trans (congrArg eEnt (funext fun b => kCells_at H r 1 _ _ rfl rfl b))
  | 2 => exact ((congrFun (ent2_eq H) _).trans (kEnt_at r _)).trans (congrArg eEnt (funext fun b => kCells_at H r 2 _ _ rfl rfl b))

end Cert.Proof.Hist

end
-- ==== Proof.Results.lean ====
/-
  What the kernel's run leaves in its six results' arrays, as functions of the pixels.
-/
module

public import proofs.«01_k».proof.Proof.Main
public import proofs.«01_k».proof.Proof.Moments
public import proofs.«01_k».proof.Proof.KerEnt

@[expose] public section

noncomputable section

namespace Cert.Proof.Hist

open Cert.KernelIdeal Cert.KernelIdeal.Gen
open Idealize.ShloMosaic hiding ix1 ix2 ix3 ix4
open Idealize.ShloMosaic.ValueIdx
open Idealize.ShloMosaic.TcCoe
open scoped BigOperators

/-! ## The statistics' pipeline -/

section

variable (V : Val Ideal) (d : Dev nD)

/-- The one point's two operand blocks are the whole arrays. -/
theorem index2_0 : ∀ a, win2_0.index t2_0 a = 0 := by decide +kernel
theorem index2_1 : ∀ a, win2_1.index t2_0 a = 0 := by decide +kernel

theorem hist2_eq : hist2 V d = V d main_v3 := by
  funext y
  show V d main_v3 (((cfg2.win 0).blk t2_0).view.emb y) = V d main_v3 y
  refine congrArg (V d main_v3) (funext fun a => Fin.ext ?_)
  match a with
  | 0 => blk_simp; rw [index2_0]; exact (congrArg (· + _) (Nat.zero_mul _)).trans (Nat.zero_add _)
  | 1 => blk_simp; rw [index2_0]; exact (congrArg (· + _) (Nat.zero_mul _)).trans (Nat.zero_add _)
  | 2 => blk_simp; rw [index2_0]; exact (congrArg (· + _) (Nat.zero_mul _)).trans (Nat.zero_add _)

theorem moms2_eq : moms2 V d = V d main_v2 := by
  funext y
  show V d main_v2 (((cfg2.win 1).blk t2_0).view.emb y) = V d main_v2 y
  refine congrArg (V d main_v2) (funext fun a => Fin.ext ?_)
  match a with
  | 0 => blk_simp; rw [index2_1]; exact (congrArg (· + _) (Nat.zero_mul _)).trans (Nat.zero_add _)
  | 1 => blk_simp; rw [index2_1]; exact (congrArg (· + _) (Nat.zero_mul _)).trans (Nat.zero_add _)
  | 2 => blk_simp; rw [index2_1]; exact (congrArg (· + _) (Nat.zero_mul _)).trans (Nat.zero_add _)

theorem arr2_2 : (dat2 V d).arrAt 2 cfg2.N = outScore (moms2 V d) := by
  refine (dat2 V d).arrAt_eq_of_after_last 2 t2_0 (by decide +kernel) _ fun j => ?_
  blk_simp
  rfl
theorem arr2_3 : (dat2 V d).arrAt 3 cfg2.N = outMean (moms2 V d) := by
  refine (dat2 V d).arrAt_eq_of_after_last 3 t2_0 (by decide +kernel) _ fun j => ?_
  blk_simp
  rfl
theorem arr2_4 : (dat2 V d).arrAt 4 cfg2.N = outVar (moms2 V d) := by
  refine (dat2 V d).arrAt_eq_of_after_last 4 t2_0 (by decide +kernel) _ fun j => ?_
  blk_simp
  rfl
theorem arr2_5 : (dat2 V d).arrAt 5 cfg2.N = outSkew (moms2 V d) := by
  refine (dat2 V d).arrAt_eq_of_after_last 5 t2_0 (by decide +kernel) _ fun j => ?_
  blk_simp
  rfl
theorem arr2_6 : (dat2 V d).arrAt 6 cfg2.N = outKurt (moms2 V d) := by
  refine (dat2 V d).arrAt_eq_of_after_last 6 t2_0 (by decide +kernel) _ fun j => ?_
  blk_simp
  rfl
theorem arr2_7 : (dat2 V d).arrAt 7 cfg2.N = outEnt (hist2 V d) := by
  refine (dat2 V d).arrAt_eq_of_after_last 7 t2_0 (by decide +kernel) _ fun j => ?_
  blk_simp
  rfl

end

/-! ## The valuations along the run -/

variable (m : (ℓ : Loc nD τ sig) → Buf (Elt Ideal) ℓ) (d : Dev nD)

/-- The pixels. -/
abbrev pixels : S32x3x512x512.Idx → EReal := m ((SparseCore.T d).loc main_arg0)

theorem W1_ne {b : DevRef τ sig} (h : b ≠ dev main_v0) : W1 m d b = m (d, b) :=
  (flatOp (F := Ideal)).result_of_not_mem (W0 m d) (show b ∉ ({dev main_v0} : Finset (DevRef τ sig)) from fun hb => h (Finset.mem_singleton.1 hb))

theorem W4_ne {b : DevRef τ sig} (h : b ≠ dev main_v3) : W4 m d b = W3 m d b :=
  (foldOp (F := Ideal)).result_of_not_mem (W3 m d) (show b ∉ ({dev main_v3} : Finset (DevRef τ sig)) from fun hb => h (Finset.mem_singleton.1 hb))

theorem X_eq : X m d = shapeCast S25165824 (pixels m d) shapeCasts_S32x3x512x512_S25165824 := by
  unfold X W1
  exact StableHlo.reshape_result _ _ _ _ _ _ _

theorem moms_eq : moms2 (valOf (W4 m)) d = momBuf (pixels m d) := by
  rw [moms2_eq]
  show W4 m d (dev main_v2) = _
  rw [W4_ne m d (dev_ne (by decide)), W3_v2, arr1]
  refine congrArg momBuf ?_
  show W2 m d (dev main_arg0) = _
  rw [W2_ne m d (dev_ne (by decide)), W1_ne m d (dev_ne (by decide))]

/-- The counters, as the statistics' kernel reads them. -/
def counters : S32x792x16.Idx → EReal := hist2 (valOf (W4 m)) d

theorem counters_eq : counters m d = shapeCast S32x792x16 (histBuf (X m) d) shapeCasts_S32x12672_S32x792x16 := by
  unfold counters
  rw [hist2_eq]
  show W4 m d (dev main_v3) = _
  unfold W4
  refine (StableHlo.reshape_result _ _ _ _ _ _ _).trans ?_
  show shapeCast S32x792x16 (W3 m d (dev main_v1)) shapeCasts_S32x12672_S32x792x16 = _
  rw [W3_ne m d (dev_ne (by decide)), W2_v1]

/-- The arrays of the statistics' pipeline are among the buffers the run's contents are told of. -/
theorem arr_mem : ∀ w : Fin 8, dev (Pipeline.arrRef spec2 w) ∈ ucRefs := by decide

/-! ## The counters -/

/-- Pixel `n` of a channel. -/
abbrev pixAt (r : Fin 32) (c : Fin 3) (n : Fin 262144) : EReal := pixels m d (ix4 r c (rowOf n) (colOf n))

theorem flat_at (r : Fin 32) (c : Fin 3) (n : Fin 262144) : flatOf (X m d) (786432 * r.val + 262144 * c.val + n.val) = pixAt m d r c n := by
  have hr := r.isLt
  have hc := c.isLt
  have hn := n.isLt
  unfold flatOf
  rw [X_eq]
  refine congrArg (pixels m d) (S32x3x512x512.rowMajor.injective (Fin.ext ?_))
  rw [Shape.rowMajor_reshapeEquiv]
  refine (Shape.rowMajor_val_one (d := ![25165824]) _).trans ((Shape.rowMajor_val_four (d := ![32, 3, 512, 512]) _).trans ?_).symm
  show ((r.val * 3 + c.val) * 512 + n.val / 512) * 512 + n.val % 512 = (786432 * r.val + 262144 * c.val + n.val) % 25165824
  omega

theorem hist_at (r : Fin 32) (k : Fin 792) (l : Fin 16) :
    shapeCast S32x792x16 (histBuf (X m) d) shapeCasts_S32x12672_S32x792x16 (ix3 r k l)
      = histBuf (X m) d (ix2 r (⟨16 * k.val + l.val, by omega⟩ : Fin 12672)) := by
  refine congrArg (histBuf (X m) d) (S32x12672.rowMajor.injective (Fin.ext ?_))
  rw [Shape.rowMajor_reshapeEquiv]
  refine (Shape.rowMajor_val_three (d := ![32, 792, 16]) _).trans ((Shape.rowMajor_val_two (d := ![32, 12672]) _).trans ?_).symm
  show r.val * 12672 + (16 * k.val + l.val) = (r.val * 792 + k.val) * 16 + l.val
  omega

/-- A counter of a row, by its channel and its place among the channel's. -/
theorem histOut_ix2 (xs : ℕ → EReal) (r : Fin 32) (q : Fin 12672) (c p : ℕ) (hp : p < 4224) (h1 : q.val / 4224 = c) (h2 : q.val % 4224 = p) :
    histOut (F := Ideal) xs (ix2 r q) = histN (F := Ideal) xs (786432 * r.val + 262144 * c) 16384 (ix1 (⟨p, hp⟩ : Fin 4224)) := by
  subst h1 h2
  exact congrArg (histN (F := Ideal) xs (786432 * r.val + 262144 * (q.val / 4224)) 16384) (funext fun a => match a with | 0 => rfl)

/-- The lanes of a channel's counter together count the channel's pixels in its bin. -/
theorem lanes_at (r : Fin 32) (c : Fin 3) (b : ℕ) (hb : b < 264) :
    ∑ l : Fin 16, counters m d (ix3 r (⟨264 * c.val + b, by omega⟩ : Fin 792) l) = ∑ n : Fin 262144, hit (pixAt m d r c n) b := by
  have e (l : Fin 16) : counters m d (ix3 r (⟨264 * c.val + b, by omega⟩ : Fin 792) l)
      = histN (F := Ideal) (flatOf (X m d)) (786432 * r.val + 262144 * c.val) 16384 (ix1 (⟨16 * b + l.val, by omega⟩ : Fin 4224)) := by
    have hl := l.isLt
    refine ((congrFun (counters_eq m d) _).trans (hist_at m d r _ l)).trans (histOut_ix2 (flatOf (X m d)) r _ c.val _ _ ?_ ?_)
    · show (16 * (264 * c.val + b) + l.val) / 4224 = c.val
      omega
    · show (16 * (264 * c.val + b) + l.val) % 4224 = 16 * b + l.val
      omega
  rw [Finset.sum_congr rfl fun l _ => e l, lanes_sum _ _ b _ fun l => rfl]
  exact Finset.sum_congr rfl fun n _ => congrArg (fun v => hit v b) (flat_at m d r c n)

end Cert.Proof.Hist

end
-- ==== Proof.RefStats.lean ====
/-
  The reference's mean, variance, skewness and kurtosis as functions of the pixels, and their values at a channel of
  real pixels.
-/
module

public import proofs.«01_k».proof.Proof.Gen.ReferenceIdeal.Run
public import proofs.«01_k».proof.Proof.Stats
public import Idealize.ShloMosaic.Lib.ValueIdx
public import Idealize.ShloMosaic.Lib.IdealHost
public import Idealize.ShloMosaic.Lib.Pipeline.Value

@[expose] public section

noncomputable section

namespace Cert.Proof.Hist

open Cert.ReferenceIdeal Cert.ReferenceIdeal.Gen
open Idealize.ShloMosaic Idealize.ShloMosaic.ValueIdx
open scoped BigOperators

/-! ## A sum over the last axis, and the two broadcasts of a table along a third axis -/

theorem hsum4 (h : S32x3x256x262144.ReducesTo [3] S32x3x256) (x : FVec Ideal S32x3x256x262144 .f32) (r : Fin 32) (c : Fin 3) (b : Fin 256) :
    Host.reduceAdd x (constant S_ .f32 0x00000000#32) h h_S_ (ix3 r c b) = ∑ n : Fin 262144, x (ix4 r c b n) := by
  rw [hostReduceAdd_apply, Ideal.hostReduceAdd_single h (by decide), constant_apply, Ideal.ofBits_zero_f32, zero_add]
  exact Finset.sum_congr rfl fun n _ => congrArg x (funext fun a => match a with | 0 => rfl | 1 => rfl | 2 => rfl | 3 => rfl)

theorem hsumPix (x : FVec Ideal S32x3x262144 .f32) (r : Fin 32) (c : Fin 3) :
    Host.reduceAdd x (constant S_ .f32 0x00000000#32) reducesTo_S32x3x262144_S32x3_d2 h_S_ (ix2 r c) = ∑ n : Fin 262144, x (ix3 r c n) := by
  rw [hostReduceAdd_apply, Ideal.hostReduceAdd_single _ (by decide), constant_apply, Ideal.ofBits_zero_f32, zero_add]
  exact Finset.sum_congr rfl fun n _ => congrArg x (funext fun a => match a with | 0 => rfl | 1 => rfl | 2 => rfl)

theorem hsumBin (x : FVec Ideal S32x3x256 .f32) (r : Fin 32) (c : Fin 3) :
    Host.reduceAdd x (constant S_ .f32 0x00000000#32) reducesTo_S32x3x256_S32x3_d2 h_S_ (ix2 r c) = ∑ b : Fin 256, x (ix3 r c b) := by
  rw [hostReduceAdd_apply, Ideal.hostReduceAdd_single _ (by decide), constant_apply, Ideal.ofBits_zero_f32, zero_add]
  exact Finset.sum_congr rfl fun n _ => congrArg x (funext fun a => match a with | 0 => rfl | 1 => rfl | 2 => rfl)

theorem hsumChan (x : FVec Ideal S32x3 .f32) (r : Fin 32) :
    Host.reduceAdd x (constant S_ .f32 0x00000000#32) reducesTo_S32x3_S32_d1 h_S_ (ix1 r) = ∑ c : Fin 3, x (ix2 r c) := by
  rw [hostReduceAdd_apply, Ideal.hostReduceAdd_single _ (by decide), constant_apply, Ideal.ofBits_zero_f32, zero_add]
  exact Finset.sum_congr rfl fun n _ => congrArg x (funext fun a => match a with | 0 => rfl | 1 => rfl)

theorem hsumFour (x : FVec Ideal S32x4 .f32) (r : Fin 32) :
    Host.reduceAdd x (constant S_ .f32 0x00000000#32) reducesTo_S32x4_S32_d1 h_S_ (ix1 r) = ∑ c : Fin 4, x (ix2 r c) := by
  rw [hostReduceAdd_apply, Ideal.hostReduceAdd_single _ (by decide), constant_apply, Ideal.ofBits_zero_f32, zero_add]
  exact Finset.sum_congr rfl fun n _ => congrArg x (funext fun a => match a with | 0 => rfl | 1 => rfl)

theorem bcastCol {α : Type} (x : S32x3.Idx → α) (r : Fin 32) (c : Fin 3) (u : Fin 1) :
    broadcastInDim S32x3x1 ![0, 1] bcast_S32x3_S32x3x1_0_1 x (ix3 r c u) = x (ix2 r c) :=
  broadcastInDim_apply _ _ _ _ _ fun a => match a with | 0 => rfl | 1 => rfl

theorem bcastPix {α : Type} (x : S32x3x1.Idx → α) (r : Fin 32) (c : Fin 3) (n : Fin 262144) :
    broadcastInDim S32x3x262144 ![0, 1, 2] bcast_S32x3x1_S32x3x262144_0_1_2 x (ix3 r c n) = x (ix3 r c 0) :=
  broadcastInDim_apply _ _ _ _ _ fun a => match a with | 0 => rfl | 1 => rfl | 2 => rfl

theorem bcastBin {α : Type} (x : S32x3x1.Idx → α) (r : Fin 32) (c : Fin 3) (b : Fin 256) :
    broadcastInDim S32x3x256 ![0, 1, 2] bcast_S32x3x1_S32x3x256_0_1_2 x (ix3 r c b) = x (ix3 r c 0) :=
  broadcastInDim_apply _ _ _ _ _ fun a => match a with | 0 => rfl | 1 => rfl | 2 => rfl

/-! ## The reference's statistics -/

section

variable (x : FVec Ideal S32x3x262144 .f32)

/-- The mean of each channel. -/
def rMean : FVec Ideal S32x3 .f32 :=
  Host.divf (Host.reduceAdd x (constant S_ .f32 0x00000000#32) reducesTo_S32x3x262144_S32x3_d2 h_S_)
    (broadcastInDim S32x3 ![] bcast_S_S32x3 (constant S_ .f32 0x48800000#32))

/-- A pixel's deviation from the mean that the variance keeps as a third axis of extent one. -/
def rDev : FVec Ideal S32x3x262144 .f32 :=
  subf x (broadcastInDim S32x3x262144 ![0, 1, 2] bcast_S32x3x1_S32x3x262144_0_1_2
    (Host.divf (broadcastInDim S32x3x1 ![0, 1] bcast_S32x3_S32x3x1_0_1
        (Host.reduceAdd x (constant S_ .f32 0x00000000#32) reducesTo_S32x3x262144_S32x3_d2 h_S_))
      (broadcastInDim S32x3x1 ![] bcast_S_S32x3x1 (constant S_ .f32 0x48800000#32))))

/-- The number of pixels less one, of which the variance is a mean. -/
def rDof : FVec Ideal S_ .f32 := subf (constant S_ .f32 0x48800000#32) (sitofp .f32 (constantI S_ 32 1#32))

/-- The variance of each channel. -/
def rVar : FVec Ideal S32x3 .f32 :=
  select (broadcastInDim S32x3 ![] bcast_S_S32x3 (cmpf .ogt rDof (constant S_ .f32 0x00000000#32)))
    (Host.divf (Host.reduceAdd (mulf (rDev x) (rDev x)) (constant S_ .f32 0x00000000#32) reducesTo_S32x3x262144_S32x3_d2 h_S_)
      (broadcastInDim S32x3 ![] bcast_S_S32x3 rDof))
    (broadcastInDim S32x3 ![] bcast_S_S32x3 (id (constant S_ .f32 0x7FC00000#32)))

/-- A pixel's standard score. -/
def rScale : FVec Ideal S32x3x262144 .f32 :=
  Host.divf
    (subf x (broadcastInDim S32x3x262144 ![0, 1, 2] bcast_S32x3x1_S32x3x262144_0_1_2
      (broadcastInDim S32x3x1 ![0, 1] bcast_S32x3_S32x3x1_0_1 (rMean x))))
    (broadcastInDim S32x3x262144 ![0, 1, 2] bcast_S32x3x1_S32x3x262144_0_1_2
      (broadcastInDim S32x3x1 ![0, 1] bcast_S32x3_S32x3x1_0_1
        (Host.sqrt (addf (rVar x) (broadcastInDim S32x3 ![] bcast_S_S32x3 (constant S_ .f32 0x322BCC77#32))))))

/-- The skewness and the kurtosis of each channel. -/
def rSkew : FVec Ideal S32x3 .f32 :=
  Host.divf (Host.reduceAdd (mulf (mulf (rScale x) (rScale x)) (rScale x)) (constant S_ .f32 0x00000000#32) reducesTo_S32x3x262144_S32x3_d2 h_S_)
    (broadcastInDim S32x3 ![] bcast_S_S32x3 (constant S_ .f32 0x48800000#32))
def rKurt : FVec Ideal S32x3 .f32 :=
  Host.divf (Host.reduceAdd (mulf (mulf (rScale x) (rScale x)) (mulf (rScale x) (rScale x))) (constant S_ .f32 0x00000000#32)
      reducesTo_S32x3x262144_S32x3_d2 h_S_)
    (broadcastInDim S32x3 ![] bcast_S_S32x3 (constant S_ .f32 0x48800000#32))

/-! ## Their values at a channel of real pixels -/

variable (r : Fin 32) (c : Fin 3) (p : Fin 262144 → ℝ) (hp : ∀ n, x (ix3 r c n) = ((p n : ℝ) : EReal))

theorem np_ne : (NP : ℝ) ≠ 0 := by norm_num

theorem rDof_ix0 : rDof ix0 = ((262143 : ℝ) : EReal) := by
  unfold rDof
  rw [subf_apply, constant_apply, word_np]
  show ((NP : ℝ) : EReal) - (((1#32 : BitVec 32).toInt : ℝ) : EReal) = _
  rw [← EReal.coe_sub]
  norm_num

include hp

theorem sumPix : Host.reduceAdd x (constant S_ .f32 0x00000000#32) reducesTo_S32x3x262144_S32x3_d2 h_S_ (ix2 r c) = ((∑ n, p n : ℝ) : EReal) := by
  rw [hsumPix, ← coe_sum_real]
  exact Finset.sum_congr rfl fun n _ => hp n

theorem rMean_at : rMean x (ix2 r c) = ((qMean p : ℝ) : EReal) := by
  unfold rMean
  rw [hostDivf_apply, sumPix x r c p hp, broadcastInDim_scalar_apply, constant_apply, word_np, div_coe_coe _ np_ne]
  rfl

theorem rDev_at (n : Fin 262144) : rDev x (ix3 r c n) = ((p n - qMean p : ℝ) : EReal) := by
  unfold rDev
  rw [subf_apply, bcastPix, hostDivf_apply, bcastCol, sumPix x r c p hp, broadcastInDim_scalar_apply, constant_apply, word_np,
    div_coe_coe _ np_ne, hp n, EReal.coe_sub]
  rfl

theorem rVar_at : rVar x (ix2 r c) = ((qVar p : ℝ) : EReal) := by
  unfold rVar
  rw [select_apply, broadcastInDim_scalar_apply, cmpf_apply, rDof_ix0, constant_apply, Ideal.ofBits_zero_f32]
  have e : FloatOps.cmpf (F := Ideal) (φ := .f32) .ogt ((262143 : ℝ) : EReal) (0 : EReal) = 1#1 := by
    show BitVec.ofBool (decide ((0 : EReal) < ((262143 : ℝ) : EReal))) = 1#1
    rw [decide_eq_true (by exact_mod_cast (by norm_num : (0 : ℝ) < 262143))]
    rfl
  rw [e, select_one, hostDivf_apply, broadcastInDim_scalar_apply, rDof_ix0,
    sumPix (mulf (rDev x) (rDev x)) r c (fun n => (p n - qMean p) * (p n - qMean p))
      (fun n => by rw [mulf_apply, rDev_at x r c p hp n, EReal.coe_mul]), div_coe_coe _ (by norm_num)]
  rfl

theorem rScale_at (n : Fin 262144) : rScale x (ix3 r c n) = ((qDev p eps n : ℝ) : EReal) := by
  have e : Host.sqrt (addf (rVar x) (broadcastInDim S32x3 ![] bcast_S_S32x3 (constant S_ .f32 0x322BCC77#32))) (ix2 r c)
      = ((Real.sqrt (qVar p + eps) : ℝ) : EReal) := by
    show Ideal.sqrt (addf (rVar x) (broadcastInDim S32x3 ![] bcast_S_S32x3 (constant S_ .f32 0x322BCC77#32)) (ix2 r c)) = _
    rw [addf_apply, rVar_at x r c p hp, broadcastInDim_scalar_apply, constant_apply, word_eps]
    exact (congrArg Ideal.sqrt (EReal.coe_add _ _).symm).trans (sqrt_coe_of_nonneg (qVar_pos p eps_pos).le)
  unfold rScale
  rw [hostDivf_apply, subf_apply, bcastPix, bcastCol, bcastPix, bcastCol, e, rMean_at x r c p hp, hp n]
  exact (congrArg (fun t => Ideal.div t _) (EReal.coe_sub _ _).symm).trans
    (div_coe_coe _ (Real.sqrt_pos.2 (qVar_pos p eps_pos)).ne')

theorem rSkew_at : rSkew x (ix2 r c) = ((qSkew p eps : ℝ) : EReal) := by
  unfold rSkew
  rw [hostDivf_apply, sumPix (mulf (mulf (rScale x) (rScale x)) (rScale x)) r c (fun n => qDev p eps n * qDev p eps n * qDev p eps n)
      (fun n => by rw [mulf_apply, mulf_apply, rScale_at x r c p hp n, EReal.coe_mul, EReal.coe_mul]),
    broadcastInDim_scalar_apply, constant_apply, word_np, div_coe_coe _ np_ne]
  rfl

theorem rKurt_at : rKurt x (ix2 r c) = ((qKurt p eps : ℝ) : EReal) := by
  unfold rKurt
  rw [hostDivf_apply, sumPix (mulf (mulf (rScale x) (rScale x)) (mulf (rScale x) (rScale x))) r c
      (fun n => qDev p eps n * qDev p eps n * (qDev p eps n * qDev p eps n))
      (fun n => by rw [mulf_apply, mulf_apply, rScale_at x r c p hp n, EReal.coe_mul, EReal.coe_mul]),
    broadcastInDim_scalar_apply, constant_apply, word_np, div_coe_coe _ np_ne]
  rfl

end

end Cert.Proof.Hist

end
-- ==== Proof.RefHist.lean ====
/-
  The reference's histogram, entropy and score as functions of the pixels and of the statistics, the histogram's value
  at a channel of real pixels, and the run's results as these functions.
-/
module

public import proofs.«01_k».proof.Proof.RefStats
public import proofs.«01_k».proof.Proof.Counts

@[expose] public section

noncomputable section

namespace Cert.Proof.Hist

open Cert.ReferenceIdeal Cert.ReferenceIdeal.Gen
open Idealize.ShloMosaic Idealize.ShloMosaic.ValueIdx Idealize.ShloMosaic.TcCoe
open scoped BigOperators

/-! ## The bins' edges -/

/-- The fraction `b / 256` of the way from one end of the range to the other. -/
def rFrac : FVec Ideal S256 .f32 :=
  Host.divf (sitofp .f32 (iotaInDim S256 32 0)) (broadcastInDim S256 ![] bcast_S_S256 (constant S_ .f32 0x43800000#32))

/-- The edges below the last: the mean of the two ends weighted by that fraction. -/
def rLowEdges : FVec Ideal S256 .f32 :=
  addf
    (mulf (broadcastInDim S256 ![0] bcast_S1_S256_0 (shapeCast _ (id (constant S_ .f32 0xBF800000#32)) shapeCasts_S_S1))
      (subf (broadcastInDim S256 ![] bcast_S_S256 (constant S_ .f32 0x3F800000#32)) rFrac))
    (mulf (broadcastInDim S256 ![0] bcast_S1_S256_0 (shapeCast _ (id (constant S_ .f32 0x3F800000#32)) shapeCasts_S_S1)) rFrac)

/-- All the edges. -/
def rEdges : FVec Ideal S257 .f32 :=
  concatenate S257 0 [⟨S256, rLowEdges⟩, ⟨S1, broadcastInDim S1 ![] bcast_S_S1 (id (constant S_ .f32 0x3F800000#32))⟩]
    concatenates_S256_S1_S257_d0

theorem rFrac_at (b : Fin 256) : rFrac (ix1 b) = (((b.val : ℝ) / 256 : ℝ) : EReal) := by
  unfold rFrac
  rw [hostDivf_apply, broadcastInDim_scalar_apply, constant_apply, word_256]
  have e : (sitofp (F := Ideal) .f32 (iotaInDim S256 32 0)) (ix1 b) = (((b.val : ℕ) : ℝ) : EReal) := by
    show ((((BitVec.ofNat 32 b.val).toInt : ℤ) : ℝ) : EReal) = _
    have hb := b.isLt
    rw [BitVec.toInt_eq_toNat_of_lt (by rw [BitVec.toNat_ofNat]; omega), BitVec.toNat_ofNat, Nat.mod_eq_of_lt (by omega)]
    norm_cast
  rw [e, div_coe_coe _ (by norm_num)]

theorem rLowEdges_at (b : Fin 256) : rLowEdges (ix1 b) = ((edge b.val : ℝ) : EReal) := by
  unfold rLowEdges
  rw [addf_apply, mulf_apply, mulf_apply, subf_apply, rFrac_at, broadcastInDim_scalar_apply]
  have e (w : BitVec 32) : broadcastInDim S256 ![0] bcast_S1_S256_0 (shapeCast _ (id (constant (F := Ideal) S_ .f32 w)) shapeCasts_S_S1) (ix1 b)
      = Ideal.ofBits .f32 w := rfl
  rw [e, e, constant_apply, word_one, word_neg_one, ← EReal.coe_sub]
  refine ((congrArg₂ (· + ·) (EReal.coe_mul _ _).symm (EReal.coe_mul _ _).symm).trans (EReal.coe_add _ _).symm).trans ?_
  refine congrArg _ ?_
  unfold edge
  ring

theorem rEdges_at (b : ℕ) (hb : b < 257) : rEdges (ix1 ⟨b, hb⟩) = ((edge b : ℝ) : EReal) := by
  unfold rEdges
  by_cases h : b < 256
  · rw [concatenate_pair_apply_left (s₁ := S256) (s₂ := S1) 0 _ _ _ (ix1 ⟨b, hb⟩) rfl (ix1 (⟨b, h⟩ : Fin 256)) (fun a => match a with | 0 => rfl)]
    exact rLowEdges_at ⟨b, h⟩
  · obtain rfl : b = 256 := by omega
    rw [concatenate_pair_apply_right (s₁ := S256) (s₂ := S1) 0 _ _ _ (ix1 ⟨256, hb⟩) rfl rfl (ix1 (0 : Fin 1)) (fun a ha => match a with | 0 => absurd rfl ha) rfl,
      broadcastInDim_scalar_apply]
    show Ideal.ofBits .f32 0x3F800000#32 = _
    rw [word_one]
    refine congrArg _ ?_
    unfold edge
    norm_num

/-! ## The histogram -/

section

variable (x : FVec Ideal S32x3x262144 .f32)

/-- The pixels against every bin; a bin's lower and upper edge against every pixel; the last bin's mark. -/
def rPix : FVec Ideal S32x3x256x262144 .f32 :=
  broadcastInDim S32x3x256x262144 ![0, 1, 2, 3] bcast_S32x3x1x262144_S32x3x256x262144_0_1_2_3
    (broadcastInDim S32x3x1x262144 ![0, 1, 3] bcast_S32x3x262144_S32x3x1x262144_0_1_3 x)
def rLow : FVec Ideal S32x3x256x262144 .f32 :=
  broadcastInDim S32x3x256x262144 ![0, 1, 2, 3] bcast_S1x1x256x1_S32x3x256x262144_0_1_2_3
    (broadcastInDim S1x1x256x1 ![2, 3] bcast_S256x1_S1x1x256x1_2_3
      (broadcastInDim S256x1 ![0] bcast_S256_S256x1_0 (extractStridedSlice S256 ![0] rEdges slices_S257_S256_0)))
def rHigh : FVec Ideal S32x3x256x262144 .f32 :=
  broadcastInDim S32x3x256x262144 ![0, 1, 2, 3] bcast_S1x1x256x1_S32x3x256x262144_0_1_2_3
    (broadcastInDim S1x1x256x1 ![2, 3] bcast_S256x1_S1x1x256x1_2_3
      (broadcastInDim S256x1 ![0] bcast_S256_S256x1_0 (extractStridedSlice S256 ![1] rEdges slices_S257_S256_1)))
def rLast : IVec S32x3x256x262144 1 :=
  broadcastInDim S32x3x256x262144 ![0, 1, 2, 3] bcast_S1x1x256x1_S32x3x256x262144_0_1_2_3
    (broadcastInDim S1x1x256x1 ![2, 3] bcast_S256x1_S1x1x256x1_2_3
      (cmpi .eq (iotaInDim S256x1 32 0) (broadcastInDim S256x1 ![] bcast_S_S256x1 (constantI S_ 32 255#32))))

/-- Whether a pixel is in a bin, and the number of pixels in each bin. -/
def rIn : IVec S32x3x256x262144 1 :=
  andi (cmpf .oge (rPix x) rLow) (ori (cmpf .olt (rPix x) rHigh) (andi rLast (cmpf .oeq (rPix x) rHigh)))
def rHist : FVec Ideal S32x3x256 .f32 :=
  Host.reduceAdd (uitofp .f32 (rIn x)) (constant S_ .f32 0x00000000#32) reducesTo_S32x3x256x262144_S32x3x256_d3 h_S_

theorem rPix_at (r : Fin 32) (c : Fin 3) (b : Fin 256) (n : Fin 262144) : rPix x (ix4 r c b n) = x (ix3 r c n) := by
  unfold rPix
  rw [broadcastInDim_apply _ _ _ _ (ix4 r c (0 : Fin 1) n) fun a => match a with | 0 => rfl | 1 => rfl | 2 => rfl | 3 => rfl]
  exact broadcastInDim_apply _ _ _ _ _ fun a => match a with | 0 => rfl | 1 => rfl | 2 => rfl

/-- An entry for each bin, against every pixel. -/
theorem bcastEdge {α : Type} (y : S256x1.Idx → α) (r : Fin 32) (c : Fin 3) (b : Fin 256) (n : Fin 262144) :
    broadcastInDim S32x3x256x262144 ![0, 1, 2, 3] bcast_S1x1x256x1_S32x3x256x262144_0_1_2_3
      (broadcastInDim S1x1x256x1 ![2, 3] bcast_S256x1_S1x1x256x1_2_3 y) (ix4 r c b n) = y (ix2 b (0 : Fin 1)) := by
  rw [broadcastInDim_apply _ _ _ _ (ix4 (0 : Fin 1) (0 : Fin 1) b (0 : Fin 1)) fun a => match a with | 0 => rfl | 1 => rfl | 2 => rfl | 3 => rfl]
  exact broadcastInDim_apply _ _ _ _ _ fun a => match a with | 0 => rfl | 1 => rfl

theorem rLow_at (r : Fin 32) (c : Fin 3) (b : Fin 256) (n : Fin 262144) : rLow (ix4 r c b n) = ((edge b.val : ℝ) : EReal) := by
  unfold rLow
  rw [bcastEdge, broadcastInDim_apply _ _ _ _ (ix1 b) fun a => match a with | 0 => rfl,
    extractStridedSlice_apply _ _ _ _ (ix1 (⟨b.val, by omega⟩ : Fin 257)) fun a => match a with | 0 => (Nat.zero_add b.val).symm]
  exact rEdges_at b.val (by omega)

theorem rHigh_at (r : Fin 32) (c : Fin 3) (b : Fin 256) (n : Fin 262144) : rHigh (ix4 r c b n) = ((edge (b.val + 1) : ℝ) : EReal) := by
  unfold rHigh
  rw [bcastEdge, broadcastInDim_apply _ _ _ _ (ix1 b) fun a => match a with | 0 => rfl,
    extractStridedSlice_apply _ _ _ _ (ix1 (⟨b.val + 1, by omega⟩ : Fin 257)) fun a => match a with | 0 => Nat.add_comm b.val 1]
  exact rEdges_at (b.val + 1) (by omega)

theorem rLast_at (r : Fin 32) (c : Fin 3) (b : Fin 256) (n : Fin 262144) : rLast (ix4 r c b n) = BitVec.ofBool (decide (b.val = 255)) := by
  unfold rLast
  rw [bcastEdge]
  show BitVec.ofBool (BitVec.ofNat 32 b.val == 255#32) = _
  refine congrArg BitVec.ofBool ?_
  have hb := b.isLt
  rw [Bool.eq_iff_iff, beq_iff_eq, decide_eq_true_iff, ← BitVec.toNat_inj, BitVec.toNat_ofNat]
  show b.val % 2 ^ 32 = 255 ↔ _
  omega

open Classical in
/-- A bin of a channel of real pixels holds the number of the pixels between its edges. -/
theorem rHist_at (r : Fin 32) (c : Fin 3) (p : Fin 262144 → ℝ) (hp : ∀ n, x (ix3 r c n) = ((p n : ℝ) : EReal)) (b : Fin 256) :
    rHist x (ix3 r c b) = ∑ n : Fin 262144, if inBin (p n) b.val then (1 : EReal) else 0 := by
  unfold rHist
  rw [hsum4]
  refine Finset.sum_congr rfl fun n _ => ?_
  show ((((rIn x (ix4 r c b n)).toNat : ℕ) : ℝ) : EReal) = _
  have e : rIn x (ix4 r c b n) = BitVec.ofBool (decide (inBin (p n) b.val)) := by
    show FloatOps.cmpf (F := Ideal) (φ := .f32) .oge (rPix x (ix4 r c b n)) (rLow (ix4 r c b n))
      &&& (FloatOps.cmpf (F := Ideal) (φ := .f32) .olt (rPix x (ix4 r c b n)) (rHigh (ix4 r c b n))
        ||| (rLast (ix4 r c b n) &&& FloatOps.cmpf (F := Ideal) (φ := .f32) .oeq (rPix x (ix4 r c b n)) (rHigh (ix4 r c b n)))) = _
    rw [rPix_at, rLow_at, rHigh_at, rLast_at, hp n]
    show BitVec.ofBool (decide (((edge b.val : ℝ) : EReal) ≤ ((p n : ℝ) : EReal)))
      &&& (BitVec.ofBool (decide (((p n : ℝ) : EReal) < ((edge (b.val + 1) : ℝ) : EReal)))
        ||| (BitVec.ofBool (decide (b.val = 255)) &&& BitVec.ofBool (decide (((p n : ℝ) : EReal) = ((edge (b.val + 1) : ℝ) : EReal))))) = _
    simp only [EReal.coe_le_coe_iff, EReal.coe_lt_coe_iff, EReal.coe_eq_coe_iff, BitVec.ofBool_and_ofBool, BitVec.ofBool_or_ofBool,
      ← Bool.decide_and, ← Bool.decide_or]
    exact congrArg BitVec.ofBool (decide_eq_decide.2 Iff.rfl)
  rw [e]
  by_cases h : inBin (p n) b.val
  · rw [decide_eq_true h, if_pos h]; exact congrArg _ Nat.cast_one
  · rw [decide_eq_false h, if_neg h]; exact congrArg _ Nat.cast_zero

end

/-! ## The entropy and the score -/

/-- A bin's share of its channel's pixels. -/
def rShare (H : FVec Ideal S32x3x256 .f32) : FVec Ideal S32x3x256 .f32 :=
  Host.divf H (broadcastInDim S32x3x256 ![0, 1, 2] bcast_S32x3x1_S32x3x256_0_1_2
    (broadcastInDim S32x3x1 ![0, 1] bcast_S32x3_S32x3x1_0_1
      (Host.reduceAdd H (constant S_ .f32 0x00000000#32) reducesTo_S32x3x256_S32x3_d2 h_S_)))

/-- The mark of the shares above zero. -/
def rPos (H : FVec Ideal S32x3x256 .f32) : IVec S32x3x256 1 :=
  cmpf .ogt (rShare H) (broadcastInDim S32x3x256 ![] bcast_S_S32x3x256 (constant S_ .f32 0x00000000#32))

/-- The entropy of each channel. -/
def rEnt (H : FVec Ideal S32x3x256 .f32) : FVec Ideal S32x3 .f32 :=
  Host.negf (Host.reduceAdd
    (select (rPos H)
      (mulf (rShare H) (Host.log (select (rPos H) (rShare H)
        (broadcastInDim S32x3x256 ![] bcast_S_S32x3x256 (id (constant S_ .f32 0x3F800000#32))))))
      (broadcastInDim S32x3x256 ![] bcast_S_S32x3x256 (id (constant S_ .f32 0x00000000#32))))
    (constant S_ .f32 0x00000000#32) reducesTo_S32x3x256_S32x3_d2 h_S_)

/-- The mean over the channels of a table's magnitudes. -/
def rPart (y : FVec Ideal S32x3 .f32) : FVec Ideal S32 .f32 :=
  Host.divf (Host.reduceAdd (Host.absf y) (constant S_ .f32 0x00000000#32) reducesTo_S32x3_S32_d1 h_S_)
    (broadcastInDim S32 ![] bcast_S_S32 (constant S_ .f32 0x40400000#32))

/-- The four parts side by side, and their mean. -/
def rParts (me va sk ku : FVec Ideal S32x3 .f32) : FVec Ideal S32x4 .f32 :=
  concatenate S32x4 1
    [⟨S32x1, broadcastInDim S32x1 ![0] bcast_S32_S32x1_0 (rPart me)⟩,
     ⟨S32x1, broadcastInDim S32x1 ![0] bcast_S32_S32x1_0
      (rPart (subf va (broadcastInDim S32x3 ![] bcast_S_S32x3 (constant S_ .f32 0x3E4CCCCD#32))))⟩,
     ⟨S32x1, broadcastInDim S32x1 ![0] bcast_S32_S32x1_0 (rPart sk)⟩,
     ⟨S32x1, broadcastInDim S32x1 ![0] bcast_S32_S32x1_0
      (rPart (subf ku (broadcastInDim S32x3 ![] bcast_S_S32x3 (constant S_ .f32 0x40400000#32))))⟩]
    concatenates_S32x1_S32x1_S32x1_S32x1_S32x4_d1
def rScore (me va sk ku : FVec Ideal S32x3 .f32) : FVec Ideal S32 .f32 :=
  Host.divf (Host.reduceAdd (rParts me va sk ku) (constant S_ .f32 0x00000000#32) reducesTo_S32x4_S32_d1 h_S_)
    (broadcastInDim S32 ![] bcast_S_S32 (constant S_ .f32 0x40800000#32))

/-! ## The run's results -/

/-- The pixels, a row for each channel. -/
def rX (m : (ℓ : Loc nD τ sig) → Buf (Elt Ideal) ℓ) (c : Dev nD) : FVec Ideal S32x3x262144 .f32 :=
  shapeCast _ (m ((c.tc : Thread nD τ).loc main_arg0)) shapeCasts_S32x3x512x512_S32x3x262144

variable (m : (ℓ : Loc nD τ sig) → Buf (Elt Ideal) ℓ) (c : Dev nD)

theorem res18 : Value.res_main_v18 m c = rSkew (rX m c) := rfl
theorem res23 : Value.res_main_v23 m c = rKurt (rX m c) := rfl
theorem res65 : Value.res_main_v65 m c = rEnt (rHist (rX m c)) := rfl
theorem res93 : Value.res_main_v93 m c = rScore (rMean (rX m c)) (rVar (rX m c)) (rSkew (rX m c)) (rKurt (rX m c)) := rfl

end Cert.Proof.Hist

end
-- ==== Proof.RefScore.lean ====
/-
  The reference's entropy and score at an index: the kernel's formulas of the same counts and statistics.
-/
module

public import proofs.«01_k».proof.Proof.RefHist
public import proofs.«01_k».proof.Proof.KerEnt

@[expose] public section

noncomputable section

namespace Cert.Proof.Hist

open Cert.ReferenceIdeal Cert.ReferenceIdeal.Gen
open Idealize.ShloMosaic hiding ix1 ix2 ix3 ix4
open Idealize.ShloMosaic.ValueIdx
open scoped BigOperators

/-! ## The entropy -/

/-- A bin's share of a total is positive just when its count is: of a zero total, every count is zero, and zero over zero
    is not positive. -/
theorem share_pos {q s : ℝ} (hq : 0 ≤ q) (hs : q ≤ s) : (0 : EReal) < Ideal.div (q : EReal) (s : EReal) ↔ (0 : EReal) < (q : EReal) := by
  rcases eq_or_lt_of_le (hq.trans hs) with h | h
  · obtain rfl : s = 0 := h.symm
    obtain rfl : q = 0 := le_antisymm hs hq
    rw [EReal.coe_zero]
    unfold Ideal.div
    simp
  · rw [div_coe_coe _ h.ne']
    rw [EReal.coe_pos, EReal.coe_pos]
    exact ⟨fun k => by by_contra hn; rw [le_antisymm (not_lt.1 hn) hq, zero_div] at k; exact lt_irrefl _ k, fun k => div_pos k h⟩

open Classical in
/-- The reference's term of a bin: it asks whether the share is positive. -/
def rTerm (t v : EReal) : EReal := if 0 < Ideal.div v t then Ideal.div v t * Ideal.log (Ideal.div v t) else 0

theorem rTerm_eq {q s : ℝ} (hq : 0 ≤ q) (hs : q ≤ s) : rTerm (s : EReal) (q : EReal) = eTerm (s : EReal) (q : EReal) := by
  unfold rTerm eTerm
  exact if_congr (share_pos hq hs) rfl rfl

section

variable (H : FVec Ideal S32x3x256 .f32) (r : Fin 32) (c : Fin 3)

theorem rShare_at (b : Fin 256) : rShare H (ix3 r c b) = Ideal.div (H (ix3 r c b)) (∑ b : Fin 256, H (ix3 r c b)) := by
  unfold rShare
  rw [hostDivf_apply, bcastBin, bcastCol, hsumBin]

theorem rEnt_sum : rEnt H (ix2 r c) = -(∑ b : Fin 256, rTerm (∑ b : Fin 256, H (ix3 r c b)) (H (ix3 r c b))) := by
  unfold rEnt
  refine (congrArg (fun z : EReal => -z) (hsumBin _ r c)).trans (congrArg (fun z : EReal => -z) (Finset.sum_congr rfl fun b _ => ?_))
  have e : rPos H (ix3 r c b) = BitVec.ofBool (decide (0 < rShare H (ix3 r c b))) := by
    unfold rPos
    rw [cmpf_apply, broadcastInDim_scalar_apply, constant_apply, Ideal.ofBits_zero_f32]
    rfl
  rw [select_apply, mulf_apply, broadcastInDim_scalar_apply]
  show Scalar.select _ (rShare H (ix3 r c b) * Ideal.log (select (rPos H) (rShare H)
    (broadcastInDim S32x3x256 ![] bcast_S_S32x3x256 (id (constant (F := Ideal) S_ .f32 0x3F800000#32))) (ix3 r c b))) (Ideal.ofBits .f32 0x00000000#32) = _
  rw [select_apply, e, Ideal.ofBits_zero_f32]
  unfold rTerm
  rw [← rShare_at H r c b]
  by_cases h : 0 < rShare H (ix3 r c b)
  · rw [if_pos h, decide_eq_true h]
    exact (select_one _ _).trans (congrArg (fun z => rShare H (ix3 r c b) * Ideal.log z) (select_one _ _))
  · rw [if_neg h, decide_eq_false h]
    exact select_zero _ _

/-- The reference's entropy is the kernel's formula of the same counts. -/
theorem rEnt_at (q : Fin 256 → ℝ) (hq : ∀ b, 0 ≤ q b) (hH : ∀ b, H (ix3 r c b) = ((q b : ℝ) : EReal)) :
    rEnt H (ix2 r c) = eEnt fun b => H (ix3 r c b) := by
  have ht : ∑ b : Fin 256, H (ix3 r c b) = ((∑ b, q b : ℝ) : EReal) := by
    rw [← coe_sum_real]
    exact Finset.sum_congr rfl fun b _ => hH b
  rw [rEnt_sum]
  unfold eEnt
  rw [zero_sub, ht]
  refine congrArg (fun z : EReal => -z) (Finset.sum_congr rfl fun b _ => ?_)
  show rTerm _ (H (ix3 r c b)) = eTerm _ (H (ix3 r c b))
  rw [hH b]
  exact rTerm_eq (hq b) (Finset.single_le_sum (fun b _ => hq b) (Finset.mem_univ b))

end

/-! ## The score -/

section

variable (r : Fin 32)

theorem rPart_at (y : FVec Ideal S32x3 .f32) : rPart y (ix1 r) = ePart fun c => y (ix2 r c) := by
  unfold rPart
  rw [hostDivf_apply, hsumChan, broadcastInDim_scalar_apply, constant_apply]
  rfl

theorem bcastPart {α : Type} (v : S32.Idx → α) : broadcastInDim S32x1 ![0] bcast_S32_S32x1_0 v (ix2 r (0 : Fin 1)) = v (ix1 r) :=
  broadcastInDim_apply _ _ _ _ _ fun a => match a with | 0 => rfl

/-- Four columns side by side. -/
theorem cat4_at (u v w z : FVec Ideal S32x1 .f32) (k : Fin 4) :
    concatenate S32x4 1 [⟨S32x1, u⟩, ⟨S32x1, v⟩, ⟨S32x1, w⟩, ⟨S32x1, z⟩] concatenates_S32x1_S32x1_S32x1_S32x1_S32x4_d1 (ix2 r k)
      = (![u, v, w, z] : Fin 4 → FVec Ideal S32x1 .f32) k (ix2 r 0) := by
  fin_cases k
  · exact concatenate_apply_piece (t := S32x4) 1 _ _ (ix2 r (0 : Fin 4)) 0 (by simp) S32x1 u rfl rfl 0 (by rfl) (ix2 r (0 : Fin 1))
      (fun b hb => match b with | 0 => rfl | 1 => absurd rfl hb) rfl
  · exact concatenate_apply_piece (t := S32x4) 1 _ _ (ix2 r (1 : Fin 4)) 1 (by simp) S32x1 v rfl rfl 1 (by rfl) (ix2 r (0 : Fin 1))
      (fun b hb => match b with | 0 => rfl | 1 => absurd rfl hb) rfl
  · exact concatenate_apply_piece (t := S32x4) 1 _ _ (ix2 r (2 : Fin 4)) 2 (by simp) S32x1 w rfl rfl 2 (by rfl) (ix2 r (0 : Fin 1))
      (fun b hb => match b with | 0 => rfl | 1 => absurd rfl hb) rfl
  · exact concatenate_apply_piece (t := S32x4) 1 _ _ (ix2 r (3 : Fin 4)) 3 (by simp) S32x1 z rfl rfl 3 (by rfl) (ix2 r (0 : Fin 1))
      (fun b hb => match b with | 0 => rfl | 1 => absurd rfl hb) rfl

/-- A quarter of any extended real, divided or multiplied. -/
theorem div_four (a : EReal) : Ideal.div a (Ideal.ofBits .f32 0x40800000#32) = a * Ideal.ofBits .f32 0x3E800000#32 := by
  rw [word_four, word_quarter]
  unfold Ideal.div
  rw [if_neg (by exact_mod_cast (by norm_num : (4 : ℝ) ≠ 0)), ← EReal.coe_inv]
  norm_num

theorem rScore_at (me va sk ku : FVec Ideal S32x3 .f32) :
    rScore me va sk ku (ix1 r)
      = (ePart (fun c => me (ix2 r c)) + ePart (fun c => va (ix2 r c) - Ideal.ofBits .f32 0x3E4CCCCD#32)
          + ePart (fun c => sk (ix2 r c)) + ePart (fun c => ku (ix2 r c) - Ideal.ofBits .f32 0x40400000#32))
        * Ideal.ofBits .f32 0x3E800000#32 := by
  have e (w : BitVec 32) (y : FVec Ideal S32x3 .f32) :
      rPart (subf y (broadcastInDim S32x3 ![] bcast_S_S32x3 (constant S_ .f32 w))) (ix1 r) = ePart fun c => y (ix2 r c) - Ideal.ofBits .f32 w := by
    rw [rPart_at]
    rfl
  unfold rScore
  rw [hostDivf_apply, hsumFour, broadcastInDim_scalar_apply, constant_apply, div_four]
  refine congrArg (· * Ideal.ofBits .f32 0x3E800000#32) ?_
  rw [Fin.sum_univ_four]
  unfold rParts
  rw [cat4_at, cat4_at, cat4_at, cat4_at]
  refine congrArg₂ (· + ·) (congrArg₂ (· + ·) (congrArg₂ (· + ·) ?_ ?_) ?_) ?_
  · exact (bcastPart r _).trans (rPart_at r me)
  · exact (bcastPart r _).trans (e _ va)
  · exact (bcastPart r _).trans (rPart_at r sk)
  · exact (bcastPart r _).trans (e _ ku)

end

end Cert.Proof.Hist

end
-- ==== Proof.Value.lean ====
/-
  The kernel's six results are the reference's, of the same finite pixels.
-/
module

public import proofs.«01_k».proof.Pre_finite
public import proofs.«01_k».proof.Proof.Gen.Pre_finite
public import proofs.«01_k».proof.Proof.Results
public import proofs.«01_k».proof.Proof.RefScore
public import Idealize.ShloMosaic.Lib.ReduceAll

@[expose] public section

noncomputable section

namespace Cert.Proof.Hist

open Idealize.ShloMosaic hiding ix1 ix2 ix3 ix4
open Idealize.ShloMosaic.ValueIdx
open Idealize.ShloMosaic.TcCoe
open scoped BigOperators

/-! ## What finite means -/

/-- A value whose magnitude is under infinity is a real number. -/
theorem real_of_abs_lt (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  unfold Ideal.cmp at h
  refine EReal.coe_toReal ?_ ?_ <;> rintro rfl <;> simp at h

instance scalarIdx : Subsingleton Cert.Pre_finite.S_.Idx := ⟨fun a b => funext fun k => k.elim0⟩

/-- The precondition makes every pixel a real number. -/
theorem pixel_real (A : Cert.Pre_finite.S32x3x512x512.Idx → EReal) (h : Cert.Pre_finite.fn (F := Ideal) A = fun _ => 1#1) (i : Cert.Pre_finite.S32x3x512x512.Idx) :
    (((A i).toReal : ℝ) : EReal) = A i := by
  have h0 := congrFun h fun k => k.elim0
  unfold Cert.Pre_finite.fn at h0
  exact real_of_abs_lt (A i) (Host.reduce_andi_all _ _ _ _ _ h0 i)

/-! ## The statistics -/

theorem ext1 {f g : Cert.KernelIdeal.S32.Idx → EReal} (h : ∀ r : Fin 32, f (ix1 r) = g (ix1 r)) : f = g :=
  funext fun i => (ValueIdx.eq_ix1 i) ▸ h (i 0)

theorem ext2 {f g : Cert.KernelIdeal.S32x3.Idx → EReal} (h : ∀ (r : Fin 32) (c : Fin 3), f (ix2 r c) = g (ix2 r c)) : f = g :=
  funext fun i => (ValueIdx.eq_ix2 i) ▸ h (i 0) (i 1)

section

variable (A : Cert.KernelIdeal.S32x3x512x512.Idx → EReal) (x : FVec Ideal Cert.ReferenceIdeal.S32x3x262144 .f32)
variable (hx : ∀ r c n, x (ix3 r c n) = A (ix4 r c (rowOf n) (colOf n))) (hA : ∀ i, (((A i).toReal : ℝ) : EReal) = A i)

/-- The real pixels of a channel. -/
def realPix (r : Fin 32) (c : Fin 3) (n : Fin 262144) : ℝ := (A (ix4 r c (rowOf n) (colOf n))).toReal

include hA in
theorem pix_coe (r : Fin 32) (c : Fin 3) (n : Fin 262144) : A (ix4 r c (rowOf n) (colOf n)) = ((realPix A r c n : ℝ) : EReal) := (hA _).symm

include hx hA in
theorem row_coe (r : Fin 32) (c : Fin 3) (n : Fin 262144) : x (ix3 r c n) = ((realPix A r c n : ℝ) : EReal) := (hx r c n).trans (pix_coe A hA r c n)

/-- A moment of finite pixels is a real sum. -/
theorem mom_coe (r : Fin 32) (c : Fin 3) (k : Fin 4) (f : ℝ → ℝ) (hf : ∀ y : ℝ, epow k (y : EReal) = ((f y : ℝ) : EReal))
    (hA : ∀ i, (((A i).toReal : ℝ) : EReal) = A i) : momBuf A (ix3 r c k) = ((∑ n, f (realPix A r c n) : ℝ) : EReal) := by
  rw [← coe_sum_real]
  exact Finset.sum_congr rfl fun n _ => (congrArg (epow k) (pix_coe A hA r c n)).trans (hf _)

include hA

theorem mom0 (r : Fin 32) (c : Fin 3) : momBuf A (ix3 r c 0) = ((pow1 (realPix A r c) : ℝ) : EReal) :=
  mom_coe A r c 0 (fun y => y) (fun _ => rfl) hA

theorem mom1 (r : Fin 32) (c : Fin 3) : momBuf A (ix3 r c 1) = ((pow2 (realPix A r c) : ℝ) : EReal) :=
  mom_coe A r c 1 (fun y => y * y) (fun y => (EReal.coe_mul y y).symm) hA

theorem mom2 (r : Fin 32) (c : Fin 3) : momBuf A (ix3 r c 2) = ((pow3 (realPix A r c) : ℝ) : EReal) :=
  mom_coe A r c 2 (fun y => y * y * y) (fun y => by rw [EReal.coe_mul, EReal.coe_mul]; rfl) hA

theorem mom3 (r : Fin 32) (c : Fin 3) : momBuf A (ix3 r c 3) = ((pow4 (realPix A r c) : ℝ) : EReal) :=
  mom_coe A r c 3 (fun y => y * y * (y * y)) (fun y => by rw [EReal.coe_mul, EReal.coe_mul]; rfl) hA

include hx

theorem mean_eq : outMean (F := Ideal) (momBuf A) = rMean x := by
  refine ext2 fun r c => ?_
  rw [outMean_at, mom0 A hA, eMean_coe, rMean_at x _ _ _ (row_coe A x hx hA _ _)]
  rfl

theorem var_eq : outVar (F := Ideal) (momBuf A) = rVar x := by
  refine ext2 fun r c => ?_
  rw [outVar_at, mom0 A hA, mom1 A hA, eVar_coe, pVar_eq, rVar_at x _ _ _ (row_coe A x hx hA _ _)]

theorem skew_eq : outSkew (F := Ideal) (momBuf A) = rSkew x := by
  refine ext2 fun r c => ?_
  rw [outSkew_at, mom0 A hA, mom1 A hA, mom2 A hA,
    eSkew_coe _ _ _ (by rw [pVar_eq]; exact qVar_pos _ eps_pos), pSkew_eq _ eps_pos, rSkew_at x _ _ _ (row_coe A x hx hA _ _)]

theorem kurt_eq : outKurt (F := Ideal) (momBuf A) = rKurt x := by
  refine ext2 fun r c => ?_
  rw [outKurt_at, mom0 A hA, mom1 A hA, mom2 A hA, mom3 A hA,
    eKurt_coe _ _ _ _ (by rw [pVar_eq]; exact qVar_pos _ eps_pos), pKurt_eq _ eps_pos, rKurt_at x _ _ _ (row_coe A x hx hA _ _)]

theorem score_eq : outScore (F := Ideal) (momBuf A) = rScore (rMean x) (rVar x) (rSkew x) (rKurt x) := by
  refine ext1 fun r => ?_
  rw [outScore_at, rScore_at, mean_eq A x hx hA, var_eq A x hx hA, skew_eq A x hx hA, kurt_eq A x hx hA]

end

/-! ## The histogram -/

section

variable (m : (ℓ : Loc Cert.KernelIdeal.nD Cert.KernelIdeal.τ Cert.KernelIdeal.sig) → Buf (Elt Ideal) ℓ) (d : Dev Cert.KernelIdeal.nD)
variable (hA : ∀ i, (((pixels m d i).toReal : ℝ) : EReal) = pixels m d i)

include hA

open Classical in
/-- The channel's counters, lanes added and the overflow counter folded in, are the counts of the channel's bins. -/
theorem chan_eq (r : Fin 32) (c : Fin 3) (b : Fin 256) :
    chanCount (counters m d) r c b = ∑ n : Fin 262144, if inBin (realPix (pixels m d) r c n) b.val then (1 : EReal) else 0 := by
  unfold chanCount
  by_cases h : b.val < 255
  · rw [if_pos h, lanes_at m d r c b.val (by omega)]
    exact Finset.sum_congr rfl fun n _ => (congrArg (fun v => hit v b.val) (pix_coe (pixels m d) hA r c n)).trans (hit_low _ _ h)
  · have hb := b.isLt
    rw [if_neg h, lanes_at m d r c 255 (by omega), lanes_at m d r c 256 (by omega), ← Finset.sum_add_distrib, show b.val = 255 by omega]
    exact Finset.sum_congr rfl fun n _ =>
      (congrArg (fun v => hit v 255 + hit v 256) (pix_coe (pixels m d) hA r c n)).trans (hit_top _)

variable (x : FVec Ideal Cert.ReferenceIdeal.S32x3x262144 .f32) (hx : ∀ r c n, x (ix3 r c n) = pixels m d (ix4 r c (rowOf n) (colOf n)))

include hx

open Classical in
theorem ent_eq : outEnt (counters m d) = rEnt (rHist x) := by
  refine ext2 fun r c => ?_
  rw [outEnt_at]
  have e (b : Fin 256) := rHist_at x r c (realPix (pixels m d) r c) (row_coe (pixels m d) x hx hA _ _) b
  refine Eq.trans ?_ (rEnt_at (rHist x) r c (fun b => ∑ n : Fin 262144, if inBin (realPix (pixels m d) r c n) b.val then (1 : ℝ) else 0)
    (fun b => Finset.sum_nonneg fun n _ => by split <;> norm_num) fun b => ?_).symm
  · exact congrArg eEnt (funext fun b => (chan_eq m d hA _ _ b).trans (e b).symm)
  · rw [e b, ← coe_sum_real]
    exact Finset.sum_congr rfl fun n _ => by split <;> simp

end

/-! ## The runs -/

/-- The reference's rows are the pixels, channel by channel. -/
theorem rX_at (m' : (ℓ : Loc Cert.ReferenceIdeal.nD Cert.ReferenceIdeal.τ Cert.ReferenceIdeal.sig) → Buf (Elt Ideal) ℓ) (d : Dev Cert.ReferenceIdeal.nD)
    (A : Cert.KernelIdeal.S32x3x512x512.Idx → EReal) (h : m' ((d.tc : Thread Cert.ReferenceIdeal.nD Cert.ReferenceIdeal.τ).loc Cert.ReferenceIdeal.main_arg0) = A)
    (r : Fin 32) (c : Fin 3) (n : Fin 262144) : rX m' d (ix3 r c n) = A (ix4 r c (rowOf n) (colOf n)) := by
  have hr := r.isLt
  have hc := c.isLt
  have hn := n.isLt
  subst h
  unfold rX
  refine congrArg (m' _) (Cert.KernelIdeal.S32x3x512x512.rowMajor.injective (Fin.ext ?_))
  rw [Shape.rowMajor_reshapeEquiv]
  refine (Shape.rowMajor_val_three (d := ![32, 3, 262144]) _).trans ((Shape.rowMajor_val_four (d := ![32, 3, 512, 512]) _).trans ?_).symm
  show ((r.val * 3 + c.val) * 512 + n.val / 512) * 512 + n.val % 512 = (r.val * 3 + c.val) * 262144 + n.val
  omega

end Cert.Proof.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Main
public import proofs.«01_k».proof.Proof.Value
public import Idealize.ShloMosaic.Adequacy
public import Idealize.ShloMosaic.Init

@[expose] public section

noncomputable section

namespace Cert.Proof

open Idealize.ShloMosaic Idealize.SL.Sem Cert.Kernel

/-- The argument stays, and every semaphore ends at zero; at any floats. -/
theorem run_frame {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c _ Hist.arg_mem).trans (Hist.W5_arg m c), h.2⟩) (Hist.run_main (F := F) m ρ)

theorem kernelIdeal_frame : Cert.quiescent_KernelIdeal := fun m ρ _ => run_frame (F := Ideal) m ρ

/-- The kernel and its idealization have one text, so one table of bodies. -/
theorem bodies_eq : (Cert.Kernel.defs₀ (F := Bits) : Defs Cert.KernelIdeal.nD Cert.KernelIdeal.τ Cert.KernelIdeal.sig (Elt Bits) Cert.KernelIdeal.Λ₀)
    = Cert.KernelIdeal.defs₀ := by
  funext pr ℓ a
  match pr, ℓ, a with
  | .scVector c s, 0, a => rfl
  | .scVector c s, 1, a => rfl
  | .scVector c s, 2, a => rfl
  | .scScalar c, 0, a => rfl
  | .scScalar c, 1, a => rfl
  | .scScalar c, 2, a => rfl
  | .tc, 0, a => rfl
  | .tc, 1, a => rfl
  | .tc, 2, a => rfl

theorem tables_eq : (Cert.Kernel.defs (F := Bits) : Defs Cert.KernelIdeal.nD Cert.KernelIdeal.τ Cert.KernelIdeal.sig (Elt Bits)
    (SparseCore.Sig (Pipeline.Sig Cert.KernelIdeal.Λ₀ (Fin 2) fun p => (Cert.KernelIdeal.pcfgs (F := Bits) p).Adm) 1)) = Cert.KernelIdeal.defs :=
  congrArg (fun t => Cert.KernelIdeal.sc.defs (Pipeline.defs Cert.KernelIdeal.pcfgs t)) bodies_eq

theorem kernel_frame : Cert.quiescent_Kernel := fun m ρ _ => by
  have h := run_frame (F := Bits) m ρ
  rw [← tables_eq] at h
  exact h

theorem referenceIdeal_frame : Cert.quiescent_ReferenceIdeal := fun m ρ _ =>
  (θ_run Cert.ReferenceIdeal.defs _ _).mono (fun r h => ⟨fun c => (h c).2.2.2.2.2.2, sem_eq_zero_of_no_sems (by decide) r.2⟩) (Cert.ReferenceIdeal.Value.run (F := Ideal) m ρ)

/-! ## The value claim -/

section

variable (m : (ℓ : Loc Cert.KernelIdeal.nD Cert.KernelIdeal.τ Cert.KernelIdeal.sig) → Buf (Elt Ideal) ℓ)

/-- What the kernel's run leaves: the six results, as functions of the pixels, and the argument. -/
theorem kernel_results (ρ : Dev Cert.KernelIdeal.nD → PrngReg) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v4_0) = Hist.outScore (F := Ideal) (Hist.momBuf (Hist.pixels m c))
      ∧ r.2.mem ((c.tc : Thread Cert.KernelIdeal.nD Cert.KernelIdeal.τ).loc Cert.KernelIdeal.main_v4_1) = Hist.outMean (F := Ideal) (Hist.momBuf (Hist.pixels m c))
      ∧ r.2.mem ((c.tc : Thread Cert.KernelIdeal.nD Cert.KernelIdeal.τ).loc Cert.KernelIdeal.main_v4_2) = Hist.outVar (F := Ideal) (Hist.momBuf (Hist.pixels m c))
      ∧ r.2.mem ((c.tc : Thread Cert.KernelIdeal.nD Cert.KernelIdeal.τ).loc Cert.KernelIdeal.main_v4_3) = Hist.outSkew (F := Ideal) (Hist.momBuf (Hist.pixels m c))
      ∧ r.2.mem ((c.tc : Thread Cert.KernelIdeal.nD Cert.KernelIdeal.τ).loc Cert.KernelIdeal.main_v4_4) = Hist.outKurt (F := Ideal) (Hist.momBuf (Hist.pixels m c))
      ∧ r.2.mem ((c.tc : Thread Cert.KernelIdeal.nD Cert.KernelIdeal.τ).loc Cert.KernelIdeal.main_v4_5) = Hist.outEnt (F := Ideal) (Hist.counters m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run Cert.KernelIdeal.defs _ _).mono (fun _ h c =>
    ⟨(h.1 c _ (Hist.arr_mem 2)).trans ((Hist.W5_out m c 2).trans ((Hist.arr2_2 _ c).trans (congrArg Hist.outScore (Hist.moms_eq m c)))),
      (h.1 c _ (Hist.arr_mem 3)).trans ((Hist.W5_out m c 3).trans ((Hist.arr2_3 _ c).trans (congrArg Hist.outMean (Hist.moms_eq m c)))),
      (h.1 c _ (Hist.arr_mem 4)).trans ((Hist.W5_out m c 4).trans ((Hist.arr2_4 _ c).trans (congrArg Hist.outVar (Hist.moms_eq m c)))),
      (h.1 c _ (Hist.arr_mem 5)).trans ((Hist.W5_out m c 5).trans ((Hist.arr2_5 _ c).trans (congrArg Hist.outSkew (Hist.moms_eq m c)))),
      (h.1 c _ (Hist.arr_mem 6)).trans ((Hist.W5_out m c 6).trans ((Hist.arr2_6 _ c).trans (congrArg Hist.outKurt (Hist.moms_eq m c)))),
      (h.1 c _ (Hist.arr_mem 7)).trans ((Hist.W5_out m c 7).trans (Hist.arr2_7 _ c)),
      (h.1 c _ Hist.arg_mem).trans (Hist.W5_arg m c)⟩) (Hist.run_main (F := Ideal) m ρ)

end

theorem value : Cert.algebraic_KernelIdeal_ReferenceIdeal_pre_finite := fun m g m' g' hpre harg => by
  have hA (c : Dev Cert.KernelIdeal.nD) := Hist.pixel_real (Hist.pixels m c) (hpre c)
  have hx (c : Dev Cert.KernelIdeal.nD) := Hist.rX_at m' c (Hist.pixels m c) (harg c)
  refine ⟨_, _, _, _, _, _, kernel_results m g, (θ_run Cert.ReferenceIdeal.defs _ _).mono (fun _ h c => ?_) (Cert.ReferenceIdeal.Value.run (F := Ideal) m' g')⟩
  obtain ⟨h0, h1, h2, h3, h4, h5, h6⟩ := h c
  exact ⟨h0.trans ((Hist.res93 m' c).trans (Hist.score_eq _ _ (hx c) (hA c)).symm),
    h1.trans (Hist.mean_eq _ _ (hx c) (hA c)).symm,
    h2.trans (Hist.var_eq _ _ (hx c) (hA c)).symm,
    h3.trans ((Hist.res18 m' c).trans (Hist.skew_eq _ _ (hx c) (hA c)).symm),
    h4.trans ((Hist.res23 m' c).trans (Hist.kurt_eq _ _ (hx c) (hA c)).symm),
    h5.trans ((Hist.res65 m' c).trans (Hist.ent_eq m c (hA c) _ (hx c)).symm), h6⟩

theorem claim : Cert.Claim := ⟨Cert.Kernel.Gen.facts, Cert.KernelIdeal.Gen.facts, Cert.ReferenceIdeal.Gen.facts, Cert.Pre_finite.Gen.facts,
  kernel_frame, kernelIdeal_frame, fun m g _ => kernelIdeal_frame m g trivial, referenceIdeal_frame, fun m g _ => referenceIdeal_frame m g trivial, trivial, value⟩

end Cert.Proof

end
